-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Scales (m : (ℓ : Loc Cert.Scales.nD Cert.Scales.τ Cert.Scales.sig) → Buf (Elt Bits) ℓ) : Prop :=
  True

def Pre_ScalesIdeal (m : (ℓ : Loc Cert.ScalesIdeal.nD Cert.ScalesIdeal.τ Cert.ScalesIdeal.sig) → Buf (Elt Ideal) ℓ) : Prop :=
  True

def Pre_ScalesReferenceIdeal (m : (ℓ : Loc Cert.ScalesReferenceIdeal.nD Cert.ScalesReferenceIdeal.τ Cert.ScalesReferenceIdeal.sig) → Buf (Elt Ideal) ℓ) : Prop :=
  True

def Pre_HQuant (m : (ℓ : Loc Cert.HQuant.nD Cert.HQuant.τ Cert.HQuant.sig) → Buf (Elt Bits) ℓ) : Prop :=
  True

def Pre_HQuantIdeal (m : (ℓ : Loc Cert.HQuantIdeal.nD Cert.HQuantIdeal.τ Cert.HQuantIdeal.sig) → Buf (Elt Ideal) ℓ) : Prop :=
  True

def Pre_HQuantIdeal_top_not_negative [hPre_top_not_negative : Cert.Pre_top_not_negative.Facts] (m : (ℓ : Loc Cert.HQuantIdeal.nD Cert.HQuantIdeal.τ Cert.HQuantIdeal.sig) → Buf (Elt Ideal) ℓ) : Prop :=
  ∀ c : Dev Cert.HQuantIdeal.nD,
    (Cert.Pre_top_not_negative.fn (F := Ideal) (m ((c.tc : Thread Cert.HQuantIdeal.nD Cert.HQuantIdeal.τ).loc Cert.HQuantIdeal.main_arg0)) (m ((c.tc : Thread Cert.HQuantIdeal.nD Cert.HQuantIdeal.τ).loc Cert.HQuantIdeal.main_arg1))) = (fun _ => 1#1)

def Pre_HQuantReferenceIdeal (m : (ℓ : Loc Cert.HQuantReferenceIdeal.nD Cert.HQuantReferenceIdeal.τ Cert.HQuantReferenceIdeal.sig) → Buf (Elt Ideal) ℓ) : Prop :=
  True

def Pre_HQuantReferenceIdeal_top_not_negative [hPre_top_not_negative : Cert.Pre_top_not_negative.Facts] (m : (ℓ : Loc Cert.HQuantReferenceIdeal.nD Cert.HQuantReferenceIdeal.τ Cert.HQuantReferenceIdeal.sig) → Buf (Elt Ideal) ℓ) : Prop :=
  ∀ c : Dev Cert.HQuantReferenceIdeal.nD,
    (Cert.Pre_top_not_negative.fn (F := Ideal) (m ((c.tc : Thread Cert.HQuantReferenceIdeal.nD Cert.HQuantReferenceIdeal.τ).loc Cert.HQuantReferenceIdeal.main_arg0)) (m ((c.tc : Thread Cert.HQuantReferenceIdeal.nD Cert.HQuantReferenceIdeal.τ).loc Cert.HQuantReferenceIdeal.main_arg1))) = (fun _ => 1#1)

def Pre_WQuant (m : (ℓ : Loc Cert.WQuant.nD Cert.WQuant.τ Cert.WQuant.sig) → Buf (Elt Bits) ℓ) : Prop :=
  True

def Pre_WQuantIdeal (m : (ℓ : Loc Cert.WQuantIdeal.nD Cert.WQuantIdeal.τ Cert.WQuantIdeal.sig) → Buf (Elt Ideal) ℓ) : Prop :=
  True

def Pre_WQuantIdeal_scale_not_negative [hPre_scale_not_negative : Cert.Pre_scale_not_negative.Facts] (m : (ℓ : Loc Cert.WQuantIdeal.nD Cert.WQuantIdeal.τ Cert.WQuantIdeal.sig) → Buf (Elt Ideal) ℓ) : Prop :=
  ∀ c : Dev Cert.WQuantIdeal.nD,
    (Cert.Pre_scale_not_negative.fn (F := Ideal) (m ((c.tc : Thread Cert.WQuantIdeal.nD Cert.WQuantIdeal.τ).loc Cert.WQuantIdeal.main_arg0)) (m ((c.tc : Thread Cert.WQuantIdeal.nD Cert.WQuantIdeal.τ).loc Cert.WQuantIdeal.main_arg1)) (m ((c.tc : Thread Cert.WQuantIdeal.nD Cert.WQuantIdeal.τ).loc Cert.WQuantIdeal.main_arg2)) (m ((c.tc : Thread Cert.WQuantIdeal.nD Cert.WQuantIdeal.τ).loc Cert.WQuantIdeal.main_arg3))) = (fun _ => 1#1)

def Pre_WQuantReferenceIdeal (m : (ℓ : Loc Cert.WQuantReferenceIdeal.nD Cert.WQuantReferenceIdeal.τ Cert.WQuantReferenceIdeal.sig) → Buf (Elt Ideal) ℓ) : Prop :=
  True

def Pre_WQuantReferenceIdeal_scale_not_negative [hPre_scale_not_negative : Cert.Pre_scale_not_negative.Facts] (m : (ℓ : Loc Cert.WQuantReferenceIdeal.nD Cert.WQuantReferenceIdeal.τ Cert.WQuantReferenceIdeal.sig) → Buf (Elt Ideal) ℓ) : Prop :=
  ∀ c : Dev Cert.WQuantReferenceIdeal.nD,
    (Cert.Pre_scale_not_negative.fn (F := Ideal) (m ((c.tc : Thread Cert.WQuantReferenceIdeal.nD Cert.WQuantReferenceIdeal.τ).loc Cert.WQuantReferenceIdeal.main_arg0)) (m ((c.tc : Thread Cert.WQuantReferenceIdeal.nD Cert.WQuantReferenceIdeal.τ).loc Cert.WQuantReferenceIdeal.main_arg1)) (m ((c.tc : Thread Cert.WQuantReferenceIdeal.nD Cert.WQuantReferenceIdeal.τ).loc Cert.WQuantReferenceIdeal.main_arg2)) (m ((c.tc : Thread Cert.WQuantReferenceIdeal.nD Cert.WQuantReferenceIdeal.τ).loc Cert.WQuantReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Scales [hScales : Cert.Scales.Facts] : Prop :=
  ∀ (m : (ℓ : Loc Cert.Scales.nD Cert.Scales.τ Cert.Scales.sig) → Buf (Elt Bits) ℓ) (g : Dev Cert.Scales.nD → PrngReg), Pre_Scales m →
    θ_run (Cert.Scales.defs (F := Bits)) (onTc (τ := Cert.Scales.τ) (Cert.Scales.main (F := Bits))) ⟨m, fun _ => 0, g⟩ (fun r => (∀ c : Dev Cert.Scales.nD,
      r.2.mem ((c.tc : Thread Cert.Scales.nD Cert.Scales.τ).loc Cert.Scales.main_arg0) = m ((c.tc : Thread Cert.Scales.nD Cert.Scales.τ).loc Cert.Scales.main_arg0))
      ∧ r.2.sem = fun _ => 0)

def quiescent_ScalesIdeal [hScalesIdeal : Cert.ScalesIdeal.Facts] : Prop :=
  ∀ (m : (ℓ : Loc Cert.ScalesIdeal.nD Cert.ScalesIdeal.τ Cert.ScalesIdeal.sig) → Buf (Elt Ideal) ℓ) (g : Dev Cert.ScalesIdeal.nD → PrngReg), Pre_ScalesIdeal m →
    θ_run (Cert.ScalesIdeal.defs (F := Ideal)) (onTc (τ := Cert.ScalesIdeal.τ) (Cert.ScalesIdeal.main (F := Ideal))) ⟨m, fun _ => 0, g⟩ (fun r => (∀ c : Dev Cert.ScalesIdeal.nD,
      r.2.mem ((c.tc : Thread Cert.ScalesIdeal.nD Cert.ScalesIdeal.τ).loc Cert.ScalesIdeal.main_arg0) = m ((c.tc : Thread Cert.ScalesIdeal.nD Cert.ScalesIdeal.τ).loc Cert.ScalesIdeal.main_arg0))
      ∧ r.2.sem = fun _ => 0)

def quiescent_ScalesReferenceIdeal [hScalesReferenceIdeal : Cert.ScalesReferenceIdeal.Facts] : Prop :=
  ∀ (m : (ℓ : Loc Cert.ScalesReferenceIdeal.nD Cert.ScalesReferenceIdeal.τ Cert.ScalesReferenceIdeal.sig) → Buf (Elt Ideal) ℓ) (g : Dev Cert.ScalesReferenceIdeal.nD → PrngReg), Pre_ScalesReferenceIdeal m →
    θ_run (Cert.ScalesReferenceIdeal.defs (F := Ideal)) (onTc (τ := Cert.ScalesReferenceIdeal.τ) (Cert.ScalesReferenceIdeal.main (F := Ideal))) ⟨m, fun _ => 0, g⟩ (fun r => (∀ c : Dev Cert.ScalesReferenceIdeal.nD,
      r.2.mem ((c.tc : Thread Cert.ScalesReferenceIdeal.nD Cert.ScalesReferenceIdeal.τ).loc Cert.ScalesReferenceIdeal.main_arg0) = m ((c.tc : Thread Cert.ScalesReferenceIdeal.nD Cert.ScalesReferenceIdeal.τ).loc Cert.ScalesReferenceIdeal.main_arg0))
      ∧ r.2.sem = fun _ => 0)

def quiescent_HQuant [hHQuant : Cert.HQuant.Facts] : Prop :=
  ∀ (m : (ℓ : Loc Cert.HQuant.nD Cert.HQuant.τ Cert.HQuant.sig) → Buf (Elt Bits) ℓ) (g : Dev Cert.HQuant.nD → PrngReg), Pre_HQuant m →
    θ_run (Cert.HQuant.defs (F := Bits)) (onTc (τ := Cert.HQuant.τ) (Cert.HQuant.main (F := Bits))) ⟨m, fun _ => 0, g⟩ (fun r => (∀ c : Dev Cert.HQuant.nD,
      r.2.mem ((c.tc : Thread Cert.HQuant.nD Cert.HQuant.τ).loc Cert.HQuant.main_arg0) = m ((c.tc : Thread Cert.HQuant.nD Cert.HQuant.τ).loc Cert.HQuant.main_arg0)
      ∧ r.2.mem ((c.tc : Thread Cert.HQuant.nD Cert.HQuant.τ).loc Cert.HQuant.main_arg1) = m ((c.tc : Thread Cert.HQuant.nD Cert.HQuant.τ).loc Cert.HQuant.main_arg1))
      ∧ r.2.sem = fun _ => 0)

def quiescent_HQuantIdeal [hHQuantIdeal : Cert.HQuantIdeal.Facts] : Prop :=
  ∀ (m : (ℓ : Loc Cert.HQuantIdeal.nD Cert.HQuantIdeal.τ Cert.HQuantIdeal.sig) → Buf (Elt Ideal) ℓ) (g : Dev Cert.HQuantIdeal.nD → PrngReg), Pre_HQuantIdeal m →
    θ_run (Cert.HQuantIdeal.defs (F := Ideal)) (onTc (τ := Cert.HQuantIdeal.τ) (Cert.HQuantIdeal.main (F := Ideal))) ⟨m, fun _ => 0, g⟩ (fun r => (∀ c : Dev Cert.HQuantIdeal.nD,
      r.2.mem ((c.tc : Thread Cert.HQuantIdeal.nD Cert.HQuantIdeal.τ).loc Cert.HQuantIdeal.main_arg0) = m ((c.tc : Thread Cert.HQuantIdeal.nD Cert.HQuantIdeal.τ).loc Cert.HQuantIdeal.main_arg0)
      ∧ r.2.mem ((c.tc : Thread Cert.HQuantIdeal.nD Cert.HQuantIdeal.τ).loc Cert.HQuantIdeal.main_arg1) = m ((c.tc : Thread Cert.HQuantIdeal.nD Cert.HQuantIdeal.τ).loc Cert.HQuantIdeal.main_arg1))
      ∧ r.2.sem = fun _ => 0)

def quiescent_HQuantIdeal_pre_top_not_negative [hHQuantIdeal : Cert.HQuantIdeal.Facts] [hPre_top_not_negative : Cert.Pre_top_not_negative.Facts] : Prop :=
  ∀ (m : (ℓ : Loc Cert.HQuantIdeal.nD Cert.HQuantIdeal.τ Cert.HQuantIdeal.sig) → Buf (Elt Ideal) ℓ) (g : Dev Cert.HQuantIdeal.nD → PrngReg), Pre_HQuantIdeal_top_not_negative m →
    θ_run (Cert.HQuantIdeal.defs (F := Ideal)) (onTc (τ := Cert.HQuantIdeal.τ) (Cert.HQuantIdeal.main (F := Ideal))) ⟨m, fun _ => 0, g⟩ (fun r => (∀ c : Dev Cert.HQuantIdeal.nD,
      r.2.mem ((c.tc : Thread Cert.HQuantIdeal.nD Cert.HQuantIdeal.τ).loc Cert.HQuantIdeal.main_arg0) = m ((c.tc : Thread Cert.HQuantIdeal.nD Cert.HQuantIdeal.τ).loc Cert.HQuantIdeal.main_arg0)
      ∧ r.2.mem ((c.tc : Thread Cert.HQuantIdeal.nD Cert.HQuantIdeal.τ).loc Cert.HQuantIdeal.main_arg1) = m ((c.tc : Thread Cert.HQuantIdeal.nD Cert.HQuantIdeal.τ).loc Cert.HQuantIdeal.main_arg1))
      ∧ r.2.sem = fun _ => 0)

def quiescent_HQuantReferenceIdeal [hHQuantReferenceIdeal : Cert.HQuantReferenceIdeal.Facts] : Prop :=
  ∀ (m : (ℓ : Loc Cert.HQuantReferenceIdeal.nD Cert.HQuantReferenceIdeal.τ Cert.HQuantReferenceIdeal.sig) → Buf (Elt Ideal) ℓ) (g : Dev Cert.HQuantReferenceIdeal.nD → PrngReg), Pre_HQuantReferenceIdeal m →
    θ_run (Cert.HQuantReferenceIdeal.defs (F := Ideal)) (onTc (τ := Cert.HQuantReferenceIdeal.τ) (Cert.HQuantReferenceIdeal.main (F := Ideal))) ⟨m, fun _ => 0, g⟩ (fun r => (∀ c : Dev Cert.HQuantReferenceIdeal.nD,
      r.2.mem ((c.tc : Thread Cert.HQuantReferenceIdeal.nD Cert.HQuantReferenceIdeal.τ).loc Cert.HQuantReferenceIdeal.main_arg0) = m ((c.tc : Thread Cert.HQuantReferenceIdeal.nD Cert.HQuantReferenceIdeal.τ).loc Cert.HQuantReferenceIdeal.main_arg0)
      ∧ r.2.mem ((c.tc : Thread Cert.HQuantReferenceIdeal.nD Cert.HQuantReferenceIdeal.τ).loc Cert.HQuantReferenceIdeal.main_arg1) = m ((c.tc : Thread Cert.HQuantReferenceIdeal.nD Cert.HQuantReferenceIdeal.τ).loc Cert.HQuantReferenceIdeal.main_arg1))
      ∧ r.2.sem = fun _ => 0)

def quiescent_HQuantReferenceIdeal_pre_top_not_negative [hHQuantReferenceIdeal : Cert.HQuantReferenceIdeal.Facts] [hPre_top_not_negative : Cert.Pre_top_not_negative.Facts] : Prop :=
  ∀ (m : (ℓ : Loc Cert.HQuantReferenceIdeal.nD Cert.HQuantReferenceIdeal.τ Cert.HQuantReferenceIdeal.sig) → Buf (Elt Ideal) ℓ) (g : Dev Cert.HQuantReferenceIdeal.nD → PrngReg), Pre_HQuantReferenceIdeal_top_not_negative m →
    θ_run (Cert.HQuantReferenceIdeal.defs (F := Ideal)) (onTc (τ := Cert.HQuantReferenceIdeal.τ) (Cert.HQuantReferenceIdeal.main (F := Ideal))) ⟨m, fun _ => 0, g⟩ (fun r => (∀ c : Dev Cert.HQuantReferenceIdeal.nD,
      r.2.mem ((c.tc : Thread Cert.HQuantReferenceIdeal.nD Cert.HQuantReferenceIdeal.τ).loc Cert.HQuantReferenceIdeal.main_arg0) = m ((c.tc : Thread Cert.HQuantReferenceIdeal.nD Cert.HQuantReferenceIdeal.τ).loc Cert.HQuantReferenceIdeal.main_arg0)
      ∧ r.2.mem ((c.tc : Thread Cert.HQuantReferenceIdeal.nD Cert.HQuantReferenceIdeal.τ).loc Cert.HQuantReferenceIdeal.main_arg1) = m ((c.tc : Thread Cert.HQuantReferenceIdeal.nD Cert.HQuantReferenceIdeal.τ).loc Cert.HQuantReferenceIdeal.main_arg1))
      ∧ r.2.sem = fun _ => 0)

def quiescent_WQuant [hWQuant : Cert.WQuant.Facts] : Prop :=
  ∀ (m : (ℓ : Loc Cert.WQuant.nD Cert.WQuant.τ Cert.WQuant.sig) → Buf (Elt Bits) ℓ) (g : Dev Cert.WQuant.nD → PrngReg), Pre_WQuant m →
    θ_run (Cert.WQuant.defs (F := Bits)) (onTc (τ := Cert.WQuant.τ) (Cert.WQuant.main (F := Bits))) ⟨m, fun _ => 0, g⟩ (fun r => (∀ c : Dev Cert.WQuant.nD,
      r.2.mem ((c.tc : Thread Cert.WQuant.nD Cert.WQuant.τ).loc Cert.WQuant.main_arg0) = m ((c.tc : Thread Cert.WQuant.nD Cert.WQuant.τ).loc Cert.WQuant.main_arg0)
      ∧ r.2.mem ((c.tc : Thread Cert.WQuant.nD Cert.WQuant.τ).loc Cert.WQuant.main_arg1) = m ((c.tc : Thread Cert.WQuant.nD Cert.WQuant.τ).loc Cert.WQuant.main_arg1)
      ∧ r.2.mem ((c.tc : Thread Cert.WQuant.nD Cert.WQuant.τ).loc Cert.WQuant.main_arg2) = m ((c.tc : Thread Cert.WQuant.nD Cert.WQuant.τ).loc Cert.WQuant.main_arg2)
      ∧ r.2.mem ((c.tc : Thread Cert.WQuant.nD Cert.WQuant.τ).loc Cert.WQuant.main_arg3) = m ((c.tc : Thread Cert.WQuant.nD Cert.WQuant.τ).loc Cert.WQuant.main_arg3))
      ∧ r.2.sem = fun _ => 0)

def quiescent_WQuantIdeal [hWQuantIdeal : Cert.WQuantIdeal.Facts] : Prop :=
  ∀ (m : (ℓ : Loc Cert.WQuantIdeal.nD Cert.WQuantIdeal.τ Cert.WQuantIdeal.sig) → Buf (Elt Ideal) ℓ) (g : Dev Cert.WQuantIdeal.nD → PrngReg), Pre_WQuantIdeal m →
    θ_run (Cert.WQuantIdeal.defs (F := Ideal)) (onTc (τ := Cert.WQuantIdeal.τ) (Cert.WQuantIdeal.main (F := Ideal))) ⟨m, fun _ => 0, g⟩ (fun r => (∀ c : Dev Cert.WQuantIdeal.nD,
      r.2.mem ((c.tc : Thread Cert.WQuantIdeal.nD Cert.WQuantIdeal.τ).loc Cert.WQuantIdeal.main_arg0) = m ((c.tc : Thread Cert.WQuantIdeal.nD Cert.WQuantIdeal.τ).loc Cert.WQuantIdeal.main_arg0)
      ∧ r.2.mem ((c.tc : Thread Cert.WQuantIdeal.nD Cert.WQuantIdeal.τ).loc Cert.WQuantIdeal.main_arg1) = m ((c.tc : Thread Cert.WQuantIdeal.nD Cert.WQuantIdeal.τ).loc Cert.WQuantIdeal.main_arg1)
      ∧ r.2.mem ((c.tc : Thread Cert.WQuantIdeal.nD Cert.WQuantIdeal.τ).loc Cert.WQuantIdeal.main_arg2) = m ((c.tc : Thread Cert.WQuantIdeal.nD Cert.WQuantIdeal.τ).loc Cert.WQuantIdeal.main_arg2)
      ∧ r.2.mem ((c.tc : Thread Cert.WQuantIdeal.nD Cert.WQuantIdeal.τ).loc Cert.WQuantIdeal.main_arg3) = m ((c.tc : Thread Cert.WQuantIdeal.nD Cert.WQuantIdeal.τ).loc Cert.WQuantIdeal.main_arg3))
      ∧ r.2.sem = fun _ => 0)

def quiescent_WQuantIdeal_pre_scale_not_negative [hWQuantIdeal : Cert.WQuantIdeal.Facts] [hPre_scale_not_negative : Cert.Pre_scale_not_negative.Facts] : Prop :=
  ∀ (m : (ℓ : Loc Cert.WQuantIdeal.nD Cert.WQuantIdeal.τ Cert.WQuantIdeal.sig) → Buf (Elt Ideal) ℓ) (g : Dev Cert.WQuantIdeal.nD → PrngReg), Pre_WQuantIdeal_scale_not_negative m →
    θ_run (Cert.WQuantIdeal.defs (F := Ideal)) (onTc (τ := Cert.WQuantIdeal.τ) (Cert.WQuantIdeal.main (F := Ideal))) ⟨m, fun _ => 0, g⟩ (fun r => (∀ c : Dev Cert.WQuantIdeal.nD,
      r.2.mem ((c.tc : Thread Cert.WQuantIdeal.nD Cert.WQuantIdeal.τ).loc Cert.WQuantIdeal.main_arg0) = m ((c.tc : Thread Cert.WQuantIdeal.nD Cert.WQuantIdeal.τ).loc Cert.WQuantIdeal.main_arg0)
      ∧ r.2.mem ((c.tc : Thread Cert.WQuantIdeal.nD Cert.WQuantIdeal.τ).loc Cert.WQuantIdeal.main_arg1) = m ((c.tc : Thread Cert.WQuantIdeal.nD Cert.WQuantIdeal.τ).loc Cert.WQuantIdeal.main_arg1)
      ∧ r.2.mem ((c.tc : Thread Cert.WQuantIdeal.nD Cert.WQuantIdeal.τ).loc Cert.WQuantIdeal.main_arg2) = m ((c.tc : Thread Cert.WQuantIdeal.nD Cert.WQuantIdeal.τ).loc Cert.WQuantIdeal.main_arg2)
      ∧ r.2.mem ((c.tc : Thread Cert.WQuantIdeal.nD Cert.WQuantIdeal.τ).loc Cert.WQuantIdeal.main_arg3) = m ((c.tc : Thread Cert.WQuantIdeal.nD Cert.WQuantIdeal.τ).loc Cert.WQuantIdeal.main_arg3))
      ∧ r.2.sem = fun _ => 0)

def quiescent_WQuantReferenceIdeal [hWQuantReferenceIdeal : Cert.WQuantReferenceIdeal.Facts] : Prop :=
  ∀ (m : (ℓ : Loc Cert.WQuantReferenceIdeal.nD Cert.WQuantReferenceIdeal.τ Cert.WQuantReferenceIdeal.sig) → Buf (Elt Ideal) ℓ) (g : Dev Cert.WQuantReferenceIdeal.nD → PrngReg), Pre_WQuantReferenceIdeal m →
    θ_run (Cert.WQuantReferenceIdeal.defs (F := Ideal)) (onTc (τ := Cert.WQuantReferenceIdeal.τ) (Cert.WQuantReferenceIdeal.main (F := Ideal))) ⟨m, fun _ => 0, g⟩ (fun r => (∀ c : Dev Cert.WQuantReferenceIdeal.nD,
      r.2.mem ((c.tc : Thread Cert.WQuantReferenceIdeal.nD Cert.WQuantReferenceIdeal.τ).loc Cert.WQuantReferenceIdeal.main_arg0) = m ((c.tc : Thread Cert.WQuantReferenceIdeal.nD Cert.WQuantReferenceIdeal.τ).loc Cert.WQuantReferenceIdeal.main_arg0)
      ∧ r.2.mem ((c.tc : Thread Cert.WQuantReferenceIdeal.nD Cert.WQuantReferenceIdeal.τ).loc Cert.WQuantReferenceIdeal.main_arg1) = m ((c.tc : Thread Cert.WQuantReferenceIdeal.nD Cert.WQuantReferenceIdeal.τ).loc Cert.WQuantReferenceIdeal.main_arg1)
      ∧ r.2.mem ((c.tc : Thread Cert.WQuantReferenceIdeal.nD Cert.WQuantReferenceIdeal.τ).loc Cert.WQuantReferenceIdeal.main_arg2) = m ((c.tc : Thread Cert.WQuantReferenceIdeal.nD Cert.WQuantReferenceIdeal.τ).loc Cert.WQuantReferenceIdeal.main_arg2)
      ∧ r.2.mem ((c.tc : Thread Cert.WQuantReferenceIdeal.nD Cert.WQuantReferenceIdeal.τ).loc Cert.WQuantReferenceIdeal.main_arg3) = m ((c.tc : Thread Cert.WQuantReferenceIdeal.nD Cert.WQuantReferenceIdeal.τ).loc Cert.WQuantReferenceIdeal.main_arg3))
      ∧ r.2.sem = fun _ => 0)

def quiescent_WQuantReferenceIdeal_pre_scale_not_negative [hWQuantReferenceIdeal : Cert.WQuantReferenceIdeal.Facts] [hPre_scale_not_negative : Cert.Pre_scale_not_negative.Facts] : Prop :=
  ∀ (m : (ℓ : Loc Cert.WQuantReferenceIdeal.nD Cert.WQuantReferenceIdeal.τ Cert.WQuantReferenceIdeal.sig) → Buf (Elt Ideal) ℓ) (g : Dev Cert.WQuantReferenceIdeal.nD → PrngReg), Pre_WQuantReferenceIdeal_scale_not_negative m →
    θ_run (Cert.WQuantReferenceIdeal.defs (F := Ideal)) (onTc (τ := Cert.WQuantReferenceIdeal.τ) (Cert.WQuantReferenceIdeal.main (F := Ideal))) ⟨m, fun _ => 0, g⟩ (fun r => (∀ c : Dev Cert.WQuantReferenceIdeal.nD,
      r.2.mem ((c.tc : Thread Cert.WQuantReferenceIdeal.nD Cert.WQuantReferenceIdeal.τ).loc Cert.WQuantReferenceIdeal.main_arg0) = m ((c.tc : Thread Cert.WQuantReferenceIdeal.nD Cert.WQuantReferenceIdeal.τ).loc Cert.WQuantReferenceIdeal.main_arg0)
      ∧ r.2.mem ((c.tc : Thread Cert.WQuantReferenceIdeal.nD Cert.WQuantReferenceIdeal.τ).loc Cert.WQuantReferenceIdeal.main_arg1) = m ((c.tc : Thread Cert.WQuantReferenceIdeal.nD Cert.WQuantReferenceIdeal.τ).loc Cert.WQuantReferenceIdeal.main_arg1)
      ∧ r.2.mem ((c.tc : Thread Cert.WQuantReferenceIdeal.nD Cert.WQuantReferenceIdeal.τ).loc Cert.WQuantReferenceIdeal.main_arg2) = m ((c.tc : Thread Cert.WQuantReferenceIdeal.nD Cert.WQuantReferenceIdeal.τ).loc Cert.WQuantReferenceIdeal.main_arg2)
      ∧ r.2.mem ((c.tc : Thread Cert.WQuantReferenceIdeal.nD Cert.WQuantReferenceIdeal.τ).loc Cert.WQuantReferenceIdeal.main_arg3) = m ((c.tc : Thread Cert.WQuantReferenceIdeal.nD Cert.WQuantReferenceIdeal.τ).loc Cert.WQuantReferenceIdeal.main_arg3))
      ∧ r.2.sem = fun _ => 0)

def preserves_Kernel_KernelIdeal : Prop :=
  IdealRules.named_const.Statement Cert.KernelIdeal.κ "inv_div" .f32 0x39C30C31#32 ((1 / 2688 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_v22) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Scales_ScalesIdeal : Prop :=
  IdealRules.named_const.Statement Cert.ScalesIdeal.κ "inv_div" .f32 0x39C30C31#32 ((1 / 2688 : ℝ) : EReal)
  ∧ IdealRules.named_const.Statement Cert.ScalesIdeal.κ "six_div" .f32 0x3B124925#32 ((1 / 448 : ℝ) : EReal)

def algebraic_ScalesIdeal_ScalesReferenceIdeal [hScalesIdeal : Cert.ScalesIdeal.Facts] [hScalesReferenceIdeal : Cert.ScalesReferenceIdeal.Facts] : Prop :=
  ∀ (m : (ℓ : Loc Cert.ScalesIdeal.nD Cert.ScalesIdeal.τ Cert.ScalesIdeal.sig) → Buf (Elt Ideal) ℓ) (g : Dev Cert.ScalesIdeal.nD → PrngReg)
    (m' : (ℓ : Loc Cert.ScalesReferenceIdeal.nD Cert.ScalesReferenceIdeal.τ Cert.ScalesReferenceIdeal.sig) → Buf (Elt Ideal) ℓ) (g' : Dev Cert.ScalesReferenceIdeal.nD → PrngReg), Pre_ScalesIdeal m →
    (∀ c : Dev Cert.ScalesIdeal.nD,
      m' ((c.tc : Thread Cert.ScalesReferenceIdeal.nD Cert.ScalesReferenceIdeal.τ).loc Cert.ScalesReferenceIdeal.main_arg0) = m ((c.tc : Thread Cert.ScalesIdeal.nD Cert.ScalesIdeal.τ).loc Cert.ScalesIdeal.main_arg0)) →
    ∃ (v0 : (c : Dev Cert.ScalesIdeal.nD) → Buf (Elt Ideal) ((c.tc : Thread Cert.ScalesIdeal.nD Cert.ScalesIdeal.τ).loc Cert.ScalesIdeal.main_v0_0)) (v1 : (c : Dev Cert.ScalesIdeal.nD) → Buf (Elt Ideal) ((c.tc : Thread Cert.ScalesIdeal.nD Cert.ScalesIdeal.τ).loc Cert.ScalesIdeal.main_v0_1)) (v2 : (c : Dev Cert.ScalesIdeal.nD) → Buf (Elt Ideal) ((c.tc : Thread Cert.ScalesIdeal.nD Cert.ScalesIdeal.τ).loc Cert.ScalesIdeal.main_v0_2)),
      θ_run (Cert.ScalesIdeal.defs (F := Ideal)) (onTc (τ := Cert.ScalesIdeal.τ) (Cert.ScalesIdeal.main (F := Ideal))) ⟨m, fun _ => 0, g⟩ (fun r => ∀ c : Dev Cert.ScalesIdeal.nD,
          r.2.mem ((c.tc : Thread Cert.ScalesIdeal.nD Cert.ScalesIdeal.τ).loc Cert.ScalesIdeal.main_v0_0) = v0 c
          ∧ r.2.mem ((c.tc : Thread Cert.ScalesIdeal.nD Cert.ScalesIdeal.τ).loc Cert.ScalesIdeal.main_v0_1) = v1 c
          ∧ r.2.mem ((c.tc : Thread Cert.ScalesIdeal.nD Cert.ScalesIdeal.τ).loc Cert.ScalesIdeal.main_v0_2) = v2 c
          ∧ r.2.mem ((c.tc : Thread Cert.ScalesIdeal.nD Cert.ScalesIdeal.τ).loc Cert.ScalesIdeal.main_arg0) = m ((c.tc : Thread Cert.ScalesIdeal.nD Cert.ScalesIdeal.τ).loc Cert.ScalesIdeal.main_arg0))
      ∧ θ_run (Cert.ScalesReferenceIdeal.defs (F := Ideal)) (onTc (τ := Cert.ScalesReferenceIdeal.τ) (Cert.ScalesReferenceIdeal.main (F := Ideal))) ⟨m', fun _ => 0, g'⟩ (fun r => ∀ c : Dev Cert.ScalesReferenceIdeal.nD,
          r.2.mem ((c.tc : Thread Cert.ScalesReferenceIdeal.nD Cert.ScalesReferenceIdeal.τ).loc Cert.ScalesReferenceIdeal.main_v0_0) = v0 c
          ∧ r.2.mem ((c.tc : Thread Cert.ScalesReferenceIdeal.nD Cert.ScalesReferenceIdeal.τ).loc Cert.ScalesReferenceIdeal.main_v0_1) = v1 c
          ∧ r.2.mem ((c.tc : Thread Cert.ScalesReferenceIdeal.nD Cert.ScalesReferenceIdeal.τ).loc Cert.ScalesReferenceIdeal.main_v0_2) = v2 c
          ∧ r.2.mem ((c.tc : Thread Cert.ScalesReferenceIdeal.nD Cert.ScalesReferenceIdeal.τ).loc Cert.ScalesReferenceIdeal.main_arg0) = m' ((c.tc : Thread Cert.ScalesReferenceIdeal.nD Cert.ScalesReferenceIdeal.τ).loc Cert.ScalesReferenceIdeal.main_arg0))

def preserves_HQuant_HQuantIdeal : Prop :=
  IdealRules.named_const.Statement Cert.HQuantIdeal.κ "six_div" .f32 0x3B124925#32 ((1 / 448 : ℝ) : EReal)
  ∧ IdealRules.named_const.Statement Cert.HQuantIdeal.κ "inv_div" .f32 0x39C30C31#32 ((1 / 2688 : ℝ) : EReal)

def algebraic_HQuantIdeal_HQuantReferenceIdeal_pre_top_not_negative [hHQuantIdeal : Cert.HQuantIdeal.Facts] [hHQuantReferenceIdeal : Cert.HQuantReferenceIdeal.Facts] [hPre_top_not_negative : Cert.Pre_top_not_negative.Facts] : Prop :=
  ∀ (m : (ℓ : Loc Cert.HQuantIdeal.nD Cert.HQuantIdeal.τ Cert.HQuantIdeal.sig) → Buf (Elt Ideal) ℓ) (g : Dev Cert.HQuantIdeal.nD → PrngReg)
    (m' : (ℓ : Loc Cert.HQuantReferenceIdeal.nD Cert.HQuantReferenceIdeal.τ Cert.HQuantReferenceIdeal.sig) → Buf (Elt Ideal) ℓ) (g' : Dev Cert.HQuantReferenceIdeal.nD → PrngReg), Pre_HQuantIdeal_top_not_negative m →
    (∀ c : Dev Cert.HQuantIdeal.nD,
      m' ((c.tc : Thread Cert.HQuantReferenceIdeal.nD Cert.HQuantReferenceIdeal.τ).loc Cert.HQuantReferenceIdeal.main_arg0) = m ((c.tc : Thread Cert.HQuantIdeal.nD Cert.HQuantIdeal.τ).loc Cert.HQuantIdeal.main_arg0)
      ∧ m' ((c.tc : Thread Cert.HQuantReferenceIdeal.nD Cert.HQuantReferenceIdeal.τ).loc Cert.HQuantReferenceIdeal.main_arg1) = m ((c.tc : Thread Cert.HQuantIdeal.nD Cert.HQuantIdeal.τ).loc Cert.HQuantIdeal.main_arg1)) →
    ∃ (v0 : (c : Dev Cert.HQuantIdeal.nD) → Buf (Elt Ideal) ((c.tc : Thread Cert.HQuantIdeal.nD Cert.HQuantIdeal.τ).loc Cert.HQuantIdeal.main_v0_0)) (v1 : (c : Dev Cert.HQuantIdeal.nD) → Buf (Elt Ideal) ((c.tc : Thread Cert.HQuantIdeal.nD Cert.HQuantIdeal.τ).loc Cert.HQuantIdeal.main_v0_1)),
      θ_run (Cert.HQuantIdeal.defs (F := Ideal)) (onTc (τ := Cert.HQuantIdeal.τ) (Cert.HQuantIdeal.main (F := Ideal))) ⟨m, fun _ => 0, g⟩ (fun r => ∀ c : Dev Cert.HQuantIdeal.nD,
          r.2.mem ((c.tc : Thread Cert.HQuantIdeal.nD Cert.HQuantIdeal.τ).loc Cert.HQuantIdeal.main_v0_0) = v0 c
          ∧ r.2.mem ((c.tc : Thread Cert.HQuantIdeal.nD Cert.HQuantIdeal.τ).loc Cert.HQuantIdeal.main_v0_1) = v1 c
          ∧ r.2.mem ((c.tc : Thread Cert.HQuantIdeal.nD Cert.HQuantIdeal.τ).loc Cert.HQuantIdeal.main_arg0) = m ((c.tc : Thread Cert.HQuantIdeal.nD Cert.HQuantIdeal.τ).loc Cert.HQuantIdeal.main_arg0)
          ∧ r.2.mem ((c.tc : Thread Cert.HQuantIdeal.nD Cert.HQuantIdeal.τ).loc Cert.HQuantIdeal.main_arg1) = m ((c.tc : Thread Cert.HQuantIdeal.nD Cert.HQuantIdeal.τ).loc Cert.HQuantIdeal.main_arg1))
      ∧ θ_run (Cert.HQuantReferenceIdeal.defs (F := Ideal)) (onTc (τ := Cert.HQuantReferenceIdeal.τ) (Cert.HQuantReferenceIdeal.main (F := Ideal))) ⟨m', fun _ => 0, g'⟩ (fun r => ∀ c : Dev Cert.HQuantReferenceIdeal.nD,
          r.2.mem ((c.tc : Thread Cert.HQuantReferenceIdeal.nD Cert.HQuantReferenceIdeal.τ).loc Cert.HQuantReferenceIdeal.main_v0_0) = v0 c
          ∧ r.2.mem ((c.tc : Thread Cert.HQuantReferenceIdeal.nD Cert.HQuantReferenceIdeal.τ).loc Cert.HQuantReferenceIdeal.main_v0_1) = v1 c
          ∧ r.2.mem ((c.tc : Thread Cert.HQuantReferenceIdeal.nD Cert.HQuantReferenceIdeal.τ).loc Cert.HQuantReferenceIdeal.main_arg0) = m' ((c.tc : Thread Cert.HQuantReferenceIdeal.nD Cert.HQuantReferenceIdeal.τ).loc Cert.HQuantReferenceIdeal.main_arg0)
          ∧ r.2.mem ((c.tc : Thread Cert.HQuantReferenceIdeal.nD Cert.HQuantReferenceIdeal.τ).loc Cert.HQuantReferenceIdeal.main_arg1) = m' ((c.tc : Thread Cert.HQuantReferenceIdeal.nD Cert.HQuantReferenceIdeal.τ).loc Cert.HQuantReferenceIdeal.main_arg1))

def preserves_WQuant_WQuantIdeal : Prop :=
  True

def algebraic_WQuantIdeal_WQuantReferenceIdeal_pre_scale_not_negative [hWQuantIdeal : Cert.WQuantIdeal.Facts] [hWQuantReferenceIdeal : Cert.WQuantReferenceIdeal.Facts] [hPre_scale_not_negative : Cert.Pre_scale_not_negative.Facts] : Prop :=
  ∀ (m : (ℓ : Loc Cert.WQuantIdeal.nD Cert.WQuantIdeal.τ Cert.WQuantIdeal.sig) → Buf (Elt Ideal) ℓ) (g : Dev Cert.WQuantIdeal.nD → PrngReg)
    (m' : (ℓ : Loc Cert.WQuantReferenceIdeal.nD Cert.WQuantReferenceIdeal.τ Cert.WQuantReferenceIdeal.sig) → Buf (Elt Ideal) ℓ) (g' : Dev Cert.WQuantReferenceIdeal.nD → PrngReg), Pre_WQuantIdeal_scale_not_negative m →
    (∀ c : Dev Cert.WQuantIdeal.nD,
      m' ((c.tc : Thread Cert.WQuantReferenceIdeal.nD Cert.WQuantReferenceIdeal.τ).loc Cert.WQuantReferenceIdeal.main_arg0) = m ((c.tc : Thread Cert.WQuantIdeal.nD Cert.WQuantIdeal.τ).loc Cert.WQuantIdeal.main_arg0)
      ∧ m' ((c.tc : Thread Cert.WQuantReferenceIdeal.nD Cert.WQuantReferenceIdeal.τ).loc Cert.WQuantReferenceIdeal.main_arg1) = m ((c.tc : Thread Cert.WQuantIdeal.nD Cert.WQuantIdeal.τ).loc Cert.WQuantIdeal.main_arg1)
      ∧ m' ((c.tc : Thread Cert.WQuantReferenceIdeal.nD Cert.WQuantReferenceIdeal.τ).loc Cert.WQuantReferenceIdeal.main_arg2) = m ((c.tc : Thread Cert.WQuantIdeal.nD Cert.WQuantIdeal.τ).loc Cert.WQuantIdeal.main_arg2)
      ∧ m' ((c.tc : Thread Cert.WQuantReferenceIdeal.nD Cert.WQuantReferenceIdeal.τ).loc Cert.WQuantReferenceIdeal.main_arg3) = m ((c.tc : Thread Cert.WQuantIdeal.nD Cert.WQuantIdeal.τ).loc Cert.WQuantIdeal.main_arg3)) →
    ∃ (v0 : (c : Dev Cert.WQuantIdeal.nD) → Buf (Elt Ideal) ((c.tc : Thread Cert.WQuantIdeal.nD Cert.WQuantIdeal.τ).loc Cert.WQuantIdeal.main_v0_0)) (v1 : (c : Dev Cert.WQuantIdeal.nD) → Buf (Elt Ideal) ((c.tc : Thread Cert.WQuantIdeal.nD Cert.WQuantIdeal.τ).loc Cert.WQuantIdeal.main_v0_1)) (v2 : (c : Dev Cert.WQuantIdeal.nD) → Buf (Elt Ideal) ((c.tc : Thread Cert.WQuantIdeal.nD Cert.WQuantIdeal.τ).loc Cert.WQuantIdeal.main_v0_2)),
      θ_run (Cert.WQuantIdeal.defs (F := Ideal)) (onTc (τ := Cert.WQuantIdeal.τ) (Cert.WQuantIdeal.main (F := Ideal))) ⟨m, fun _ => 0, g⟩ (fun r => ∀ c : Dev Cert.WQuantIdeal.nD,
          r.2.mem ((c.tc : Thread Cert.WQuantIdeal.nD Cert.WQuantIdeal.τ).loc Cert.WQuantIdeal.main_v0_0) = v0 c
          ∧ r.2.mem ((c.tc : Thread Cert.WQuantIdeal.nD Cert.WQuantIdeal.τ).loc Cert.WQuantIdeal.main_v0_1) = v1 c
          ∧ r.2.mem ((c.tc : Thread Cert.WQuantIdeal.nD Cert.WQuantIdeal.τ).loc Cert.WQuantIdeal.main_v0_2) = v2 c
          ∧ r.2.mem ((c.tc : Thread Cert.WQuantIdeal.nD Cert.WQuantIdeal.τ).loc Cert.WQuantIdeal.main_arg0) = m ((c.tc : Thread Cert.WQuantIdeal.nD Cert.WQuantIdeal.τ).loc Cert.WQuantIdeal.main_arg0)
          ∧ r.2.mem ((c.tc : Thread Cert.WQuantIdeal.nD Cert.WQuantIdeal.τ).loc Cert.WQuantIdeal.main_arg1) = m ((c.tc : Thread Cert.WQuantIdeal.nD Cert.WQuantIdeal.τ).loc Cert.WQuantIdeal.main_arg1)
          ∧ r.2.mem ((c.tc : Thread Cert.WQuantIdeal.nD Cert.WQuantIdeal.τ).loc Cert.WQuantIdeal.main_arg2) = m ((c.tc : Thread Cert.WQuantIdeal.nD Cert.WQuantIdeal.τ).loc Cert.WQuantIdeal.main_arg2)
          ∧ r.2.mem ((c.tc : Thread Cert.WQuantIdeal.nD Cert.WQuantIdeal.τ).loc Cert.WQuantIdeal.main_arg3) = m ((c.tc : Thread Cert.WQuantIdeal.nD Cert.WQuantIdeal.τ).loc Cert.WQuantIdeal.main_arg3))
      ∧ θ_run (Cert.WQuantReferenceIdeal.defs (F := Ideal)) (onTc (τ := Cert.WQuantReferenceIdeal.τ) (Cert.WQuantReferenceIdeal.main (F := Ideal))) ⟨m', fun _ => 0, g'⟩ (fun r => ∀ c : Dev Cert.WQuantReferenceIdeal.nD,
          r.2.mem ((c.tc : Thread Cert.WQuantReferenceIdeal.nD Cert.WQuantReferenceIdeal.τ).loc Cert.WQuantReferenceIdeal.main_v0_0) = v0 c
          ∧ r.2.mem ((c.tc : Thread Cert.WQuantReferenceIdeal.nD Cert.WQuantReferenceIdeal.τ).loc Cert.WQuantReferenceIdeal.main_v0_1) = v1 c
          ∧ r.2.mem ((c.tc : Thread Cert.WQuantReferenceIdeal.nD Cert.WQuantReferenceIdeal.τ).loc Cert.WQuantReferenceIdeal.main_v0_2) = v2 c
          ∧ r.2.mem ((c.tc : Thread Cert.WQuantReferenceIdeal.nD Cert.WQuantReferenceIdeal.τ).loc Cert.WQuantReferenceIdeal.main_arg0) = m' ((c.tc : Thread Cert.WQuantReferenceIdeal.nD Cert.WQuantReferenceIdeal.τ).loc Cert.WQuantReferenceIdeal.main_arg0)
          ∧ r.2.mem ((c.tc : Thread Cert.WQuantReferenceIdeal.nD Cert.WQuantReferenceIdeal.τ).loc Cert.WQuantReferenceIdeal.main_arg1) = m' ((c.tc : Thread Cert.WQuantReferenceIdeal.nD Cert.WQuantReferenceIdeal.τ).loc Cert.WQuantReferenceIdeal.main_arg1)
          ∧ r.2.mem ((c.tc : Thread Cert.WQuantReferenceIdeal.nD Cert.WQuantReferenceIdeal.τ).loc Cert.WQuantReferenceIdeal.main_arg2) = m' ((c.tc : Thread Cert.WQuantReferenceIdeal.nD Cert.WQuantReferenceIdeal.τ).loc Cert.WQuantReferenceIdeal.main_arg2)
          ∧ r.2.mem ((c.tc : Thread Cert.WQuantReferenceIdeal.nD Cert.WQuantReferenceIdeal.τ).loc Cert.WQuantReferenceIdeal.main_arg3) = m' ((c.tc : Thread Cert.WQuantReferenceIdeal.nD Cert.WQuantReferenceIdeal.τ).loc Cert.WQuantReferenceIdeal.main_arg3))

def Claim : Prop :=
  ∃ (hKernel : Cert.Kernel.Facts) (hKernelIdeal : Cert.KernelIdeal.Facts) (hReferenceIdeal : Cert.ReferenceIdeal.Facts) (hScales : Cert.Scales.Facts) (hScalesIdeal : Cert.ScalesIdeal.Facts) (hScalesReferenceIdeal : Cert.ScalesReferenceIdeal.Facts) (hHQuant : Cert.HQuant.Facts) (hHQuantIdeal : Cert.HQuantIdeal.Facts) (hHQuantReferenceIdeal : Cert.HQuantReferenceIdeal.Facts) (hWQuant : Cert.WQuant.Facts) (hWQuantIdeal : Cert.WQuantIdeal.Facts) (hWQuantReferenceIdeal : Cert.WQuantReferenceIdeal.Facts) (hPre_top_not_negative : Cert.Pre_top_not_negative.Facts) (hPre_scale_not_negative : Cert.Pre_scale_not_negative.Facts),
    quiescent_Kernel (hKernel := hKernel)
    ∧ quiescent_KernelIdeal (hKernelIdeal := hKernelIdeal)
    ∧ quiescent_ReferenceIdeal (hReferenceIdeal := hReferenceIdeal)
    ∧ quiescent_Scales (hScales := hScales)
    ∧ quiescent_ScalesIdeal (hScalesIdeal := hScalesIdeal)
    ∧ quiescent_ScalesReferenceIdeal (hScalesReferenceIdeal := hScalesReferenceIdeal)
    ∧ quiescent_HQuant (hHQuant := hHQuant)
    ∧ quiescent_HQuantIdeal (hHQuantIdeal := hHQuantIdeal)
    ∧ quiescent_HQuantIdeal_pre_top_not_negative (hHQuantIdeal := hHQuantIdeal) (hPre_top_not_negative := hPre_top_not_negative)
    ∧ quiescent_HQuantReferenceIdeal (hHQuantReferenceIdeal := hHQuantReferenceIdeal)
    ∧ quiescent_HQuantReferenceIdeal_pre_top_not_negative (hHQuantReferenceIdeal := hHQuantReferenceIdeal) (hPre_top_not_negative := hPre_top_not_negative)
    ∧ quiescent_WQuant (hWQuant := hWQuant)
    ∧ quiescent_WQuantIdeal (hWQuantIdeal := hWQuantIdeal)
    ∧ quiescent_WQuantIdeal_pre_scale_not_negative (hWQuantIdeal := hWQuantIdeal) (hPre_scale_not_negative := hPre_scale_not_negative)
    ∧ quiescent_WQuantReferenceIdeal (hWQuantReferenceIdeal := hWQuantReferenceIdeal)
    ∧ quiescent_WQuantReferenceIdeal_pre_scale_not_negative (hWQuantReferenceIdeal := hWQuantReferenceIdeal) (hPre_scale_not_negative := hPre_scale_not_negative)
    ∧ preserves_Kernel_KernelIdeal
    ∧ algebraic_KernelIdeal_ReferenceIdeal (hKernelIdeal := hKernelIdeal) (hReferenceIdeal := hReferenceIdeal)
    ∧ preserves_Scales_ScalesIdeal
    ∧ algebraic_ScalesIdeal_ScalesReferenceIdeal (hScalesIdeal := hScalesIdeal) (hScalesReferenceIdeal := hScalesReferenceIdeal)
    ∧ preserves_HQuant_HQuantIdeal
    ∧ algebraic_HQuantIdeal_HQuantReferenceIdeal_pre_top_not_negative (hHQuantIdeal := hHQuantIdeal) (hHQuantReferenceIdeal := hHQuantReferenceIdeal) (hPre_top_not_negative := hPre_top_not_negative)
    ∧ preserves_WQuant_WQuantIdeal
    ∧ algebraic_WQuantIdeal_WQuantReferenceIdeal_pre_scale_not_negative (hWQuantIdeal := hWQuantIdeal) (hWQuantReferenceIdeal := hWQuantReferenceIdeal) (hPre_scale_not_negative := hPre_scale_not_negative)
-- ==== Pre_scale_not_negative.lean ====
abbrev S1 : Shape := ⟨1, ![1]⟩
abbrev S22016x2048 : Shape := ⟨2, ![22016, 2048]⟩
abbrev S1376x128 : Shape := ⟨2, ![1376, 128]⟩
abbrev S_ : Shape := ⟨0, ![]⟩

class Facts : Prop where
  shapeCasts_S1_S_ : S1.ShapeCasts S_

variable [Facts]

def fn {F : FTy → Type} [FloatOps F] (main_arg0 : FVec F S1 .f32) (main_arg1 : FVec F S22016x2048 .bf16) (main_arg2 : FVec F S1376x128 .fp8e4m3) (main_arg3 : FVec F S1376x128 .f32) : IVec S_ 1 :=
  let main_v0 : FVec F S_ .f32 := shapeCast S_ main_arg0 shapeCasts_S1_S_
  let main_cst : FVec F S_ .f32 := constant S_ .f32 0x00000000#32
  let main_v1 : IVec S_ 1 := cmpf .oge main_v0 main_cst
  main_v1
-- ==== Pre_top_not_negative.lean ====
abbrev S1 : Shape := ⟨1, ![1]⟩
abbrev S144x11008x128 : Shape := ⟨3, ![144, 11008, 128]⟩
abbrev S_ : Shape := ⟨0, ![]⟩

class Facts : Prop where
  shapeCasts_S1_S_ : S1.ShapeCasts S_

variable [Facts]

def fn {F : FTy → Type} [FloatOps F] (main_arg0 : FVec F S1 .f32) (main_arg1 : FVec F S144x11008x128 .f32) : IVec S_ 1 :=
  let main_v0 : FVec F S_ .f32 := shapeCast S_ main_arg0 shapeCasts_S1_S_
  let main_cst : FVec F S_ .f32 := constant S_ .f32 0x00000000#32
  let main_v1 : IVec S_ 1 := cmpf .oge main_v0 main_cst
  main_v1
-- ==== Kernel.lean ====
abbrev S1 : Shape := ⟨1, ![1]⟩
abbrev S16x1152x2048 : Shape := ⟨3, ![16, 1152, 2048]⟩
abbrev S22016x2048 : Shape := ⟨2, ![22016, 2048]⟩
abbrev S18432x2048 : Shape := ⟨2, ![18432, 2048]⟩
abbrev S18432x11008 : Shape := ⟨2, ![18432, 11008]⟩
abbrev S144x11008x128 : Shape := ⟨3, ![144, 11008, 128]⟩
abbrev S2304x2048 : Shape := ⟨2, ![2304, 2048]⟩
abbrev S256x2048 : Shape := ⟨2, ![256, 2048]⟩
abbrev S2304x256 : Shape := ⟨2, ![2304, 256]⟩
abbrev S18x256x128 : Shape := ⟨3, ![18, 256, 128]⟩
abbrev S8x256 : Shape := ⟨2, ![8, 256]⟩
abbrev S256x256 : Shape := ⟨2, ![256, 256]⟩
abbrev S32x8x256 : Shape := ⟨3, ![32, 8, 256]⟩
abbrev S256x128 : Shape := ⟨2, ![256, 128]⟩
abbrev S1x256x128 : Shape := ⟨3, ![1, 256, 128]⟩
abbrev S1x8x256 : Shape := ⟨3, ![1, 8, 256]⟩
abbrev S1x1x1 : Shape := ⟨3, ![1, 1, 1]⟩

abbrev nBuf : Space → Nat
  | .hbm => 8
  | .vmem => 11
  | .smem => 3
  | _ => 0

abbrev bufTy : (tb : Table) → Fin (tcTables nBuf tb) → BufTy
  | .hbm, ⟨0, _⟩ => ⟨S1, .f32⟩
  | .hbm, ⟨1, _⟩ => ⟨S16x1152x2048, .bf16⟩
  | .hbm, ⟨2, _⟩ => ⟨S22016x2048, .bf16⟩
  | .hbm, ⟨3, _⟩ => ⟨S18432x2048, .bf16⟩
  | .hbm, ⟨4, _⟩ => ⟨S18432x11008, .bf16⟩
  | .hbm, ⟨5, _⟩ => ⟨S144x11008x128, .f32⟩
  | .hbm, ⟨6, _⟩ => ⟨S1, .f32⟩
  | .hbm, ⟨7, _⟩ => ⟨S1, .f32⟩
  | .local _ .vmem, ⟨0, _⟩ => ⟨S2304x2048, .bf16⟩
  | .local _ .vmem, ⟨1, _⟩ => ⟨S2304x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S2304x256, .bf16⟩
  | .local _ .vmem, ⟨7, _⟩ => ⟨S2304x256, .bf16⟩
  | .local _ .vmem, ⟨8, _⟩ => ⟨S18x256x128, .f32⟩
  | .local _ .vmem, ⟨9, _⟩ => ⟨S18x256x128, .f32⟩
  | .local _ .vmem, ⟨10, _⟩ => ⟨S8x256, .f32⟩
  | .local _ .smem, ⟨0, _⟩ => ⟨S1, .f32⟩
  | .local _ .smem, ⟨1, _⟩ => ⟨S1, .f32⟩
  | .local _ .smem, ⟨2, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_stg0_0 : Ref sig .tc := ⟨.smem, 0, rfl⟩
abbrev cc0_stg6_0 : Ref sig .tc := ⟨.smem, 1, rfl⟩
abbrev cc0_stg7_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨2, ![8, 43], ![false, false]⟩

def k0_cond2 (i : grid0.Coords) : BitVec 1 :=
  let arg0 : BitVec 32 := BitVec.ofNat 32 (i 0).val
  let c7_i32 : BitVec 32 := 7#32
  let v3 : BitVec 1 := Scalar.cmpi .eq arg0 c7_i32
  let arg1 : BitVec 32 := BitVec.ofNat 32 (i 1).val
  let c42_i32 : BitVec 32 := 42#32
  let v4 : BitVec 1 := Scalar.cmpi .eq arg1 c42_i32
  let v5 : BitVec 1 := Scalar.andi v3 v4
  let v265 : BitVec 32 := Scalar.extui v5
  let c0_i32_133 : BitVec 32 := 0#32
  let v266 : BitVec 1 := Scalar.cmpi .ne v265 c0_i32_133
  v266

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2304x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2304x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S18x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== KernelIdeal.lean ====
variable {F : FTy → Type} [FloatOps F] [Named F]
def κ : String → Option EReal := fun
  | "inv_div" => some ((1 / 2688 : ℝ) : EReal)
  | _ => none
-- ==== ReferenceIdeal.lean ====
abbrev S1 : Shape := ⟨1, ![1]⟩
abbrev S16x1152x2048 : Shape := ⟨3, ![16, 1152, 2048]⟩
abbrev S22016x2048 : Shape := ⟨2, ![22016, 2048]⟩
abbrev S16x1152x22016 : Shape := ⟨3, ![16, 1152, 22016]⟩
abbrev S_ : Shape := ⟨0, ![]⟩
abbrev S16x1152x11008 : Shape := ⟨3, ![16, 1152, 11008]⟩
abbrev S18432x11008 : Shape := ⟨2, ![18432, 11008]⟩
abbrev S144x128x11008 : Shape := ⟨3, ![144, 128, 11008]⟩
abbrev S144x11008x128 : Shape := ⟨3, ![144, 11008, 128]⟩

abbrev nBuf : Space → Nat
  | .hbm => 30
  | .vmem => 0
  | .smem => 0
  | _ => 0

abbrev bufTy : (tb : Table) → Fin (tcTables nBuf tb) → BufTy
  | .hbm, ⟨0, _⟩ => ⟨S1, .f32⟩
  | .hbm, ⟨1, _⟩ => ⟨S16x1152x2048, .bf16⟩
  | .hbm, ⟨2, _⟩ => ⟨S22016x2048, .bf16⟩
  | .hbm, ⟨3, _⟩ => ⟨S16x1152x22016, .f32⟩
  | .hbm, ⟨4, _⟩ => ⟨S_, .f32⟩
  | .hbm, ⟨5, _⟩ => ⟨S16x1152x22016, .f32⟩
  | .hbm, ⟨6, _⟩ => ⟨S16x1152x22016, .f32⟩
  | .hbm, ⟨7, _⟩ => ⟨S16x1152x11008, .f32⟩
  | .hbm, ⟨8, _⟩ => ⟨S16x1152x11008, .f32⟩
  | .hbm, ⟨9, _⟩ => ⟨S16x1152x11008, .f32⟩
  | .hbm, ⟨10, _⟩ => ⟨S16x1152x11008, .f32⟩
  | .hbm, ⟨11, _⟩ => ⟨S_, .f32⟩
  | .hbm, ⟨12, _⟩ => ⟨S16x1152x11008, .f32⟩
  | .hbm, ⟨13, _⟩ => ⟨S16x1152x11008, .f32⟩
  | .hbm, ⟨14, _⟩ => ⟨S_, .f32⟩
  | .hbm, ⟨15, _⟩ => ⟨S16x1152x11008, .f32⟩
  | .hbm, ⟨16, _⟩ => ⟨S16x1152x11008, .f32⟩
  | .hbm, ⟨17, _⟩ => ⟨S16x1152x11008, .f32⟩
  | .hbm, ⟨18, _⟩ => ⟨S16x1152x11008, .f32⟩
  | .hbm, ⟨19, _⟩ => ⟨S16x1152x11008, .f32⟩
  | .hbm, ⟨20, _⟩ => ⟨S_, .f32⟩
  | .hbm, ⟨21, _⟩ => ⟨S_, .f32⟩
  | .hbm, ⟨22, _⟩ => ⟨S18432x11008, .f32⟩
  | .hbm, ⟨23, _⟩ => ⟨S144x128x11008, .f32⟩
  | .hbm, ⟨24, _⟩ => ⟨S144x11008x128, .f32⟩
  | .hbm, ⟨25, _⟩ => ⟨S18432x11008, .bf16⟩
  | .hbm, ⟨26, _⟩ => ⟨S_, .f32⟩
  | .hbm, ⟨27, _⟩ => ⟨S_, .f32⟩
  | .hbm, ⟨28, _⟩ => ⟨S1, .f32⟩
  | .hbm, ⟨29, _⟩ => ⟨S1, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Scales.lean ====
abbrev S22016x2048 : Shape := ⟨2, ![22016, 2048]⟩
abbrev S1376x128 : Shape := ⟨2, ![1376, 128]⟩
abbrev S1 : Shape := ⟨1, ![1]⟩
abbrev S512x2048 : Shape := ⟨2, ![512, 2048]⟩
abbrev S32x16x2048 : Shape := ⟨3, ![32, 16, 2048]⟩
abbrev S32x2048 : Shape := ⟨2, ![32, 2048]⟩
abbrev S32x128 : Shape := ⟨2, ![32, 128]⟩
abbrev S32x128x1 : Shape := ⟨3, ![32, 128, 1]⟩
abbrev S1x1376x128 : Shape := ⟨3, ![1, 1376, 128]⟩
abbrev S1x1x1 : Shape := ⟨3, ![1, 1, 1]⟩

abbrev nBuf : Space → Nat
  | .hbm => 4
  | .vmem => 5
  | .smem => 1
  | _ => 0

abbrev bufTy : (tb : Table) → Fin (tcTables nBuf tb) → BufTy
  | .hbm, ⟨0, _⟩ => ⟨S22016x2048, .bf16⟩
  | .hbm, ⟨1, _⟩ => ⟨S1376x128, .fp8e4m3⟩
  | .hbm, ⟨2, _⟩ => ⟨S1376x128, .f32⟩
  | .hbm, ⟨3, _⟩ => ⟨S1, .f32⟩
  | .local _ .vmem, ⟨0, _⟩ => ⟨S512x2048, .bf16⟩
  | .local _ .vmem, ⟨1, _⟩ => ⟨S512x2048, .bf16⟩
  | .local _ .vmem, ⟨2, _⟩ => ⟨S1376x128, .fp8e4m3⟩
  | .local _ .vmem, ⟨3, _⟩ => ⟨S1376x128, .f32⟩
  | .local _ .vmem, ⟨4, _⟩ => ⟨S1376x128, .f32⟩
  | .local _ .smem, ⟨0, _⟩ => ⟨S1, .f32⟩
  | _, _ => ⟨S22016x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![43], ![false]⟩

def k0_mult1 (i : grid0.Coords) : BitVec 32 :=
  let arg0 : BitVec 32 := BitVec.ofNat 32 (i 0).val
  let c32_i32 : BitVec 32 := 32#32
  let v729 : BitVec 32 := Scalar.muli arg0 c32_i32
  v729
def k0_off1 (i : grid0.Coords) : Fin 2 → Nat :=
  let arg0 : BitVec 32 := BitVec.ofNat 32 (i 0).val
  let c32_i32 : BitVec 32 := 32#32
  let v729 : BitVec 32 := Scalar.muli arg0 c32_i32
  let v730 : BitVec 32 := v729
  let v731 : Index := Scalar.indexCast v730
  let c0_211 : Index := 0#32
  ![v731.toNat, 0]
def k0_cond1 (i : grid0.Coords) : BitVec 1 :=
  let arg0 : BitVec 32 := BitVec.ofNat 32 (i 0).val
  let c42_i32 : BitVec 32 := 42#32
  let v735 : BitVec 1 := Scalar.cmpi .eq arg0 c42_i32
  let v736 : BitVec 32 := Scalar.extui v735
  let c0_i32_212 : BitVec 32 := 0#32
  let v737 : BitVec 1 := Scalar.cmpi .ne v736 c0_i32_212
  v737

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1376x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1376x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ScalesIdeal.lean ====
variable {F : FTy → Type} [FloatOps F] [Named F]
def κ : String → Option EReal := fun
  | "inv_div" => some ((1 / 2688 : ℝ) : EReal)
  | "six_div" => some ((1 / 448 : ℝ) : EReal)
  | _ => none
-- ==== ScalesReferenceIdeal.lean ====
abbrev S22016x2048 : Shape := ⟨2, ![22016, 2048]⟩
abbrev S1376x128 : Shape := ⟨2, ![1376, 128]⟩
abbrev S1 : Shape := ⟨1, ![1]⟩
abbrev S1x22016x2048 : Shape := ⟨3, ![1, 22016, 2048]⟩
abbrev S1x1x1 : Shape := ⟨3, ![1, 1, 1]⟩
abbrev S1376x16x128x16 : Shape := ⟨4, ![1376, 16, 128, 16]⟩

abbrev nBuf : Space → Nat
  | .hbm => 4
  | .vmem => 3
  | .smem => 1
  | _ => 0

abbrev bufTy : (tb : Table) → Fin (tcTables nBuf tb) → BufTy
  | .hbm, ⟨0, _⟩ => ⟨S22016x2048, .bf16⟩
  | .hbm, ⟨1, _⟩ => ⟨S1376x128, .fp8e4m3⟩
  | .hbm, ⟨2, _⟩ => ⟨S1376x128, .f32⟩
  | .hbm, ⟨3, _⟩ => ⟨S1, .f32⟩
  | .local _ .vmem, ⟨0, _⟩ => ⟨S22016x2048, .bf16⟩
  | .local _ .vmem, ⟨1, _⟩ => ⟨S1376x128, .fp8e4m3⟩
  | .local _ .vmem, ⟨2, _⟩ => ⟨S1376x128, .f32⟩
  | .local _ .smem, ⟨0, _⟩ => ⟨S1, .f32⟩
  | _, _ => ⟨S22016x2048, .bf16⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S22016x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1376x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1376x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== HQuant.lean ====
abbrev S1 : Shape := ⟨1, ![1]⟩
abbrev S144x11008x128 : Shape := ⟨3, ![144, 11008, 128]⟩
abbrev S18432x5504 : Shape := ⟨2, ![18432, 5504]⟩
abbrev S16x688x1152 : Shape := ⟨3, ![16, 688, 1152]⟩
abbrev S1x11008x128 : Shape := ⟨3, ![1, 11008, 128]⟩
abbrev S128x5504 : Shape := ⟨2, ![128, 5504]⟩
abbrev S1x688x128 : Shape := ⟨3, ![1, 688, 128]⟩
abbrev S688x128 : Shape := ⟨2, ![688, 128]⟩
abbrev S1x256x128 : Shape := ⟨3, ![1, 256, 128]⟩
abbrev S256x128 : Shape := ⟨2, ![256, 128]⟩
abbrev S16x16x128 : Shape := ⟨3, ![16, 16, 128]⟩
abbrev S16x128 : Shape := ⟨2, ![16, 128]⟩
abbrev S16x1x128 : Shape := ⟨3, ![16, 1, 128]⟩
abbrev S128x2x128 : Shape := ⟨3, ![128, 2, 128]⟩
abbrev S128x1x128 : Shape := ⟨3, ![128, 1, 128]⟩
abbrev S128x128 : Shape := ⟨2, ![128, 128]⟩

abbrev nBuf : Space → Nat
  | .hbm => 4
  | .vmem => 7
  | .smem => 1
  | _ => 0

abbrev bufTy : (tb : Table) → Fin (tcTables nBuf tb) → BufTy
  | .hbm, ⟨0, _⟩ => ⟨S1, .f32⟩
  | .hbm, ⟨1, _⟩ => ⟨S144x11008x128, .f32⟩
  | .hbm, ⟨2, _⟩ => ⟨S18432x5504, .i8⟩
  | .hbm, ⟨3, _⟩ => ⟨S16x688x1152, .fp8e4m3⟩
  | .local _ .vmem, ⟨0, _⟩ => ⟨S1x11008x128, .f32⟩
  | .local _ .vmem, ⟨1, _⟩ => ⟨S1x11008x128, .f32⟩
  | .local _ .vmem, ⟨2, _⟩ => ⟨S128x5504, .i8⟩
  | .local _ .vmem, ⟨3, _⟩ => ⟨S128x5504, .i8⟩
  | .local _ .vmem, ⟨4, _⟩ => ⟨S1x688x128, .fp8e4m3⟩
  | .local _ .vmem, ⟨5, _⟩ => ⟨S1x688x128, .fp8e4m3⟩
  | .local _ .vmem, ⟨6, _⟩ => ⟨S688x128, .f32⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![144], ![false]⟩

@[reducible] def k0_t1_loop : Scf.Loop 32 :=
  let c0_i32 : BitVec 32 := 0#32
  let c43_i32 : BitVec 32 := 43#32
  let v2 : BitVec 32 := Scalar.addi c0_i32 c43_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v8 : BitVec 32 := Scalar.muli arg6 c256_i32
  v8
def k0_off1 (k0_t1 : Fin k0_t1_loop.trips) : Fin 3 → Nat :=
  let c0_6 : Index := 0#32
  let c0_i32 : BitVec 32 := 0#32
  let c1_i32 : BitVec 32 := 1#32
  let arg6 : BitVec 32 := Scf.iv c0_i32 c1_i32 k0_t1
  let c256_i32 : BitVec 32 := 256#32
  let v8 : BitVec 32 := Scalar.muli arg6 c256_i32
  let v9 : BitVec 32 := v8
  let v10 : Index := Scalar.indexCast v9
  let c0_7 : Index := 0#32
  ![0, v10.toNat, 0]
def k0_mult2 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32 : BitVec 32 := 16#32
  let v35 : BitVec 32 := Scalar.muli arg6 c16_i32
  v35
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c16_i32 : BitVec 32 := 16#32
  let v35 : BitVec 32 := Scalar.muli arg6 c16_i32
  let v36 : BitVec 32 := v35
  let v37 : Index := Scalar.indexCast v36
  let c0_16 : Index := 0#32
  ![v37.toNat, 0]
def k0_mult3 (k0_t1 : Fin k0_t1_loop.trips) : BitVec 32 :=
  let c0_i32 : BitVec 32 := 0#32
  let c1_i32 : BitVec 32 := 1#32
  let arg6 : BitVec 32 := Scf.iv c0_i32 c1_i32 k0_t1
  let c128_i32 : BitVec 32 := 128#32
  let v97 : BitVec 32 := Scalar.muli arg6 c128_i32
  v97
def k0_off3 (k0_t1 : Fin k0_t1_loop.trips) : Fin 2 → Nat :=
  let c0_28 : Index := 0#32
  let c0_i32 : BitVec 32 := 0#32
  let c1_i32 : BitVec 32 := 1#32
  let arg6 : BitVec 32 := Scf.iv c0_i32 c1_i32 k0_t1
  let c128_i32 : BitVec 32 := 128#32
  let v97 : BitVec 32 := Scalar.muli arg6 c128_i32
  let v98 : BitVec 32 := v97
  let v99 : Index := Scalar.indexCast v98
  ![0, v99.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x11008x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x5504 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x688x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== HQuantIdeal.lean ====
variable {F : FTy → Type} [FloatOps F] [Named F]
def κ : String → Option EReal := fun
  | "inv_div" => some ((1 / 2688 : ℝ) : EReal)
  | "six_div" => some ((1 / 448 : ℝ) : EReal)
  | _ => none
-- ==== HQuantReferenceIdeal.lean ====
abbrev S1 : Shape := ⟨1, ![1]⟩
abbrev S144x11008x128 : Shape := ⟨3, ![144, 11008, 128]⟩
abbrev S18432x5504 : Shape := ⟨2, ![18432, 5504]⟩
abbrev S16x688x1152 : Shape := ⟨3, ![16, 688, 1152]⟩
abbrev S144x128x11008 : Shape := ⟨3, ![144, 128, 11008]⟩
abbrev S18432x11008 : Shape := ⟨2, ![18432, 11008]⟩
abbrev S18432x688x16 : Shape := ⟨3, ![18432, 688, 16]⟩
abbrev S18432x688 : Shape := ⟨2, ![18432, 688]⟩
abbrev S18432x688x1 : Shape := ⟨3, ![18432, 688, 1]⟩
abbrev S18432x5504x2 : Shape := ⟨3, ![18432, 5504, 2]⟩
abbrev S18432x5504x1 : Shape := ⟨3, ![18432, 5504, 1]⟩
abbrev S16x1152x688 : Shape := ⟨3, ![16, 1152, 688]⟩

abbrev nBuf : Space → Nat
  | .hbm => 4
  | .vmem => 3
  | .smem => 1
  | _ => 0

abbrev bufTy : (tb : Table) → Fin (tcTables nBuf tb) → BufTy
  | .hbm, ⟨0, _⟩ => ⟨S1, .f32⟩
  | .hbm, ⟨1, _⟩ => ⟨S144x11008x128, .f32⟩
  | .hbm, ⟨2, _⟩ => ⟨S18432x5504, .i8⟩
  | .hbm, ⟨3, _⟩ => ⟨S16x688x1152, .fp8e4m3⟩
  | .local _ .vmem, ⟨0, _⟩ => ⟨S144x11008x128, .f32⟩
  | .local _ .vmem, ⟨1, _⟩ => ⟨S18432x5504, .i8⟩
  | .local _ .vmem, ⟨2, _⟩ => ⟨S16x688x1152, .fp8e4m3⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S144x11008x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18432x5504 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x688x1152 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== WQuant.lean ====
abbrev S1 : Shape := ⟨1, ![1]⟩
abbrev S22016x2048 : Shape := ⟨2, ![22016, 2048]⟩
abbrev S1376x128 : Shape := ⟨2, ![1376, 128]⟩
abbrev S22016x1024 : Shape := ⟨2, ![22016, 1024]⟩
abbrev S2048x11008 : Shape := ⟨2, ![2048, 11008]⟩
abbrev S512x2048 : Shape := ⟨2, ![512, 2048]⟩
abbrev S32x128 : Shape := ⟨2, ![32, 128]⟩
abbrev S512x1024 : Shape := ⟨2, ![512, 1024]⟩
abbrev S2048x256 : Shape := ⟨2, ![2048, 256]⟩
abbrev S32x128x1 : Shape := ⟨3, ![32, 128, 1]⟩
abbrev S32x1x128 : Shape := ⟨3, ![32, 1, 128]⟩
abbrev S32x16x128 : Shape := ⟨3, ![32, 16, 128]⟩
abbrev S512x128 : Shape := ⟨2, ![512, 128]⟩
abbrev S256x2x128 : Shape := ⟨3, ![256, 2, 128]⟩
abbrev S256x1x128 : Shape := ⟨3, ![256, 1, 128]⟩
abbrev S256x128 : Shape := ⟨2, ![256, 128]⟩
abbrev S128x256 : Shape := ⟨2, ![128, 256]⟩
abbrev S128x512 : Shape := ⟨2, ![128, 512]⟩
abbrev S256x512 : Shape := ⟨2, ![256, 512]⟩
abbrev S128x2x512 : Shape := ⟨3, ![128, 2, 512]⟩
abbrev S128x1x512 : Shape := ⟨3, ![128, 1, 512]⟩

abbrev nBuf : Space → Nat
  | .hbm => 7
  | .vmem => 12
  | .smem => 1
  | _ => 0

abbrev bufTy : (tb : Table) → Fin (tcTables nBuf tb) → BufTy
  | .hbm, ⟨0, _⟩ => ⟨S1, .f32⟩
  | .hbm, ⟨1, _⟩ => ⟨S22016x2048, .bf16⟩
  | .hbm, ⟨2, _⟩ => ⟨S1376x128, .fp8e4m3⟩
  | .hbm, ⟨3, _⟩ => ⟨S1376x128, .f32⟩
  | .hbm, ⟨4, _⟩ => ⟨S22016x1024, .i8⟩
  | .hbm, ⟨5, _⟩ => ⟨S2048x11008, .i8⟩
  | .hbm, ⟨6, _⟩ => ⟨S22016x2048, .bf16⟩
  | .local _ .vmem, ⟨0, _⟩ => ⟨S512x2048, .bf16⟩
  | .local _ .vmem, ⟨1, _⟩ => ⟨S512x2048, .bf16⟩
  | .local _ .vmem, ⟨2, _⟩ => ⟨S32x128, .fp8e4m3⟩
  | .local _ .vmem, ⟨3, _⟩ => ⟨S32x128, .fp8e4m3⟩
  | .local _ .vmem, ⟨4, _⟩ => ⟨S32x128, .f32⟩
  | .local _ .vmem, ⟨5, _⟩ => ⟨S32x128, .f32⟩
  | .local _ .vmem, ⟨6, _⟩ => ⟨S512x1024, .i8⟩
  | .local _ .vmem, ⟨7, _⟩ => ⟨S512x1024, .i8⟩
  | .local _ .vmem, ⟨8, _⟩ => ⟨S2048x256, .i8⟩
  | .local _ .vmem, ⟨9, _⟩ => ⟨S2048x256, .i8⟩
  | .local _ .vmem, ⟨10, _⟩ => ⟨S512x2048, .bf16⟩
  | .local _ .vmem, ⟨11, _⟩ => ⟨S512x2048, .bf16⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![43], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== WQuantReferenceIdeal.lean ====
abbrev S1 : Shape := ⟨1, ![1]⟩
abbrev S22016x2048 : Shape := ⟨2, ![22016, 2048]⟩
abbrev S1376x128 : Shape := ⟨2, ![1376, 128]⟩
abbrev S22016x1024 : Shape := ⟨2, ![22016, 1024]⟩
abbrev S2048x11008 : Shape := ⟨2, ![2048, 11008]⟩
abbrev S1376x16x128x16 : Shape := ⟨4, ![1376, 16, 128, 16]⟩
abbrev S1376x1x128x1 : Shape := ⟨4, ![1376, 1, 128, 1]⟩
abbrev S22016x1024x2 : Shape := ⟨3, ![22016, 1024, 2]⟩
abbrev S22016x1024x1 : Shape := ⟨3, ![22016, 1024, 1]⟩
abbrev S11008x2x2048 : Shape := ⟨3, ![11008, 2, 2048]⟩
abbrev S11008x1x2048 : Shape := ⟨3, ![11008, 1, 2048]⟩
abbrev S11008x2048 : Shape := ⟨2, ![11008, 2048]⟩

abbrev nBuf : Space → Nat
  | .hbm => 7
  | .vmem => 6
  | .smem => 1
  | _ => 0

abbrev bufTy : (tb : Table) → Fin (tcTables nBuf tb) → BufTy
  | .hbm, ⟨0, _⟩ => ⟨S1, .f32⟩
  | .hbm, ⟨1, _⟩ => ⟨S22016x2048, .bf16⟩
  | .hbm, ⟨2, _⟩ => ⟨S1376x128, .fp8e4m3⟩
  | .hbm, ⟨3, _⟩ => ⟨S1376x128, .f32⟩
  | .hbm, ⟨4, _⟩ => ⟨S22016x1024, .i8⟩
  | .hbm, ⟨5, _⟩ => ⟨S2048x11008, .i8⟩
  | .hbm, ⟨6, _⟩ => ⟨S22016x2048, .bf16⟩
  | .local _ .vmem, ⟨0, _⟩ => ⟨S22016x2048, .bf16⟩
  | .local _ .vmem, ⟨1, _⟩ => ⟨S1376x128, .fp8e4m3⟩
  | .local _ .vmem, ⟨2, _⟩ => ⟨S1376x128, .f32⟩
  | .local _ .vmem, ⟨3, _⟩ => ⟨S22016x1024, .i8⟩
  | .local _ .vmem, ⟨4, _⟩ => ⟨S2048x11008, .i8⟩
  | .local _ .vmem, ⟨5, _⟩ => ⟨S22016x2048, .bf16⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S22016x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1376x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1376x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S22016x1024 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x11008 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S22016x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Core.lean ====
/-
  The arithmetic of one block of the gate/up product: a block of 256 gated channels by 256 token rows, read at an index
  over the extended reals.
-/
module

public import proofs.«01_k».proof.Proof.Gen.KernelIdeal.Skeleton
public import Idealize.ShloMosaic.Lib.Pointwise

@[expose] public section

set_option maxRecDepth 16384

noncomputable section

namespace Cert.GateUp

open Idealize.ShloMosaic

/-- The gated activation of one token row and one channel: from the scale `s`, the row `x` and the channel's two weight
    rows `g` (gate) and `u` (up), with `a = (Σ x g) s` and `b = (Σ x u) s`, the value `a · logistic a · b`. -/
def gated (s : EReal) (x g u : Fin 2048 → EReal) : EReal :=
  (((∑ k, x k * g k) * s) * Ideal.div 1 (1 + Ideal.exp (-((∑ k, x k * g k) * s)))) * ((∑ k, x k * u k) * s)

/-- The maxima start from the word of minus infinity. -/
theorem negInf_bits : Ideal.ofBits .f32 0xFF800000#32 = (⊥ : EReal) := by simp [Ideal.ofBits, Ideal.ieee]

section
open Cert.KernelIdeal Cert.KernelIdeal.Gen

/-- One block of the kernel's activation, at channel `i 0` and row `i 1` of the block. -/
theorem act_apply (s : EReal) (xs wg wu : FVec Ideal S256x2048 .bf16) (n r : Fin 256) :
    k0_pay10 (F := Ideal) s xs wg wu (ix2 n r)
      = gated s (fun k => xs (ix2 r k)) (fun k => wg (ix2 n k)) (fun k => wu (ix2 n k)) := by
  unfold gated
  pointwise [k0_pay10]
  simp only [mul_comm (xs _), Ideal.logistic]

/-- One block of the activation as it is stored in row order: the transposed block at row `r` and channel `n`. -/
theorem tile_apply (s : EReal) (xs wg wu : FVec Ideal S256x2048 .bf16) (r n : Fin 256) :
    k0_pay15 (F := Ideal) (k0_pay10 (F := Ideal) s xs wg wu) (ix2 r n)
      = gated s (fun k => xs (ix2 r k)) (fun k => wg (ix2 n k)) (fun k => wu (ix2 n k)) := by
  rw [← act_apply]
  pointwise [k0_pay15]

/-- The first 128 rows of a block as they are stored channel by channel. -/
theorem lanesLo_apply (s : EReal) (xs wg wu : FVec Ideal S256x2048 .bf16) (z : Fin 1) (n : Fin 256) (l : Fin 128) :
    k0_pay12 (F := Ideal) s xs wg wu (ix3 z n l)
      = gated s (fun k => xs (ix2 ⟨l.val, by omega⟩ k)) (fun k => wg (ix2 n k)) (fun k => wu (ix2 n k)) := by
  rw [← act_apply]
  pointwise [k0_pay12]

/-- The last 128 rows of a block as they are stored channel by channel. -/
theorem lanesHi_apply (s : EReal) (xs wg wu : FVec Ideal S256x2048 .bf16) (z : Fin 1) (n : Fin 256) (l : Fin 128) :
    k0_pay14 (k0_pay13 (F := Ideal) s xs wg wu) (ix3 z n l)
      = gated s (fun k => xs (ix2 ⟨128 + l.val, by omega⟩ k)) (fun k => wg (ix2 n k)) (fun k => wu (ix2 n k)) := by
  rw [← act_apply]
  pointwise [k0_pay13, k0_pay14]

/-- The magnitude of one entry of a block. -/
def mag (s : EReal) (x g u : Fin 2048 → EReal) : EReal := max (gated s x g u) (-gated s x g u)

/-- The running maximum over the 32 groups of eight channel rows of one block: the new value at (`p`, `l`) is at most `b`
    when the old one is and the magnitudes at row `l` of the channels `8 q + p` are. -/
theorem stepMax_le (m : FVec Ideal S8x256 .f32) (s : EReal) (xs wg wu : FVec Ideal S256x2048 .bf16)
    (p : Fin 8) (l : Fin 256) (b : EReal) :
    k0_pay11 (F := Ideal) s m xs wg wu (ix2 p l) ≤ b
      ↔ m (ix2 p l) ≤ b ∧ ∀ q : Fin 32, mag s (fun k => xs (ix2 l k)) (fun k => wg (ix2 ⟨q.val * 8 + p.val, by omega⟩ k))
          (fun k => wu (ix2 ⟨q.val * 8 + p.val, by omega⟩ k)) ≤ b := by
  pointwise [k0_pay11]
  rw [max_le_iff, Finset.fold_max_le]
  simp only [act_apply]
  rw [negInf_bits]
  simp only [bot_le, true_and, Finset.mem_univ, true_implies]
  rfl

/-- The last chunk's new running maximum, as it is stored. -/
theorem store_eq (m : FVec Ideal S8x256 .f32) (s : EReal) (xs wg wu : FVec Ideal S256x2048 .bf16) :
    k0_pay6 (F := Ideal) s m (k0_pay54 xs) (k0_pay55 (F := Ideal) s xs wg) wu (constant S256x256 .f32 0#32)
      = k0_pay11 (F := Ideal) s m xs wg wu := by
  funext i
  rw [show k0_pay11 (F := Ideal) s m xs wg wu
    = k0_pay2 (F := Ideal) s m (k0_pay54 xs) (k0_pay55 (F := Ideal) s xs wg) wu (constant S256x256 .f32 0#32) from rfl]
  pointwise [k0_pay6]

/-- The greatest entry of the running maximum. -/
def topOf (v : FVec Ideal S8x256 .f32) : EReal :=
  extractAt ![0, 0, 0] (shapeCast S1x1x1 (multiReduction (F := Ideal) .maximumf [1, 2] S1
    (shapeCast S1x8x256 v shapeCasts_S8x256_S1x8x256) 0xFF800000#32 reduces_S1x8x256_S1 (.inl rfl) rfl)
    shapeCasts_S1_S1x1x1) inpos_S1x1x1_p0_0_0

/-- The greatest entry is at most `b` exactly when every entry is. -/
theorem topOf_le (v : FVec Ideal S8x256 .f32) (b : EReal) : topOf v ≤ b ↔ ∀ (p : Fin 8) (l : Fin 256), v (ix2 p l) ≤ b := by
  pointwise [topOf]
  rw [Finset.fold_max_le, negInf_bits]
  simp only [bot_le, true_and, Finset.mem_univ, true_implies]
  exact ⟨fun h p l => h (p, l), fun h x => h x.1 x.2⟩

/-- The last grid point's maximum of all magnitudes. -/
theorem top_eq (m : FVec Ideal S8x256 .f32) (s : EReal) (xs wg wu : FVec Ideal S256x2048 .bf16) :
    k0_pay7 (F := Ideal) s m (k0_pay54 xs) (k0_pay55 (F := Ideal) s xs wg) wu (constant S256x256 .f32 0#32)
      = topOf (k0_pay11 (F := Ideal) s m xs wg wu) := rfl

/-- The last grid point's tensor scale. -/
theorem scale_eq (m : FVec Ideal S8x256 .f32) (s : EReal) (xs wg wu : FVec Ideal S256x2048 .bf16) :
    k0_pay8 (F := Ideal) s m (k0_pay54 xs) (k0_pay55 (F := Ideal) s xs wg) wu (constant S256x256 .f32 0#32)
      = topOf (k0_pay11 (F := Ideal) s m xs wg wu) * ((1 / 2688 : ℝ) : EReal) := by
  rw [← top_eq]
  show _ * Named.named κ "inv_div" 0x39C30C31#32 = _
  rw [IdealRules.named_const.ideal_named_scalar _ _ _ _ rfl]

/-- The running maximum starts at zero. -/
theorem start_apply (i : S8x256.Idx) : k0_pay9 (F := Ideal) i = (0 : EReal) := by
  pointwise [k0_pay9]

end

end Cert.GateUp
-- ==== Proof.Block.lean ====
/-
  What one grid point of the kernel leaves in its output blocks and in the running maximum, from its input blocks.
-/
module

public import proofs.«01_k».proof.Proof.Core
public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.GateUp

open Cert.KernelIdeal Cert.KernelIdeal.Gen Idealize.ShloMosaic Idealize.ShloMosaic.TcCoe Idealize.SL.Sem
open Idealize.ShloMosaic.Pipeline (Dat)

/-- The activation of row `r` of a block of token rows and channel `n` of a block of channels. -/
def blk (s : FVec Ideal S1 .f32) (x : FVec Ideal S2304x2048 .bf16) (wg wu : FVec Ideal S256x2048 .bf16)
    (r : Fin 2304) (n : Fin 256) : EReal :=
  gated (s (ix1 0)) (fun k => x (ix2 r k)) (fun k => wg (ix2 n k)) (fun k => wu (ix2 n k))

variable (m : (ℓ : Loc nD τ sig) → Buf (Elt Ideal) ℓ) (c : Dev nD) (t : Fin cfg0.N)

/-- The activation the grid point `t` computes at row `r` and channel `n` of its blocks. -/
abbrev at' (r : Fin 2304) (n : Fin 256) : EReal := blk (iblk m c 0 t) (iblk m c 1 t) (iblk m c 2 t) (iblk m c 3 t) r n

/-- The scale, loaded. -/
theorem ld_scale (s : FVec Ideal S1 .f32) (h : ∀ a, ![0] a + ![1] a ≤ S1.size a)
    (hp : 0 < (Rect.unit (s := S1) ![0] ![1] h).shape.numel) :
    View.ld (Val := Elt Ideal) (e' := .f32) s (Rect.unit (s := S1) ![0] ![1] h) (Shape.Idx.first hp) = s (ix1 0) := by
  rw [View.ld_apply]
  exact congrArg s (funext fun a => match a with | ⟨0, _⟩ => Subsingleton.elim (α := Fin 1) _ _)

/-- The rows `o …` of the block of token rows, loaded. -/
theorem ld_rows (x : FVec Ideal S2304x2048 .bf16) (o : ℕ) (h : ∀ a, ![o, 0] a + ![256, 2048] a ≤ S2304x2048.size a)
    (r : Fin 2304) (i : Fin 256) (hr : r.val = o + i.val) (k : Fin 2048) :
    View.ld (Val := Elt Ideal) (e' := .bf16) x (Rect.unit (s := S2304x2048) ![o, 0] ![256, 2048] h) (ix2 i k) = x (ix2 r k) := by
  rw [View.ld_apply]
  refine congrArg x (funext fun a => Fin.ext ?_)
  rw [Rect.idx_unit_val]
  match a with
  | ⟨0, _⟩ => exact hr.symm
  | ⟨1, _⟩ => exact Nat.zero_add _

/-- A stored tile read at its local index is the activation at the index of the block. -/
theorem tile_eq (s : FVec Ideal S1 .f32) (x : FVec Ideal S2304x2048 .bf16) (wg wu : FVec Ideal S256x2048 .bf16) (o : ℕ)
    (h1 : ∀ a, ![0] a + ![1] a ≤ S1.size a) (ho : ∀ a, ![o, 0] a + ![256, 2048] a ≤ S2304x2048.size a)
    (hp : 0 < (Rect.unit (s := S1) ![0] ![1] h1).shape.numel)
    (i : S256x256.Idx) (r : Fin 2304) (n : Fin 256) (hr : r.val = o + (i 0).val) (hn : n.val = (i 1).val) :
    k0_pay15 (F := Ideal) (k0_pay10 (F := Ideal) (View.ld (Val := Elt Ideal) (e' := .f32) s (Rect.unit (s := S1) ![0] ![1] h1) (Shape.Idx.first hp))
        (View.ld (Val := Elt Ideal) (e' := .bf16) x (Rect.unit (s := S2304x2048) ![o, 0] ![256, 2048] ho)) wg wu) i
      = blk s x wg wu r n := by
  rw [eq_ix2 i]
  refine (tile_apply _ _ _ _ (i 0) (i 1)).trans ?_
  unfold blk
  rw [ld_scale, show n = i 1 from Fin.ext hn]
  exact congrArg (gated _ · _ _) (funext fun k => ld_rows x o ho r (i 0) hr k)

/-- The block of the row-order result after grid point `t`. -/
theorem after4 (y : S2304x256.Idx) : (dats m 0 c).after 4 t y = at' m c t (y 0) (y 1) := by
  rw [after0_4]
  by_cases hA : t.val % 344 = 0 <;> by_cases hC : t.val % 344 = 343
  · omega
  all_goals first | rw [outsAt0_A m c t hA hC] | rw [outsAt0_B m c t hA hC] | rw [outsAt0_C m c t hA hC]
  all_goals frame_out
  all_goals canon_tiles x h
  all_goals exact tile_eq _ _ _ _ _ _ _ _ x _ _ (by first | exact h0 | simpa using h0) h1

/-- The first 128 rows of a chunk, stored channel by channel, read at their local index. -/
theorem lanesLo_eq (s : FVec Ideal S1 .f32) (x : FVec Ideal S2304x2048 .bf16) (wg wu : FVec Ideal S256x2048 .bf16) (o : ℕ)
    (h1 : ∀ a, ![0] a + ![1] a ≤ S1.size a) (ho : ∀ a, ![o, 0] a + ![256, 2048] a ≤ S2304x2048.size a)
    (hp : 0 < (Rect.unit (s := S1) ![0] ![1] h1).shape.numel)
    (i : S1x256x128.Idx) (r : Fin 2304) (n : Fin 256) (hr : r.val = o + (i 2).val) (hn : n.val = (i 1).val) :
    k0_pay12 (F := Ideal) (View.ld (Val := Elt Ideal) (e' := .f32) s (Rect.unit (s := S1) ![0] ![1] h1) (Shape.Idx.first hp))
        (View.ld (Val := Elt Ideal) (e' := .bf16) x (Rect.unit (s := S2304x2048) ![o, 0] ![256, 2048] ho)) wg wu i
      = blk s x wg wu r n := by
  rw [eq_ix3 i]
  refine (lanesLo_apply _ _ _ _ (i 0) (i 1) (i 2)).trans ?_
  unfold blk
  rw [ld_scale, show n = i 1 from Fin.ext hn]
  exact congrArg (gated _ · _ _) (funext fun k => ld_rows x o ho r _ hr k)

/-- The last 128 rows of a chunk, stored channel by channel, read at their local index. -/
theorem lanesHi_eq (s : FVec Ideal S1 .f32) (x : FVec Ideal S2304x2048 .bf16) (wg wu : FVec Ideal S256x2048 .bf16) (o : ℕ)
    (h1 : ∀ a, ![0] a + ![1] a ≤ S1.size a) (ho : ∀ a, ![o, 0] a + ![256, 2048] a ≤ S2304x2048.size a)
    (hp : 0 < (Rect.unit (s := S1) ![0] ![1] h1).shape.numel)
    (i : S1x256x128.Idx) (r : Fin 2304) (n : Fin 256) (hr : r.val = o + (128 + (i 2).val)) (hn : n.val = (i 1).val) :
    k0_pay14 (k0_pay13 (F := Ideal) (View.ld (Val := Elt Ideal) (e' := .f32) s (Rect.unit (s := S1) ![0] ![1] h1) (Shape.Idx.first hp))
        (View.ld (Val := Elt Ideal) (e' := .bf16) x (Rect.unit (s := S2304x2048) ![o, 0] ![256, 2048] ho)) wg wu) i
      = blk s x wg wu r n := by
  rw [eq_ix3 i]
  refine (lanesHi_apply _ _ _ _ (i 0) (i 1) (i 2)).trans ?_
  unfold blk
  rw [ld_scale, show n = i 1 from Fin.ext hn]
  exact congrArg (gated _ · _ _) (funext fun k => ld_rows x o ho r _ hr k)

/-- The row of the block that lane `l` of the lane group `a` holds. -/
def laneRow (a : Fin 18) (l : Fin 128) : Fin 2304 := ⟨128 * a.val + l.val, by omega⟩

set_option maxHeartbeats 1000000 in
/-- The block of the channel-by-channel result after grid point `t`. -/
theorem after5 (y : S18x256x128.Idx) : (dats m 0 c).after 5 t y = at' m c t (laneRow (y 0) (y 2)) (y 1) := by
  rw [after0_5]
  by_cases hA : t.val % 344 = 0 <;> by_cases hC : t.val % 344 = 343
  · omega
  all_goals first | rw [outsAt0_A m c t hA hC] | rw [outsAt0_B m c t hA hC] | rw [outsAt0_C m c t hA hC]
  all_goals frame_out
  all_goals canon_tiles x h
  iterate 27
    · exact lanesHi_eq _ _ _ _ _ _ _ _ x _ _ (by show 128 * (y 0).val + (y 2).val = _; omega) h1
    · exact lanesLo_eq _ _ _ _ _ _ _ _ x _ _ (by show 128 * (y 0).val + (y 2).val = _; omega) h1

end Cert.GateUp
-- ==== Proof.Sweep.lean ====
/-
  The running maximum of the magnitudes: what one grid point makes of it, and what it holds after any grid point.
-/
module

public import proofs.«01_k».proof.Proof.Block

@[expose] public section

set_option maxRecDepth 16384

noncomputable section

namespace Cert.GateUp

open Cert.KernelIdeal Cert.KernelIdeal.Gen Idealize.ShloMosaic Idealize.ShloMosaic.TcCoe Idealize.SL.Sem
open Idealize.ShloMosaic.Pipeline (Dat)

/-- The rows of chunk `j` lie in the block. -/
theorem chunk_inb (j : Fin 9) : ∀ a, ![256 * j.val, 0] a + ![256, 2048] a ≤ S2304x2048.size a := fun a =>
  match a with
  | ⟨0, _⟩ => by show 256 * j.val + 256 ≤ 2304; omega
  | ⟨1, _⟩ => by show 0 + 2048 ≤ 2048; omega

/-- The running maximum after chunk `j`, over what it held before. -/
def step (s : EReal) (x : FVec Ideal S2304x2048 .bf16) (wg wu : FVec Ideal S256x2048 .bf16)
    (mx : FVec Ideal S8x256 .f32) (j : Fin 9) : FVec Ideal S8x256 .f32 :=
  k0_pay11 (F := Ideal) s mx (View.ld (Val := Elt Ideal) (e' := .bf16) x
    (Rect.unit (s := S2304x2048) ![256 * j.val, 0] ![256, 2048] (chunk_inb j))) wg wu

/-- The running maximum after the nine chunks of one grid point, over what it held before. -/
def sweep (s : EReal) (x : FVec Ideal S2304x2048 .bf16) (wg wu : FVec Ideal S256x2048 .bf16)
    (mx : FVec Ideal S8x256 .f32) : FVec Ideal S8x256 .f32 :=
  [0, 1, 2, 3, 4, 5, 6, 7, 8].foldl (step s x wg wu) mx

/-- The magnitude of the activation at a row and a channel of the blocks. -/
def bmag (s : EReal) (x : FVec Ideal S2304x2048 .bf16) (wg wu : FVec Ideal S256x2048 .bf16)
    (r : Fin 2304) (n : Fin 256) : EReal :=
  mag s (fun k => x (ix2 r k)) (fun k => wg (ix2 n k)) (fun k => wu (ix2 n k))

/-- Over any list of chunks the running maximum at one place is bounded as its start and the chunks' magnitudes are. -/
theorem foldl_le (s : EReal) (x : FVec Ideal S2304x2048 .bf16) (wg wu : FVec Ideal S256x2048 .bf16) (p : Fin 8) (l : Fin 256)
    (b : EReal) (L : List (Fin 9)) : ∀ mx : FVec Ideal S8x256 .f32,
    L.foldl (step s x wg wu) mx (ix2 p l) ≤ b
      ↔ mx (ix2 p l) ≤ b ∧ ∀ j ∈ L, ∀ q : Fin 32, bmag s x wg wu ⟨256 * j.val + l.val, by omega⟩ ⟨q.val * 8 + p.val, by omega⟩ ≤ b := by
  induction L with
  | nil => intro mx; simp
  | cons j L ih =>
    intro mx
    rw [List.foldl_cons, ih, step, stepMax_le]
    simp only [ld_rows x _ (chunk_inb j) ⟨256 * j.val + l.val, by omega⟩ l rfl, List.forall_mem_cons, bmag, and_assoc]

/-- After one grid point the whole running maximum is bounded exactly when it was before and every magnitude of the blocks is. -/
theorem sweep_le (s : EReal) (x : FVec Ideal S2304x2048 .bf16) (wg wu : FVec Ideal S256x2048 .bf16) (mx : FVec Ideal S8x256 .f32)
    (b : EReal) : (∀ (p : Fin 8) (l : Fin 256), sweep s x wg wu mx (ix2 p l) ≤ b)
      ↔ (∀ (p : Fin 8) (l : Fin 256), mx (ix2 p l) ≤ b) ∧ ∀ r n, bmag s x wg wu r n ≤ b := by
  simp only [sweep, foldl_le]
  constructor
  · intro h
    refine ⟨fun p l => (h p l).1, fun r n => ?_⟩
    have e := (h ⟨n.val % 8, by omega⟩ ⟨r.val % 256, by omega⟩).2 ⟨r.val / 256, by omega⟩
      (by generalize (⟨r.val / 256, _⟩ : Fin 9) = j; revert j; decide) ⟨n.val / 8, by omega⟩
    have er : (⟨256 * (r.val / 256) + r.val % 256, by omega⟩ : Fin 2304) = r := Fin.ext (by show _ + _ = _; omega)
    have en : (⟨n.val / 8 * 8 + n.val % 8, by omega⟩ : Fin 256) = n := Fin.ext (by show _ + _ = _; omega)
    rw [← er, ← en]
    exact e
  · exact fun h p l => ⟨h.1 p l, fun j _ q => h.2 _ _⟩

variable (m : (ℓ : Loc nD τ sig) → Buf (Elt Ideal) ℓ) (c : Dev nD)

/-- The magnitude the grid point `t` computes at row `r` and channel `n` of its blocks. -/
abbrev magAt (t : Fin cfg0.N) (r : Fin 2304) (n : Fin 256) : EReal :=
  bmag (iblk m c 0 t (ix1 0)) (iblk m c 1 t) (iblk m c 2 t) (iblk m c 3 t) r n

/-- The running maximum the grid point `t` leaves, over what it found. -/
abbrev sweepAt (t : Fin cfg0.N) (mx : FVec Ideal S8x256 .f32) : FVec Ideal S8x256 .f32 :=
  sweep (iblk m c 0 t (ix1 0)) (iblk m c 1 t) (iblk m c 2 t) (iblk m c 3 t) mx

/-- The first grid point starts the running maximum at zero. -/
theorem scratch_first (t : Fin cfg0.N) (hA : t.val % 344 = 0) (hC : ¬t.val % 344 = 343) :
    (outsAt0 m c t.val t.isLt).2.2.2.2 = sweepAt m c t (k0_pay9 (F := Ideal)) := by
  rw [outsAt0_A m c t hA hC]
  frame_out
  rw [sweepAt, ← ld_scale (iblk m c 0 t) inb_S1_S1_0 (by decide)]
  exact store_eq _ _ _ _ _

/-- What a grid point reads of the running maximum is what the point before left. -/
theorem found (X : Vec Ideal S8x256 .f32) :
    View.read (Elt Ideal) (View.whole cc0_scratch0) ((Memref.isWhole_whole cc0_scratch0).unread (Val := Elt Ideal) X) = X :=
  Memref.IsWhole.read_unread (Val := Elt Ideal) (Memref.isWhole_whole cc0_scratch0) X

/-- Every other grid point continues it. -/
theorem scratch_next (t : Fin cfg0.N) (hA : ¬t.val % 344 = 0) :
    (outsAt0 m c t.val t.isLt).2.2.2.2
      = sweepAt m c t (outsAt0 m c (t.val - 1) (Nat.lt_of_le_of_lt (Nat.sub_le _ _) t.isLt)).2.2.2.2 := by
  by_cases hC : t.val % 344 = 343
  all_goals first | rw [outsAt0_C m c t hA hC] | rw [outsAt0_B m c t hA hC]
  all_goals frame_out
  all_goals conv_rhs => rw [sweepAt, ← found (outsAt0 m c (t.val - 1) _).2.2.2.2, ← ld_scale (iblk m c 0 t) inb_S1_S1_0 (by decide)]
  all_goals exact store_eq _ _ _ _ _

/-- The last grid point's maximum of all magnitudes, and the tensor scale it makes of it. -/
theorem last_top (t : Fin cfg0.N) (hA : ¬t.val % 344 = 0) (hC : t.val % 344 = 343) (y : S1.Idx) :
    (outsAt0 m c t.val t.isLt).2.2.2.1 y = topOf (outsAt0 m c t.val t.isLt).2.2.2.2 := by
  rw [scratch_next m c t hA, outsAt0_C m c t hA hC]
  frame_out
  conv_rhs => rw [sweepAt, ← found (outsAt0 m c (t.val - 1) _).2.2.2.2, ← ld_scale (iblk m c 0 t) inb_S1_S1_0 (by decide)]
  exact top_eq _ _ _ _ _

theorem last_scale (t : Fin cfg0.N) (hA : ¬t.val % 344 = 0) (hC : t.val % 344 = 343) (y : S1.Idx) :
    (outsAt0 m c t.val t.isLt).2.2.1 y = topOf (outsAt0 m c t.val t.isLt).2.2.2.2 * ((1 / 2688 : ℝ) : EReal) := by
  rw [scratch_next m c t hA, outsAt0_C m c t hA hC]
  frame_out
  conv_rhs => rw [sweepAt, ← found (outsAt0 m c (t.val - 1) _).2.2.2.2, ← ld_scale (iblk m c 0 t) inb_S1_S1_0 (by decide)]
  exact scale_eq _ _ _ _ _

/-- After grid point `n` the running maximum is bounded by `b` exactly when `b` is not negative and bounds every magnitude
    of every grid point so far. -/
theorem scratch_le (b : EReal) (n : ℕ) (hn : n < cfg0.N) :
    (∀ (p : Fin 8) (l : Fin 256), (outsAt0 m c n hn).2.2.2.2 (ix2 p l) ≤ b)
      ↔ 0 ≤ b ∧ ∀ t : Fin cfg0.N, t.val ≤ n → ∀ r ch, magAt m c t r ch ≤ b := by
  have hN : cfg0.N = 344 := N_0
  induction n with
  | zero =>
    rw [scratch_first m c ⟨0, hn⟩ rfl (by show ¬0 % 344 = 343; omega), sweepAt, sweep_le]
    simp only [start_apply]
    refine and_congr ⟨fun h => h 0 0, fun h _ _ => h⟩ ⟨fun h t ht => ?_, fun h => h ⟨0, hn⟩ le_rfl⟩
    obtain rfl : t = ⟨0, hn⟩ := Fin.ext (by show t.val = 0; omega)
    exact h
  | succ n ih =>
    have e := scratch_next m c ⟨n + 1, hn⟩ (by show ¬(n + 1) % 344 = 0; omega)
    dsimp only [Nat.add_sub_cancel] at e
    have ih' := ih (Nat.lt_of_succ_lt hn)
    rw [e, sweepAt, sweep_le]
    refine (and_congr_left fun _ => ih').trans ?_
    rw [and_assoc]
    refine and_congr Iff.rfl ⟨fun h t ht => ?_, fun h => ⟨fun t ht => h t (by omega), h ⟨n + 1, hn⟩ le_rfl⟩⟩
    rcases Nat.lt_or_ge n t.val with hlt | hge
    · obtain rfl : t = ⟨n + 1, hn⟩ := Fin.ext (by show t.val = n + 1; omega)
      exact h.2
    · exact h.1 t hge

end Cert.GateUp
-- ==== Proof.Arrays.lean ====
/-
  The kernel's result arrays after its run, at coordinates, as functions of the argument arrays.
-/
module

public import proofs.«01_k».proof.Proof.Sweep
public import Idealize.ShloMosaic.Lib.Claim

@[expose] public section

set_option maxRecDepth 16384

noncomputable section

namespace Cert.GateUp

open Cert.KernelIdeal Cert.KernelIdeal.Gen Idealize.ShloMosaic Idealize.ShloMosaic.TcCoe Idealize.SL.Sem
open Idealize.ShloMosaic.Pipeline (Dat)

/-- Which block of every array the grid point `t` works on: the block of rows `t / 43`, the block of channels `t % 43`. -/
theorem idx : ∀ t : Fin cfg0.N, win0_0.index t = ![0] ∧ win0_1.index t = ![t.val / 43, 0] ∧ win0_2.index t = ![t.val % 43, 0]
    ∧ win0_3.index t = ![43 + t.val % 43, 0] ∧ win0_4.index t = ![t.val / 43, t.val % 43]
    ∧ win0_5.index t = ![t.val / 43, t.val % 43, 0] ∧ win0_6.index t = ![0] ∧ win0_7.index t = ![0] ∧ t.val / 43 < 8 :=
  (by decide +kernel : ∀ t : Fin grid0.N, _)

/-- The activation of a token row and a channel, from the tensor scale, the tokens and the weights (channel `n`'s gate row is
    row `n` of the weights, its up row is row `11008 + n`). -/
def act (s : FVec Ideal S1 .f32) (x : FVec Ideal S16x1152x2048 .bf16) (w : FVec Ideal S22016x2048 .bf16)
    (row : Fin 18432) (n : Fin 11008) : EReal :=
  gated (s (ix1 0)) (fun k => x (ix3 ⟨row.val / 1152, by omega⟩ ⟨row.val % 1152, by omega⟩ k))
    (fun k => w (ix2 ⟨n.val, by omega⟩ k)) (fun k => w (ix2 ⟨11008 + n.val, by omega⟩ k))

variable (m : (ℓ : Loc nD τ sig) → Buf (Elt Ideal) ℓ) (c : Dev nD)

/-- The activation, of the arguments. -/
abbrev actM (row : Fin 18432) (n : Fin 11008) : EReal :=
  act (m ((c : Thread nD τ).loc main_arg0)) (m ((c : Thread nD τ).loc main_arg1)) (m ((c : Thread nD τ).loc main_arg2)) row n

/-- The tokens the grid point `t` fetches, at coordinates of the argument. -/
theorem x_eq (t : Fin cfg0.N) (r : Fin 2304) (k : Fin 2048) (row : Fin 18432) (hr : row.val = 2304 * (t.val / 43) + r.val) :
    iblk m c 1 t (ix2 r k)
      = m ((c : Thread nD τ).loc main_arg1) (ix3 ⟨row.val / 1152, by omega⟩ ⟨row.val % 1152, by omega⟩ k) := by
  blk_simp [iblk]
  have h : V m c main_v0 = shapeCast S18432x2048 (m ((c : Thread nD τ).loc main_arg1)) shapeCasts_S16x1152x2048_S18432x2048 := by
    entry_read
    rfl
  rw [h]
  have e : (win0_1.blk t).view.emb (ix2 r k) = ix2 row k := by blk_ext [idx t]
  rw [e]
  refine shapeCast_apply _ _ _ _ ?_
  refine (Shape.rowMajor_val_three (d := ![16, 1152, 2048]) (ix3 _ _ _)).trans
    (Eq.trans ?_ (Shape.rowMajor_val_two (d := ![18432, 2048]) (ix2 row k)).symm)
  change (row.val / 1152 * 1152 + row.val % 1152) * 2048 + k.val = row.val * 2048 + k.val
  omega

/-- What the grid point `t` computes at its row `r` and channel `n`. -/
theorem at_eq (t : Fin cfg0.N) (r : Fin 2304) (n : Fin 256) (row : Fin 18432) (ch : Fin 11008)
    (hr : row.val = 2304 * (t.val / 43) + r.val) (hc : ch.val = 256 * (t.val % 43) + n.val) :
    at' m c t r n = actM m c row ch := by
  unfold at' blk actM act
  simp only [x_eq m c t r _ row hr]
  blk_simp [iblk]
  blk_point [iblk, V, idx t]

/-- **The activations array**: row `i 0`, channel `i 1`. -/
theorem final4 (i : S18432x11008.Idx) : (dats m 0 c).arrAt 4 cfg0.N i = actM m c (i 0) (i 1) := by
  refine congrFun ((dats m 0 c).arrAt_eq_of_covers 4 (fun i : S18432x11008.Idx => actM m c (i 0) (i 1)) (by decide +kernel) fun t _ y => ?_) i
  blk_simp
  refine (after4 m c t y).trans (at_eq m c t _ _ _ _ ?_ ?_)
  · refine (?_ : _ = t.val / 43 * 2304 + (y 0).val).trans (by omega)
    blk_ext [idx t]
  · refine (?_ : _ = t.val % 43 * 256 + (y 1).val).trans (by omega)
    blk_ext [idx t]

/-- The row a lane of a group stands for in the whole array. -/
def groupRow (g : Fin 144) (l : Fin 128) : Fin 18432 := ⟨128 * g.val + l.val, by omega⟩

/-- **The transposed activations array**: group `i 0`, channel `i 1`, lane `i 2`. -/
theorem final5 (i : S144x11008x128.Idx) :
    (dats m 0 c).arrAt 5 cfg0.N i = actM m c (groupRow (i 0) (i 2)) (i 1) := by
  refine congrFun ((dats m 0 c).arrAt_eq_of_covers 5
    (fun i : S144x11008x128.Idx => actM m c (groupRow (i 0) (i 2)) (i 1)) (by decide +kernel) fun t _ y => ?_) i
  blk_simp
  have e0 : ((win0_5.blk t).view.emb y 0).val = t.val / 43 * 18 + (y 0).val := by blk_ext [idx t]
  have e1 : ((win0_5.blk t).view.emb y 1).val = t.val % 43 * 256 + (y 1).val := by blk_ext [idx t]
  have e2 : ((win0_5.blk t).view.emb y 2).val = (y 2).val := by blk_ext [idx t]
  refine (after5 m c t y).trans (at_eq m c t _ _ _ _ ?_ ?_)
  · change 128 * ((win0_5.blk t).view.emb y 0).val + ((win0_5.blk t).view.emb y 2).val
      = 2304 * (t.val / 43) + (128 * (y 0).val + (y 2).val)
    rw [e0, e2]; omega
  · rw [e1]; omega

/-- There is a last grid point. -/
theorem exists_last : ∃ t : Fin cfg0.N, t.val = 343 := ⟨⟨343, by decide⟩, rfl⟩

/-- The last grid point. -/
def tLast : Fin cfg0.N := Classical.choose exists_last

theorem tLast_val : tLast.val = 343 := Classical.choose_spec exists_last

/-- The largest magnitude of an activation, as the kernel has it at the last grid point. -/
def topM : EReal := topOf (outsAt0 m c tLast.val tLast.isLt).2.2.2.2

/-- `topM` is the least upper bound of 0 and of the magnitudes of all activations. -/
theorem topM_le (b : EReal) :
    topM m c ≤ b ↔ 0 ≤ b ∧ ∀ (row : Fin 18432) (n : Fin 11008), max (actM m c row n) (-actM m c row n) ≤ b := by
  refine (topOf_le _ _).trans ((scratch_le m c b tLast.val tLast.isLt).trans (and_congr_right fun _ => ?_))
  constructor
  · intro h row n
    have hr : row.val < 18432 := row.isLt
    have hn : n.val < 11008 := n.isLt
    have ht : 43 * (row.val / 2304) + n.val / 256 < cfg0.N := by
      change _ < 344
      omega
    have h' := h ⟨43 * (row.val / 2304) + n.val / 256, ht⟩ (by rw [tLast_val]; change _ ≤ 343; dsimp only; omega)
      ⟨row.val % 2304, by omega⟩ ⟨n.val % 256, by omega⟩
    have e := at_eq m c ⟨43 * (row.val / 2304) + n.val / 256, ht⟩ ⟨row.val % 2304, by omega⟩ ⟨n.val % 256, by omega⟩ row n
      (by dsimp only; omega) (by dsimp only; omega)
    rw [← e]
    exact h'
  · intro h t _ r n
    have ht : t.val / 43 < 8 := (idx t).2.2.2.2.2.2.2.2
    have e := at_eq m c t r n ⟨2304 * (t.val / 43) + r.val, by omega⟩ ⟨256 * (t.val % 43) + n.val, by omega⟩ rfl rfl
    have h' := h ⟨2304 * (t.val / 43) + r.val, by omega⟩ ⟨256 * (t.val % 43) + n.val, by omega⟩
    rw [← e] at h'
    exact h'

/-- The only grid point that writes the two one-element results is the last. -/
theorem eq_tLast (t : Fin cfg0.N) (h : t.val % 344 = 343) : t = tLast := by
  have : t.val < 344 := t.isLt
  exact Fin.ext (by rw [tLast_val]; omega)

/-- **The largest magnitude**, the kernel's fourth result. -/
theorem final7 (i : S1.Idx) : (dats m 0 c).arrAt 7 cfg0.N i = topM m c := by
  refine congrFun ((dats m 0 c).arrAt_eq_of_covers 7 (fun _ : S1.Idx => topM m c) (by decide +kernel) fun t hf y => ?_) i
  obtain rfl := eq_tLast t ((flush0_7 t).mp hf)
  blk_simp
  exact (congrFun (after0_7 m c tLast) y).trans (last_top m c tLast (by rw [tLast_val]; decide) (by rw [tLast_val]) y)

/-- **The tensor scale of the activations**, the kernel's third result. -/
theorem final6 (i : S1.Idx) : (dats m 0 c).arrAt 6 cfg0.N i = topM m c * ((1 / 2688 : ℝ) : EReal) := by
  refine congrFun ((dats m 0 c).arrAt_eq_of_covers 6 (fun _ : S1.Idx => topM m c * ((1 / 2688 : ℝ) : EReal))
    (by decide +kernel) fun t hf y => ?_) i
  obtain rfl := eq_tLast t ((flush0_6 t).mp hf)
  blk_simp
  exact (congrFun (after0_6 m c tLast) y).trans (last_scale m c tLast (by rw [tLast_val]; decide) (by rw [tLast_val]) y)

end Cert.GateUp
-- ==== Proof.Ref.lean ====
/-
  The reference's results, element by element, as the activation of the arguments.
-/
module

public import proofs.«01_k».proof.Proof.Arrays
public import proofs.«01_k».proof.Proof.Gen.ReferenceIdeal.Read

@[expose] public section

set_option maxRecDepth 16384

noncomputable section

namespace Cert.GateUp

open Cert.ReferenceIdeal Cert.ReferenceIdeal.Read Idealize.ShloMosaic Idealize.ShloMosaic.TcCoe Idealize.SL.Sem

variable (s : FVec Ideal S1 .f32) (x : FVec Ideal S16x1152x2048 .bf16) (w : FVec Ideal S22016x2048 .bf16)

/-- The word of 1.0. -/
theorem one_bits : Ideal.ofBits .f32 0x3F800000#32 = (1 : EReal) := by
  simp [Ideal.ofBits, Ideal.ieee, -EReal.coe_mul]; norm_num

/-- The word of 2688.0. -/
theorem div_bits : Ideal.ofBits .f32 0x45280000#32 = ((2688 : ℝ) : EReal) := by
  simp [Ideal.ofBits, Ideal.ieee, -EReal.coe_mul]; norm_num

/-- The tensor scale as a scalar. -/
theorem scalar_apply (i : S_.Idx) : val_main_v1 (F := Ideal) s i = s (ix1 0) :=
  congrArg s (funext fun a => by match a with | ⟨0, _⟩ => exact Subsingleton.elim (α := Fin 1) _ _)

/-- The scaled product of a token and a weight row. -/
theorem product_apply (b : Fin 16) (t : Fin 1152) (n : Fin 22016) :
    val_main_v3 (F := Ideal) s x w (ix3 b t n) = (∑ k : Fin 2048, x (ix3 b t k) * w (ix2 n k)) * s (ix1 0) := by
  rw [val_main_v3_apply, val_main_v0_apply, val_main_v2_apply, scalar_apply]
  show (∑ k, _) * _ = _
  congr 1
  refine Finset.sum_congr rfl fun k _ => ?_
  congr 2 <;> (funext a; fin_cases a <;> rfl)

/-- The activations, at batch `b`, position `t`, channel `n`. -/
theorem act_ref (b : Fin 16) (t : Fin 1152) (n : Fin 11008) :
    val_main_v13 (F := Ideal) s x w (ix3 b t n) = act s x w ⟨1152 * b.val + t.val, by omega⟩ n := by
  have eg : idx_main_v4 (ix3 b t n) = ix3 b t ⟨n.val, by omega⟩ := by
    funext a; fin_cases a <;> rfl
  have eu : idx_main_v5 (ix3 b t n) = ix3 b t ⟨11008 + n.val, by omega⟩ := by
    funext a; fin_cases a <;> first | rfl | (apply Fin.ext; simp [Nat.add_comm])
  have eb : (⟨(1152 * b.val + t.val) / 1152, by omega⟩ : Fin 16) = b := Fin.ext (by dsimp only; omega)
  have et : (⟨(1152 * b.val + t.val) % 1152, by omega⟩ : Fin 1152) = t := Fin.ext (by dsimp only; omega)
  rw [val_main_v13_apply, val_main_v12_apply, val_main_v11_apply, val_main_v9_apply, val_main_v7_apply, val_main_v6_apply,
    val_main_v10_apply, val_main_v8_apply, val_main_v4_apply, val_main_v5_apply, eg, eu, product_apply, product_apply]
  unfold act gated
  rw [eb, et]
  show (_ * Ideal.div (Ideal.ofBits .f32 0x3F800000#32) (Ideal.ofBits .f32 0x3F800000#32 + Ideal.exp (-_))) * _ = _
  rw [one_bits]

/-- The activations in rows. -/
theorem rows_ref (i : S18432x11008.Idx) : val_main_v16 (F := Ideal) s x w i = act s x w (i 0) (i 1) := by
  obtain ⟨r, n, rfl⟩ : ∃ (r : Fin 18432) (n : Fin 11008), i = ix2 r n :=
    ⟨i 0, i 1, funext fun a => by match a with | ⟨0, _⟩ => rfl | ⟨1, _⟩ => rfl⟩
  have e : idx_main_v16 (ix2 r n) = ix3 ⟨r.val / 1152, by omega⟩ ⟨r.val % 1152, by omega⟩ n := by
    funext a
    match a with
    | ⟨0, _⟩ => exact Fin.ext (by change (r.val * 11008 + n.val) / 12681216 = r.val / 1152; omega)
    | ⟨1, _⟩ => exact Fin.ext (by change (r.val * 11008 + n.val) / 11008 % 1152 = r.val % 1152; omega)
    | ⟨2, _⟩ => exact Fin.ext (by change (r.val * 11008 + n.val) % 11008 = n.val; omega)
  rw [val_main_v16_apply, e, act_ref]
  refine congrArg (fun r => act s x w r n) (Fin.ext ?_)
  change 1152 * (r.val / 1152) + r.val % 1152 = r.val
  omega

/-- **The reference's first result.** -/
theorem ref0 (i : S18432x11008.Idx) : val_main_v19 (F := Ideal) s x w i = act s x w (i 0) (i 1) := by
  rw [val_main_v19_apply]
  exact rows_ref s x w i

/-- **The reference's second result.** -/
theorem ref1 (i : S144x11008x128.Idx) : val_main_v18 (F := Ideal) s x w i = act s x w (groupRow (i 0) (i 2)) (i 1) := by
  rw [val_main_v18_apply, val_main_v17_apply, rows_ref]
  have h0 : (i 0).val < 144 := (i 0).isLt
  have h1 : (i 1).val < 11008 := (i 1).isLt
  have h2 : (i 2).val < 128 := (i 2).isLt
  refine congrArg₂ (act s x w) (Fin.ext ?_) (Fin.ext ?_)
  · change (((i 0).val * 128 + (i 2).val) * 11008 + (i 1).val) / 11008 = 128 * (i 0).val + (i 2).val
    omega
  · change (((i 0).val * 128 + (i 2).val) * 11008 + (i 1).val) % 11008 = (i 1).val
    omega

/-- The largest magnitude, as the reference's reduction has it. -/
def topR : EReal := val_main_v15 (F := Ideal) s x w (fun a => a.elim0)

/-- A left fold by maximum is at most `b` exactly when its start and all its terms are. -/
theorem foldl_max_le {ι : Type} (f : ι → EReal) (b : EReal) :
    ∀ (l : List ι) (a : EReal), l.foldl (fun r i => max r (f i)) a ≤ b ↔ a ≤ b ∧ ∀ i ∈ l, f i ≤ b
  | [], a => by simp
  | i :: l, a => by
    rw [List.foldl_cons, foldl_max_le f b l, max_le_iff, List.forall_mem_cons, and_assoc]

/-- A maximum over all axes, from minus infinity, is at most `b` exactly when every element is. -/
theorem reduceAll_le {s₀ t₀ u₀ : Shape} {axes : List (Fin s₀.rank)} [Subsingleton t₀.Idx] (v : FVec Ideal s₀ .f32)
    (z : FVec Ideal u₀ .f32) (hz : ∀ i, z i = (⊥ : EReal)) (h : s₀.ReducesTo axes t₀) (hu : 0 < u₀.numel) (j : t₀.Idx) (b : EReal) :
    (Host.reduce (α := Ideal .f32) FloatOps.maximumf v z h hu j : EReal) ≤ b ↔ ∀ i, (v i : EReal) ≤ b := by
  rw [Host.reduce_eq_foldl]
  refine (foldl_max_le _ b _ _).trans ?_
  rw [hz]
  refine ⟨fun hh i => hh.2 i (List.mem_filter.mpr ⟨List.mem_map.mpr ⟨s₀.rowMajor i, List.mem_finRange _,
    Equiv.symm_apply_apply _ _⟩, decide_eq_true (Subsingleton.elim _ _)⟩), fun hh => ⟨bot_le, fun i _ => hh i⟩⟩

/-- `topR` is the least upper bound of the magnitudes of all activations. -/
theorem topR_le (b : EReal) :
    topR s x w ≤ b ↔ ∀ (row : Fin 18432) (n : Fin 11008), max (act s x w row n) (-act s x w row n) ≤ b := by
  have : Subsingleton S_.Idx := ⟨fun _ _ => funext fun a => a.elim0⟩
  have hz : ∀ i, val_main_cst_1 (F := Ideal) i = (⊥ : EReal) := fun _ => negInf_bits
  unfold topR val_main_v15
  refine (reduceAll_le (val_main_v14 (F := Ideal) s x w) (val_main_cst_1 (F := Ideal)) hz
    Gen.reducesTo_S16x1152x11008_S_d0_1_2 Gen.h_S_ _ b).trans ?_
  constructor
  · intro h row n
    have h' := h (ix3 ⟨row.val / 1152, by omega⟩ ⟨row.val % 1152, by omega⟩ n)
    rw [val_main_v14_apply, act_ref] at h'
    have e : (⟨1152 * (row.val / 1152) + row.val % 1152, by omega⟩ : Fin 18432) = row := Fin.ext (by dsimp only; omega)
    rw [e] at h'
    exact h'
  · intro h i
    obtain ⟨b, t, n, rfl⟩ : ∃ (b : Fin 16) (t : Fin 1152) (n : Fin 11008), i = ix3 b t n :=
      ⟨i 0, i 1, i 2, funext fun a => by match a with | ⟨0, _⟩ => rfl | ⟨1, _⟩ => rfl | ⟨2, _⟩ => rfl⟩
    rw [val_main_v14_apply, act_ref]
    exact h _ _

/-- A magnitude is not negative. -/
theorem zero_le_mag (a : EReal) : 0 ≤ max a (-a) := by
  rcases le_total 0 a with h | h
  · exact le_max_of_le_left h
  · exact le_max_of_le_right (EReal.neg_nonneg.mpr h)

/-- The largest magnitude, as the kernel and as the reference find it. -/
theorem top_eq_ref (m : (ℓ : Loc Cert.KernelIdeal.nD Cert.KernelIdeal.τ Cert.KernelIdeal.sig) → Buf (Elt Ideal) ℓ)
    (c : Dev Cert.KernelIdeal.nD) :
    topM m c = topR (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)) := by
  refine eq_of_forall_ge_iff fun b => ?_
  rw [topM_le, topR_le]
  exact ⟨fun h => h.2, fun h => ⟨(zero_le_mag _).trans (h 0 0), h⟩⟩

/-- A scalar as a one-element array, read. -/
theorem ofScalar_apply {α : Type} (y : S_.Idx → α) (h : S_.ShapeCasts S1) (i : S1.Idx) (j : S_.Idx) : shapeCast S1 y h i = y j := by
  unfold shapeCast
  exact congrArg y (funext fun a => a.elim0)

/-- **The reference's fourth result.** -/
theorem ref3 (i : S1.Idx) : val_main_v22 (F := Ideal) s x w i = topR s x w := by
  unfold val_main_v22 topR
  generalize val_main_v15 (F := Ideal) s x w = y
  exact ofScalar_apply y _ i _

/-- The scale as a scalar. -/
theorem scale_ref (i : S_.Idx) :
    val_main_v20 (F := Ideal) s x w i = val_main_v15 (F := Ideal) s x w i * ((1 / 2688 : ℝ) : EReal) := by
  rw [val_main_v20_apply]
  generalize val_main_v15 (F := Ideal) s x w i = a
  have e : val_main_cst_2 (F := Ideal) i = ((2688 : ℝ) : EReal) := div_bits
  rw [e]
  exact Ideal.div_coe (by norm_num : (2688 : ℝ) ≠ 0) a

/-- **The reference's third result.** -/
theorem ref2 (i : S1.Idx) : val_main_v21 (F := Ideal) s x w i = topR s x w * ((1 / 2688 : ℝ) : EReal) := by
  refine Eq.trans ?_ (scale_ref s x w fun a => a.elim0)
  unfold val_main_v21
  generalize val_main_v20 (F := Ideal) s x w = y
  exact ofScalar_apply y _ i _

/-- The reference's run: what each result array ends holding, as the values read above, and the arguments unchanged. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v19) = val_main_v19 (F := Ideal) (m ((c.tc : Thread nD τ).loc main_arg0))
        (m ((c.tc : Thread nD τ).loc main_arg1)) (m ((c.tc : Thread nD τ).loc main_arg2))
      ∧ r.2.mem ((c.tc : Thread nD τ).loc main_v18) = val_main_v18 (F := Ideal) (m ((c.tc : Thread nD τ).loc main_arg0))
        (m ((c.tc : Thread nD τ).loc main_arg1)) (m ((c.tc : Thread nD τ).loc main_arg2))
      ∧ r.2.mem ((c.tc : Thread nD τ).loc main_v21) = val_main_v21 (F := Ideal) (m ((c.tc : Thread nD τ).loc main_arg0))
        (m ((c.tc : Thread nD τ).loc main_arg1)) (m ((c.tc : Thread nD τ).loc main_arg2))
      ∧ r.2.mem ((c.tc : Thread nD τ).loc main_v22) = val_main_v22 (F := Ideal) (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (val_main_v19_eq _ _ _), (h c).2.1.trans (val_main_v18_eq _ _ _),
    (h c).2.2.1.trans (val_main_v21_eq _ _ _), (h c).2.2.2.1.trans (val_main_v22_eq _ _ _), (h c).2.2.2.2⟩)
    (Cert.ReferenceIdeal.Value.run m ρ)

end Cert.GateUp
-- ==== Proof.ScalesRun.lean ====
/-
  The call `w_scales`, one grid point at a time, for the program `Scales`.

  A grid point reads 512 rows of the weights, reduces them to the 32 × 128 largest absolute values of their
  16 × 16 blocks (`slice`), and stores these as 32 rows of a scratch buffer that lives through the whole grid.
  The last point then reads the whole scratch buffer and stores the three results.

  `run_step` is the body at a point that is not the last one, `run_last` the body at the last point.
-/
module

public import proofs.«01_k».proof.Proof.Gen.Scales.Launch
public import proofs.«01_k».proof.Proof.Gen.Scales.Skeleton
public import proofs.«01_k».proof.Proof.Gen.Scales.Points
public import proofs.«01_k».proof.Proof.Gen.Scales.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit
public import Idealize.ShloMosaic.Lib.VecWindow

@[expose] public section

set_option maxRecDepth 131072

noncomputable section

namespace Cert.Scales.Hand

open Cert.Scales Cert.Scales.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a grid point stores into its 32 rows of the scratch buffer, as a function of the 512 rows of weights it
    reads: the body's own operations, in its own order. -/
def slice (v0 : Vec F S512x2048 .bf16) : Vec F S32x128 .f32 :=
  let v5 : IVec S32x128 32 := iota .tc S32x128 32 [1] iota_S32x128_d1_w32
  let v4 : FVec F S32x2048 .f32 := k0_pay6 v0
  let v23 : IVec S32x128 32 := k0_pay7
  let v24 : FVec F S32x128 .f32 := k0_pay8 (F := F)
  let v41 := k0_pay9 v0
  let v68 : FVec F S32x128 .f32 := k0_pay10 v5 v24 v41
  let v85 : FVec F S32x128 .f32 := k0_pay11 v4 v23
  let c8_i32_20 : BitVec 32 := 8#32
  let v86 := k0_pay12
  let v112 : FVec F S32x128 .f32 := k0_pay13 v5 v68 v85 c8_i32_20 v86
  let v129 : FVec F S32x128 .f32 := k0_pay14 v4 v23
  let c8_i32_34 : BitVec 32 := 8#32
  let v131 : IVec S32x128 32 := k0_pay15 v5
  let c0_i32_35 := 0#32
  let v156 : FVec F S32x128 .f32 := k0_pay16 v5 v112 v129 c8_i32_34 v131 c0_i32_35
  let v173 : FVec F S32x128 .f32 := k0_pay17 v4 v23
  let c8_i32_47 : BitVec 32 := 8#32
  let v175 : IVec S32x128 32 := k0_pay18 v5
  let v177 := k0_pay19 v5
  let v200 : FVec F S32x128 .f32 := k0_pay20 v5 v156 v173 c8_i32_47 v175 v177
  let v217 : FVec F S32x128 .f32 := k0_pay21 v4 v23
  let c8_i32_60 : BitVec 32 := 8#32
  let v219 : IVec S32x128 32 := k0_pay22 v5
  let v222 : IVec S32x128 32 := k0_pay23 v5
  let c0_i32_62 := 0#32
  let v244 : FVec F S32x128 .f32 := k0_pay24 v5 v200 v217 c8_i32_60 v219 v222 c0_i32_62
  let v261 : FVec F S32x128 .f32 := k0_pay25 v4 v23
  let c8_i32_73 : BitVec 32 := 8#32
  let v263 : IVec S32x128 32 := k0_pay26 v5
  let v266 : IVec S32x128 32 := k0_pay27 v5
  let v268 := k0_pay28 v5
  let v288 : FVec F S32x128 .f32 := k0_pay29 v5 v244 v261 c8_i32_73 v263 v266 v268
  let v305 : FVec F S32x128 .f32 := k0_pay30 v4 v23
  let c8_i32_86 : BitVec 32 := 8#32
  let v307 : IVec S32x128 32 := k0_pay31 v5
  let v314 := k0_pay32 v5
  let v359 : BitVec 1 := Scalar.cmpi .sgt 8#32 0#32
  let v332 : FVec F S32x128 .f32 := k0_pay33 v5 v288 v305 c8_i32_86 v307 v314
  let v349 : FVec F S32x128 .f32 := k0_pay34 v4 v23
  let c8_i32_99 : BitVec 32 := 8#32
  let v351 : IVec S32x128 32 := k0_pay35 v5
  let v358 : IVec S32x128 32 := k0_pay36 v5
  let v403 : BitVec 1 := Scalar.cmpi .sgt 8#32 0#32
  let v404 : BitVec 32 := Scalar.extui v403
  let v376 : FVec F S32x128 .f32 := k0_pay37 v5 v332 v349 c8_i32_99 v351 v358 v359
  let v393 : FVec F S32x128 .f32 := k0_pay38 v4 v23
  let c8_i32_112 : BitVec 32 := 8#32
  let v395 : IVec S32x128 32 := k0_pay39 v5
  let v402 : IVec S32x128 32 := k0_pay40 v5
  let c0_i32_116 := 0#32
  let v447 : BitVec 1 := Scalar.cmpi .sgt 8#32 0#32
  let v448 : BitVec 32 := Scalar.extui v447
  let v449 : BitVec 1 := Scalar.cmpi .slt 8#32 0#32
  let v450 : BitVec 32 := Scalar.extui v449
  let v420 : FVec F S32x128 .f32 := k0_pay41 v5 v376 v393 c8_i32_112 v395 v402 v404 c0_i32_116
  let v437 : FVec F S32x128 .f32 := k0_pay42 v4 v23
  let c8_i32_126 : BitVec 32 := 8#32
  let v439 : IVec S32x128 32 := k0_pay43 v5
  let v446 : IVec S32x128 32 := k0_pay44 v5
  let v464 : FVec F S32x128 .f32 := k0_pay45 v5 v420 v437 c8_i32_126 v439 v446 v448 v450
  let v481 : FVec F S32x128 .f32 := k0_pay46 v4 v23
  let c8_i32_139 : BitVec 32 := 8#32
  let v483 : IVec S32x128 32 := k0_pay47 v5
  let v490 : IVec S32x128 32 := k0_pay48 v5
  let v496 := k0_pay49
  let v508 : FVec F S32x128 .f32 := k0_pay50 v5 v464 v481 c8_i32_139 v483 v490 v496
  let v525 : FVec F S32x128 .f32 := k0_pay51 v4 v23
  let v527 : IVec S32x128 32 := k0_pay52 v5
  let v541 : IVec S32x128 1 := k0_pay53 v5
  let v542 := k0_pay54
  let v552 : FVec F S32x128 .f32 := k0_pay55 v5 v508 v525 v527 v541 v542
  let v569 : FVec F S32x128 .f32 := k0_pay56 v4 v23
  let v571 : IVec S32x128 32 := k0_pay57 v5
  let v585 : IVec S32x128 1 := k0_pay58 v5
  let v587 : IVec S32x128 32 := k0_pay59 v5
  let c0_i32_170 := 0#32
  let v596 : FVec F S32x128 .f32 := k0_pay60 v552 v569 v571 v585 v587 c0_i32_170
  let v613 : FVec F S32x128 .f32 := k0_pay61 v4 v23
  let v615 : IVec S32x128 32 := k0_pay62 v5
  let v629 : IVec S32x128 1 := k0_pay63 v5
  let v633 := k0_pay64 v5
  let v640 : FVec F S32x128 .f32 := k0_pay65 v596 v613 v615 v629 v633
  let v657 : FVec F S32x128 .f32 := k0_pay66 v4 v23
  let v659 : IVec S32x128 32 := k0_pay67 v5
  let v678 : IVec S32x128 1 := k0_pay68 v5
  let c1_i32_197 := 1#32
  let v684 : FVec F S32x128 .f32 := k0_pay69 v640 v657 v659 v678 c1_i32_197
  let v701 : FVec F S32x128 .f32 := k0_pay70 v4 v23
  let v703 : IVec S32x128 32 := k0_pay71 v5
  let v722 : IVec S32x128 1 := k0_pay72 v5
  let v724 := k0_pay73 v5
  k0_pay1 v684 v701 v703 v722 v724

/-- The rectangle of the scratch buffer a grid point stores into. -/
abbrev rows (i : grid0.Coords) : Rect S1376x128 := Rect.unit (s := S1376x128) (k0_off1 i) S32x128.size (k0_off1_inb i)

/-- The scratch buffer after a grid point's store: the point's slice in its rows, the rest as it was. -/
def stored (arg5 : Memref sig .tc .vmem S1376x128 .f32) (harg5 : arg5.IsWhole) (i : grid0.Coords)
    (x0 : Vec F S512x2048 .bf16) (xs : Vec F S1376x128 .f32) : Vec F S1376x128 .f32 :=
  arg5.view.read (Elt F) (arg5.view.writes (Elt F) (harg5.unread xs) [⟨rows i, slice x0⟩])

/-- The body at a point that is not the last one: the weights' rows stay, the scratch buffer gets the point's
    slice, nothing else is touched. -/
theorem run_step (c : Dev nD) (i : grid0.Coords) (arg1 : Memref sig .tc .vmem S512x2048 .bf16) (harg1 : arg1.IsWhole)
    (arg2 : Memref sig .tc .vmem S1376x128 .fp8e4m3) (harg2 : arg2.IsWhole) (arg3 : Memref sig .tc .vmem S1376x128 .f32) (harg3 : arg3.IsWhole)
    (arg4 : Memref sig .tc .smem S1 .f32) (harg4 : arg4.IsWhole) (arg5 : Memref sig .tc .vmem S1376x128 .f32) (harg5 : arg5.IsWhole)
    (hc : ¬ k0_cond1 i = 1#1) (x0 : Vec F S512x2048 .bf16) (xs : Vec F S1376x128 .f32)
    (E : Set ℕ) (K : PUnit → sProp 𝕄) :
    iprop(owns (c : Thread nD τ) arg1 fullShare x0 ∗ owns (c : Thread nD τ) arg5 fullShare xs
        ∗ (iprop(owns (c : Thread nD τ) arg1 fullShare x0 ∗ owns (c : Thread nD τ) arg5 fullShare (stored arg5 harg5 i x0 xs)) -∗ K PUnit.unit))
      ⊢ wp frame (wpE (defs₀ (F := F)) Variants.none c none) E (cc0_w_scales i arg1 harg1 arg2 harg2 arg3 harg3 arg4 harg4 arg5 harg5) K := by
  simp only [cc0_w_scales_eq_skeleton]; unfold cc0_w_scales_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f0, %hf0, H0⟩, ⟨%fs, %hfs, HS⟩, Hk⟩
  obtain rfl := harg1.eq_unread hf0; obtain rfl := harg5.eq_unread hfs
  sl_exec (disch := first | sl_exact hc)
  sl_step
  iapply Hk
  isplitl [H0]
  · iexists _; isplitr; · ipureintro; exact harg1.read_unread _
    iexact H0
  iexists _; isplitr
  · ipureintro; exact rfl
  have hv : View.readAt (Elt F) arg1.view (Rect.unit (s := S512x2048) ![0, 0] S512x2048.size inb_S512x2048_S512x2048_0_0).toLoadRect (harg1.unread x0) = x0 :=
    (View.readAt_full arg1.view _ inb_S512x2048_S512x2048_0_0).trans (harg1.read_unread x0)
  have hs : k0_pay1 (run_step.sl.r_30 c arg1 harg1 x0) (run_step.sl.r_31 c arg1 harg1 x0) (k0_pay71 run_step.sl.v5) (k0_pay72 run_step.sl.v5) (k0_pay73 run_step.sl.v5) = slice x0 := by
    dsimp only [run_step.sl.v5, run_step.sl.r, run_step.sl.r_1, run_step.sl.r_2, run_step.sl.r_3, run_step.sl.r_4, run_step.sl.r_5, run_step.sl.r_6, run_step.sl.r_7, run_step.sl.r_8, run_step.sl.r_9, run_step.sl.r_10, run_step.sl.r_11, run_step.sl.r_12, run_step.sl.r_13, run_step.sl.r_14, run_step.sl.r_15, run_step.sl.r_16, run_step.sl.r_17, run_step.sl.r_18, run_step.sl.r_19, run_step.sl.r_20, run_step.sl.r_21, run_step.sl.r_22, run_step.sl.r_23, run_step.sl.r_24, run_step.sl.r_25, run_step.sl.r_26, run_step.sl.r_27, run_step.sl.r_28, run_step.sl.r_29, run_step.sl.r_30, run_step.sl.r_31, slice]
    rw [hv]
    rfl
  rw [hs]
  iexact HS

/-- The body at the last point: as at the others, and then, from the whole scratch buffer, the three results. -/
theorem run_last (c : Dev nD) (i : grid0.Coords) (arg1 : Memref sig .tc .vmem S512x2048 .bf16) (harg1 : arg1.IsWhole)
    (arg2 : Memref sig .tc .vmem S1376x128 .fp8e4m3) (harg2 : arg2.IsWhole) (arg3 : Memref sig .tc .vmem S1376x128 .f32) (harg3 : arg3.IsWhole)
    (arg4 : Memref sig .tc .smem S1 .f32) (harg4 : arg4.IsWhole) (arg5 : Memref sig .tc .vmem S1376x128 .f32) (harg5 : arg5.IsWhole)
    (hc : k0_cond1 i = 1#1) (x0 : Vec F S512x2048 .bf16) (xs : Vec F S1376x128 .f32)
    (E : Set ℕ) (K : PUnit → sProp 𝕄) :
    iprop(owns (c : Thread nD τ) arg1 fullShare x0 ∗ (∃ d, owns (c : Thread nD τ) arg2 fullShare d) ∗ (∃ d, owns (c : Thread nD τ) arg3 fullShare d)
        ∗ (∃ d, owns (c : Thread nD τ) arg4 fullShare d) ∗ owns (c : Thread nD τ) arg5 fullShare xs
        ∗ (iprop(owns (c : Thread nD τ) arg1 fullShare x0 ∗ owns (c : Thread nD τ) arg2 fullShare (k0_pay4 (stored arg5 harg5 i x0 xs))
            ∗ owns (c : Thread nD τ) arg3 fullShare (k0_pay5 (stored arg5 harg5 i x0 xs))
            ∗ owns (c : Thread nD τ) arg4 fullShare (fun _ => k0_pay3 (stored arg5 harg5 i x0 xs))
            ∗ owns (c : Thread nD τ) arg5 fullShare (stored arg5 harg5 i x0 xs)) -∗ K PUnit.unit))
      ⊢ wp frame (wpE (defs₀ (F := F)) Variants.none c none) E (cc0_w_scales i arg1 harg1 arg2 harg2 arg3 harg3 arg4 harg4 arg5 harg5) K := by
  simp only [cc0_w_scales_eq_skeleton]; unfold cc0_w_scales_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f0, %hf0, H0⟩, ⟨%d2, %f2, -, H2⟩, ⟨%d3, %f3, -, H3⟩, ⟨%d4, %f4, -, H4⟩, ⟨%fs, %hfs, HS⟩, Hk⟩
  obtain rfl := harg1.eq_unread hf0; obtain rfl := harg5.eq_unread hfs
  sl_exec (disch := first | sl_exact hc)
  sl_step
  have hv : View.readAt (Elt F) arg1.view (Rect.unit (s := S512x2048) ![0, 0] S512x2048.size inb_S512x2048_S512x2048_0_0).toLoadRect (harg1.unread x0) = x0 :=
    (View.readAt_full arg1.view _ inb_S512x2048_S512x2048_0_0).trans (harg1.read_unread x0)
  have hs : k0_pay1 (run_last.sl.r_30 c arg1 harg1 x0) (run_last.sl.r_31 c arg1 harg1 x0) (k0_pay71 run_last.sl.v5) (k0_pay72 run_last.sl.v5) (k0_pay73 run_last.sl.v5) = slice x0 := by
    dsimp only [run_last.sl.v5, run_last.sl.r, run_last.sl.r_1, run_last.sl.r_2, run_last.sl.r_3, run_last.sl.r_4, run_last.sl.r_5, run_last.sl.r_6, run_last.sl.r_7, run_last.sl.r_8, run_last.sl.r_9, run_last.sl.r_10, run_last.sl.r_11, run_last.sl.r_12, run_last.sl.r_13, run_last.sl.r_14, run_last.sl.r_15, run_last.sl.r_16, run_last.sl.r_17, run_last.sl.r_18, run_last.sl.r_19, run_last.sl.r_20, run_last.sl.r_21, run_last.sl.r_22, run_last.sl.r_23, run_last.sl.r_24, run_last.sl.r_25, run_last.sl.r_26, run_last.sl.r_27, run_last.sl.r_28, run_last.sl.r_29, run_last.sl.r_30, run_last.sl.r_31, slice]
    rw [hv]
    rfl
  have hL : run_last.sl.HS_1 c i arg1 harg1 x0 = [⟨rows i, slice x0⟩] := by
    rw [← hs]
    rfl
  have h738 : run_last.sl.v738 c i arg1 harg1 arg5 harg5 x0 xs = stored arg5 harg5 i x0 xs := by
    unfold run_last.sl.v738 stored
    rw [hL]
    exact View.readAt_full arg5.view _ inb_S1376x128_S1376x128_0_0
  rw [h738, hL]
  iapply Hk
  isplitl [H0]
  · iexists _; isplitr; · ipureintro; exact harg1.read_unread _
    iexact H0
  isplitl [H2]
  · iexists _; isplitr
    swap; · iexact H2
    ipureintro; exact View.read_writes_full arg2.view _ inb_S1376x128_S1376x128_0_0 _ []
  isplitl [H3]
  · iexists _; isplitr
    swap; · iexact H3
    ipureintro; exact View.read_writes_full arg3.view _ inb_S1376x128_S1376x128_0_0 _ []
  isplitl [H4]
  · iexists _; isplitr
    swap; · iexact H4
    ipureintro; exact View.read_writes_full arg4.view _ inb_S1_S1_0 _ []
  iexists _; isplitr
  · ipureintro; exact rfl
  iexact HS

end Cert.Scales.Hand

end
-- ==== Proof.ScalesFrame.lean ====
/-
  The call `w_scales`, the whole grid, for the program `Scales`: it always finishes, leaves its argument and every
  semaphore as they were, and its three results are the stated functions of the block maxima `full` of the
  weights.

  The scratch buffer is filled a slice of 32 rows a grid point. `Good n s` says that the rows of the first `n` points
  are right; the last point, number 42, finds 42 slices, adds its own, and reads the whole buffer.
-/
module

public import proofs.«01_k».proof.Proof.ScalesRun
public import Idealize.ShloMosaic.Lib.Claim

@[expose] public section

set_option maxRecDepth 16384

noncomputable section

namespace Cert.Scales.Hand

open Cert.Scales Cert.Scales.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch buffer, slice by slice -/

/-- The block maxima of all the weights: row `r` is row `r % 32` of what point `r / 32` stores. -/
def full (c : Dev nD) : Vec F S1376x128 .f32 := fun y =>
  slice (iblk m c 0 ⟨(y (0 : Fin 2)).val / 32, lt_of_lt_of_eq (by have h : (y (0 : Fin 2)).val < 1376 := (y (0 : Fin 2)).isLt; omega) N_0.symm⟩)
    (fun a => match a with | ⟨0, _⟩ => ⟨(y (0 : Fin 2)).val % 32, Nat.mod_lt _ (by decide)⟩ | ⟨1, _⟩ => y (1 : Fin 2))

/-- The rows of the first `n` points hold what they should. -/
def Good (c : Dev nD) (n : ℕ) (s : Vec F S1376x128 .f32) : Prop :=
  ∀ y : S1376x128.Idx, (y (0 : Fin 2)).val < 32 * n → s y = full m c y

/-- Before the first point nothing is asked. -/
theorem good_zero (c : Dev nD) (s : Vec F S1376x128 .f32) : Good m c 0 s := fun _ h => absurd h (Nat.not_lt_zero _)

/-- With the rows of all 43 points right, the buffer is `full`. -/
theorem good_all (c : Dev nD) (s : Vec F S1376x128 .f32) (h : Good m c 43 s) : s = full m c :=
  funext fun y => h y (y (0 : Fin 2)).isLt

/-- Point `t` stores at row `32 · t`. -/
theorem off1_eq (t : Fin cfg0.N) : k0_off1 (grid0.coords t) = ![32 * t.val, 0] := by
  have e0 : (grid0.coords t 0).val = t.val / 1 % 43 := Pipeline.Grid.coords_val t 0 (by decide) rfl
  have ht : t.val < 43 := Nat.lt_of_lt_of_eq t.isLt N_0
  have e : (grid0.coords t 0).val = t.val := by rw [e0]; omega
  have hd : ∀ n : Fin 43, (Scalar.indexCast (Scalar.muli (BitVec.ofNat 32 n.val) 32#32) : Index).toNat = 32 * n.val := by decide +kernel
  unfold k0_off1
  dsimp only
  rw [e, hd ⟨t.val, ht⟩]

/-- A point's store keeps the rows before it and makes its own right. -/
theorem good_stored (c : Dev nD) (t : Fin cfg0.N) (arg5 : Memref sig .tc .vmem S1376x128 .f32) (harg5 : arg5.IsWhole)
    (s : Vec F S1376x128 .f32) (h : Good m c t.val s) :
    Good m c (t.val + 1) (stored arg5 harg5 (grid0.coords t) (iblk m c 0 t) s) := by
  intro y hy
  unfold stored
  refine (View.read_writes_cons_rows (o := 32 * t.val) (W := 32) (size := S32x128.size) arg5.view _ _ _ [] y (off1_eq t) rfl rfl).trans ?_
  by_cases hlt : 32 * t.val ≤ (y (0 : Fin 2)).val ∧ (y (0 : Fin 2)).val < 32 * t.val + 32
  · rw [dif_pos hlt]
    have hq : (y (0 : Fin 2)).val / 32 = t.val := by omega
    have hr : (y (0 : Fin 2)).val % 32 = (y (0 : Fin 2)).val - 32 * t.val := by omega
    unfold full
    have ht : (⟨(y (0 : Fin 2)).val / 32, by rw [hq]; exact t.isLt⟩ : Fin cfg0.N) = t := Fin.ext hq
    rw [ht]
    refine congrArg (slice (iblk m c 0 t)) (funext fun a => ?_)
    match a with
    | ⟨0, _⟩ => exact Fin.ext hr.symm
    | ⟨1, _⟩ => exact Fin.ext (Nat.sub_zero _)
  · rw [dif_neg hlt]
    have hlt' : (y (0 : Fin 2)).val < 32 * t.val := by omega
    rw [View.writes_nil, harg5.read_unread]
    exact h y hlt'

/-! ## The pipeline's proof data -/

/-- The scratch buffer. -/
abbrev scM : Memref sig .tc .vmem S1376x128 .f32 := Memref.whole cc0_scratch0

/-- What is known between two points: the first `n` slices of the scratch buffer are right. -/
def Inv (c : Dev nD) (n : ℕ) : sProp 𝕄 :=
  iprop((∃ s, ⌜Good m c n s⌝ ∗ owns (c : Thread nD τ) scM fullShare s) ∗ (∃ r, prngReg c r))

/-- What the grid starts from and gives back: the scratch buffer at anything. -/
theorem rest_eq (c : Dev nD) : (Pipeline.ΦA spec0 c : sProp 𝕄) = iprop((∃ d, owns (c : Thread nD τ) scM fullShare d) ∗ (∃ r, prngReg c r)) := by
  unfold Pipeline.ΦA
  rw [scopedRest0_eq]
  simp only [scM, owns_whole]
  try rfl

/-- The proof data: the weights' rows stay as they are, and the three results at the last point are the body's
    functions of the block maxima `full`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => k0_pay4 (full m c)
    | ⟨2, _⟩ => k0_pay5 (full m c)
    | ⟨3, _⟩ => fun _ => k0_pay3 (full m c)
  Φ t := Inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = k0_pay4 (full m c) := by dsimp only [dats]
theorem after_2 (c : Dev nD) (t : Fin cfg0.N) : (dats m 0 c).after 2 t = k0_pay5 (full m c) := by dsimp only [dats]
theorem after_3 (c : Dev nD) (t : Fin cfg0.N) : (dats m 0 c).after 3 t = fun _ => k0_pay3 (full m c) := by dsimp only [dats]

theorem before_0 (c : Dev nD) (t : Fin cfg0.N) (d) : (dats m 0 c).before 0 t d = iblk m c 0 t :=
  before0_0_of m (dats m 0 c) (A_eq m c 0) (after_0 m c) t d

/-! ## The last point, and where the results' windows are idle -/

/-- The body's condition holds at point 42 only. -/
theorem last_iff (t : Fin cfg0.N) : k0_cond1 (grid0.coords t) = 1#1 ↔ t.val = 42 := by
  have ht : t.val < 43 := Nat.lt_of_lt_of_eq t.isLt N_0
  have e0 : (grid0.coords t 0).val = t.val / 1 % 43 := Pipeline.Grid.coords_val t 0 (by decide) rfl
  have h : k0_cond1 (grid0.coords t) = 1#1 ↔ t.val % 43 = 42 := by
    simp only [k0_cond1, e0]
    word_cmp
  rw [h]
  omega

theorem live_0 : ∀ t : Fin cfg0.N, cfg0.idle 0 (grid0.coords t) = false := fun _ => rfl
theorem idle_out : ∀ w : Fin cfg0.W, w ≠ 0 → ∀ t : Fin cfg0.N, ¬ k0_cond1 (grid0.coords t) = 1#1 → cfg0.idle w (grid0.coords t) = true := by decide +kernel
theorem noFlush_out : ∀ w : Fin cfg0.W, w ≠ 0 → ∀ t : Fin cfg0.N, ¬ k0_cond1 (grid0.coords t) = 1#1 → (cfg0.win w).flush t = false := by decide +kernel
theorem live_out : ∀ w : Fin cfg0.W, w ≠ 0 → ∀ t : Fin cfg0.N, k0_cond1 (grid0.coords t) = 1#1 → cfg0.idle w (grid0.coords t) = false := by decide +kernel

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What the body leaves at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- The body at any point takes what it is called with to what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0]
  rw [show (dats m 0 c).owesAt () t.succ = (dats m 0 c).owesAt () t.castSucc from rfl,
    show (dats m 0 c).Φ t.succ = Inv m c (t.val + 1) from rfl,
    show (dats m 0 c).Φ t.castSucc = Inv m c t.val from rfl]
  rw [show (dats m 0 c).leavesExact 0 t = owns (c : Thread nD τ) (st0_0 t) fullShare ((dats m 0 c).after 0 t) from by
    unfold Dat.leavesExact; rw [live_0 t], after_0]
  unfold Inv
  by_cases hc : k0_cond1 (grid0.coords t) = 1#1
  · rw [show (dats m 0 c).leavesExact 1 t = owns (c : Thread nD τ) (st0_1 t) fullShare ((dats m 0 c).after 1 t) from by
      unfold Dat.leavesExact; rw [live_out 1 (by decide) t hc], after_1]
    rw [show (dats m 0 c).leavesExact 2 t = owns (c : Thread nD τ) (st0_2 t) fullShare ((dats m 0 c).after 2 t) from by
      unfold Dat.leavesExact; rw [live_out 2 (by decide) t hc], after_2]
    rw [show (dats m 0 c).leavesExact 3 t = owns (c : Thread nD τ) (st0_3 t) fullShare ((dats m 0 c).after 3 t) from by
      unfold Dat.leavesExact; rw [live_out 3 (by decide) t hc], after_3]
    have h42 : t.val = 42 := (last_iff t).mp hc
    iintro ⟨⟨⟨%s, %hs, HS⟩, Hg⟩, Ho, ⟨%d0, H0⟩, ⟨%d1, H1⟩, ⟨%d2, H2⟩, ⟨%d3, H3⟩⟩
    have hn := good_stored m c t scM (Memref.isWhole_whole _) s hs
    have hfull : stored scM (Memref.isWhole_whole _) (grid0.coords t) (iblk m c 0 t) s = full m c :=
      good_all m c _ (by rw [h42] at hn; exact hn)
    iapply (run_last c (grid0.coords t) _ _ _ _ _ _ _ _ scM (Memref.isWhole_whole _) hc (iblk m c 0 t) s Set.univ _)
    rw [hfull]
    isplitl [H0]; · iexact H0
    isplitl [H1]; · iexists _; iexact H1
    isplitl [H2]; · iexists _; iexact H2
    isplitl [H3]; · iexists _; iexact H3
    isplitl [HS]; · iexact HS
    iintro ⟨H0, H1, H2, H3, HS⟩
    isplitl [HS Hg]
    · isplitl [HS]
      · iexists _; isplitr
        swap; · iexact HS
        ipureintro; rw [← hfull]; exact hn
      iexact Hg
    isplitl [Ho]; · iexact Ho
    isplitl [H0]; · iexact H0
    isplitl [H1]; · iexact H1
    isplitl [H2]; · iexact H2
    iexact H3
  · rw [Dat.leavesExact_idle (dats m 0 c) 1 t (idle_out 1 (by decide) t hc) (noFlush_out 1 (by decide) t hc),
      Dat.leavesExact_idle (dats m 0 c) 2 t (idle_out 2 (by decide) t hc) (noFlush_out 2 (by decide) t hc),
      Dat.leavesExact_idle (dats m 0 c) 3 t (idle_out 3 (by decide) t hc) (noFlush_out 3 (by decide) t hc)]
    iintro ⟨⟨⟨%s, %hs, HS⟩, Hg⟩, Ho, ⟨%d0, H0⟩, ⟨%d1, H1⟩, ⟨%d2, H2⟩, ⟨%d3, H3⟩⟩
    have hn := good_stored m c t scM (Memref.isWhole_whole _) s hs
    iapply (run_step c (grid0.coords t) _ _ _ _ _ _ _ _ scM (Memref.isWhole_whole _) hc (iblk m c 0 t) s Set.univ _)
    isplitl [H0]; · iexact H0
    isplitl [HS]; · iexact HS
    iintro ⟨H0, HS⟩
    isplitl [HS Hg]
    · isplitl [HS]
      · iexists _; isplitr
        swap; · iexact HS
        ipureintro; exact hn
      iexact Hg
    isplitl [Ho]; · iexact Ho
    isplitl [H0]; · iexact H0
    isplitl [H1]; · iexists _; iexact H1
    isplitl [H2]; · iexists _; iexact H2
    iexists _; iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch buffer at anything satisfies what is known before the first point. -/
theorem hin (c : Dev nD) : Pipeline.ΦA spec0 c ⊢ (dats m 0 c).Φ 0 := by
  rw [show (dats m 0 c).Φ 0 = Inv m c 0 from rfl, rest_eq]
  unfold Inv
  iintro ⟨⟨%d, HS⟩, Hg⟩
  isplitl [HS]
  · iexists _; isplitr
    swap; · iexact HS
    ipureintro; exact good_zero m c _
  iexact Hg

/-- After the last point what is known of the scratch buffer is forgotten. -/
theorem hout (c : Dev nD) : (dats m 0 c).Φ (Fin.last cfg0.N) ⊢ Pipeline.ΦA spec0 c := by
  rw [show (dats m 0 c).Φ (Fin.last cfg0.N) = Inv m c (Fin.last cfg0.N).val from rfl, rest_eq]
  unfold Inv
  iintro ⟨⟨%s, %hs, HS⟩, Hg⟩
  isplitl [HS]
  · iexists _; iexact HS
  iexact Hg

/-! ## The run and the frame -/

set_option backward.isDefEq.respectTransparency.types false in
/-- Every execution finishes, with the arrays at what the proof data say and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every execution finishes, with the arrays at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- Every execution finishes and leaves the argument as it was. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- THE FRAME: every execution finishes, leaves the argument as it was and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.Scales.Hand

end
-- ==== Proof.ScalesIdealRun.lean ====
/-
  The call `w_scales`, one grid point at a time, for the program `ScalesIdeal`.

  A grid point reads 512 rows of the weights, reduces them to the 32 × 128 largest absolute values of their
  16 × 16 blocks (`slice`), and stores these as 32 rows of a scratch buffer that lives through the whole grid.
  The last point then reads the whole scratch buffer and stores the three results.

  `run_step` is the body at a point that is not the last one, `run_last` the body at the last point.
-/
module

public import proofs.«01_k».proof.Proof.Gen.ScalesIdeal.Launch
public import proofs.«01_k».proof.Proof.Gen.ScalesIdeal.Skeleton
public import proofs.«01_k».proof.Proof.Gen.ScalesIdeal.Points
public import proofs.«01_k».proof.Proof.Gen.ScalesIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit
public import Idealize.ShloMosaic.Lib.VecWindow

@[expose] public section

set_option maxRecDepth 131072

noncomputable section

namespace Cert.ScalesIdeal.Hand

open Cert.ScalesIdeal Cert.ScalesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What a grid point stores into its 32 rows of the scratch buffer, as a function of the 512 rows of weights it
    reads: the body's own operations, in its own order. -/
def slice (v0 : Vec F S512x2048 .bf16) : Vec F S32x128 .f32 :=
  let v5 : IVec S32x128 32 := iota .tc S32x128 32 [1] iota_S32x128_d1_w32
  let v4 : FVec F S32x2048 .f32 := k0_pay6 v0
  let v23 : IVec S32x128 32 := k0_pay7
  let v24 : FVec F S32x128 .f32 := k0_pay8 (F := F)
  let v41 := k0_pay9 v0
  let v68 : FVec F S32x128 .f32 := k0_pay10 v5 v24 v41
  let v85 : FVec F S32x128 .f32 := k0_pay11 v4 v23
  let c8_i32_20 : BitVec 32 := 8#32
  let v86 := k0_pay12
  let v112 : FVec F S32x128 .f32 := k0_pay13 v5 v68 v85 c8_i32_20 v86
  let v129 : FVec F S32x128 .f32 := k0_pay14 v4 v23
  let c8_i32_34 : BitVec 32 := 8#32
  let v131 : IVec S32x128 32 := k0_pay15 v5
  let c0_i32_35 := 0#32
  let v156 : FVec F S32x128 .f32 := k0_pay16 v5 v112 v129 c8_i32_34 v131 c0_i32_35
  let v173 : FVec F S32x128 .f32 := k0_pay17 v4 v23
  let c8_i32_47 : BitVec 32 := 8#32
  let v175 : IVec S32x128 32 := k0_pay18 v5
  let v177 := k0_pay19 v5
  let v200 : FVec F S32x128 .f32 := k0_pay20 v5 v156 v173 c8_i32_47 v175 v177
  let v217 : FVec F S32x128 .f32 := k0_pay21 v4 v23
  let c8_i32_60 : BitVec 32 := 8#32
  let v219 : IVec S32x128 32 := k0_pay22 v5
  let v222 : IVec S32x128 32 := k0_pay23 v5
  let c0_i32_62 := 0#32
  let v244 : FVec F S32x128 .f32 := k0_pay24 v5 v200 v217 c8_i32_60 v219 v222 c0_i32_62
  let v261 : FVec F S32x128 .f32 := k0_pay25 v4 v23
  let c8_i32_73 : BitVec 32 := 8#32
  let v263 : IVec S32x128 32 := k0_pay26 v5
  let v266 : IVec S32x128 32 := k0_pay27 v5
  let v268 := k0_pay28 v5
  let v288 : FVec F S32x128 .f32 := k0_pay29 v5 v244 v261 c8_i32_73 v263 v266 v268
  let v305 : FVec F S32x128 .f32 := k0_pay30 v4 v23
  let c8_i32_86 : BitVec 32 := 8#32
  let v307 : IVec S32x128 32 := k0_pay31 v5
  let v314 := k0_pay32 v5
  let v359 : BitVec 1 := Scalar.cmpi .sgt 8#32 0#32
  let v332 : FVec F S32x128 .f32 := k0_pay33 v5 v288 v305 c8_i32_86 v307 v314
  let v349 : FVec F S32x128 .f32 := k0_pay34 v4 v23
  let c8_i32_99 : BitVec 32 := 8#32
  let v351 : IVec S32x128 32 := k0_pay35 v5
  let v358 : IVec S32x128 32 := k0_pay36 v5
  let v403 : BitVec 1 := Scalar.cmpi .sgt 8#32 0#32
  let v404 : BitVec 32 := Scalar.extui v403
  let v376 : FVec F S32x128 .f32 := k0_pay37 v5 v332 v349 c8_i32_99 v351 v358 v359
  let v393 : FVec F S32x128 .f32 := k0_pay38 v4 v23
  let c8_i32_112 : BitVec 32 := 8#32
  let v395 : IVec S32x128 32 := k0_pay39 v5
  let v402 : IVec S32x128 32 := k0_pay40 v5
  let c0_i32_116 := 0#32
  let v447 : BitVec 1 := Scalar.cmpi .sgt 8#32 0#32
  let v448 : BitVec 32 := Scalar.extui v447
  let v449 : BitVec 1 := Scalar.cmpi .slt 8#32 0#32
  let v450 : BitVec 32 := Scalar.extui v449
  let v420 : FVec F S32x128 .f32 := k0_pay41 v5 v376 v393 c8_i32_112 v395 v402 v404 c0_i32_116
  let v437 : FVec F S32x128 .f32 := k0_pay42 v4 v23
  let c8_i32_126 : BitVec 32 := 8#32
  let v439 : IVec S32x128 32 := k0_pay43 v5
  let v446 : IVec S32x128 32 := k0_pay44 v5
  let v464 : FVec F S32x128 .f32 := k0_pay45 v5 v420 v437 c8_i32_126 v439 v446 v448 v450
  let v481 : FVec F S32x128 .f32 := k0_pay46 v4 v23
  let c8_i32_139 : BitVec 32 := 8#32
  let v483 : IVec S32x128 32 := k0_pay47 v5
  let v490 : IVec S32x128 32 := k0_pay48 v5
  let v496 := k0_pay49
  let v508 : FVec F S32x128 .f32 := k0_pay50 v5 v464 v481 c8_i32_139 v483 v490 v496
  let v525 : FVec F S32x128 .f32 := k0_pay51 v4 v23
  let v527 : IVec S32x128 32 := k0_pay52 v5
  let v541 : IVec S32x128 1 := k0_pay53 v5
  let v542 := k0_pay54
  let v552 : FVec F S32x128 .f32 := k0_pay55 v5 v508 v525 v527 v541 v542
  let v569 : FVec F S32x128 .f32 := k0_pay56 v4 v23
  let v571 : IVec S32x128 32 := k0_pay57 v5
  let v585 : IVec S32x128 1 := k0_pay58 v5
  let v587 : IVec S32x128 32 := k0_pay59 v5
  let c0_i32_170 := 0#32
  let v596 : FVec F S32x128 .f32 := k0_pay60 v552 v569 v571 v585 v587 c0_i32_170
  let v613 : FVec F S32x128 .f32 := k0_pay61 v4 v23
  let v615 : IVec S32x128 32 := k0_pay62 v5
  let v629 : IVec S32x128 1 := k0_pay63 v5
  let v633 := k0_pay64 v5
  let v640 : FVec F S32x128 .f32 := k0_pay65 v596 v613 v615 v629 v633
  let v657 : FVec F S32x128 .f32 := k0_pay66 v4 v23
  let v659 : IVec S32x128 32 := k0_pay67 v5
  let v678 : IVec S32x128 1 := k0_pay68 v5
  let c1_i32_197 := 1#32
  let v684 : FVec F S32x128 .f32 := k0_pay69 v640 v657 v659 v678 c1_i32_197
  let v701 : FVec F S32x128 .f32 := k0_pay70 v4 v23
  let v703 : IVec S32x128 32 := k0_pay71 v5
  let v722 : IVec S32x128 1 := k0_pay72 v5
  let v724 := k0_pay73 v5
  k0_pay1 v684 v701 v703 v722 v724

/-- The rectangle of the scratch buffer a grid point stores into. -/
abbrev rows (i : grid0.Coords) : Rect S1376x128 := Rect.unit (s := S1376x128) (k0_off1 i) S32x128.size (k0_off1_inb i)

/-- The scratch buffer after a grid point's store: the point's slice in its rows, the rest as it was. -/
def stored (arg5 : Memref sig .tc .vmem S1376x128 .f32) (harg5 : arg5.IsWhole) (i : grid0.Coords)
    (x0 : Vec F S512x2048 .bf16) (xs : Vec F S1376x128 .f32) : Vec F S1376x128 .f32 :=
  arg5.view.read (Elt F) (arg5.view.writes (Elt F) (harg5.unread xs) [⟨rows i, slice x0⟩])

/-- The body at a point that is not the last one: the weights' rows stay, the scratch buffer gets the point's
    slice, nothing else is touched. -/
theorem run_step (c : Dev nD) (i : grid0.Coords) (arg1 : Memref sig .tc .vmem S512x2048 .bf16) (harg1 : arg1.IsWhole)
    (arg2 : Memref sig .tc .vmem S1376x128 .fp8e4m3) (harg2 : arg2.IsWhole) (arg3 : Memref sig .tc .vmem S1376x128 .f32) (harg3 : arg3.IsWhole)
    (arg4 : Memref sig .tc .smem S1 .f32) (harg4 : arg4.IsWhole) (arg5 : Memref sig .tc .vmem S1376x128 .f32) (harg5 : arg5.IsWhole)
    (hc : ¬ k0_cond1 i = 1#1) (x0 : Vec F S512x2048 .bf16) (xs : Vec F S1376x128 .f32)
    (E : Set ℕ) (K : PUnit → sProp 𝕄) :
    iprop(owns (c : Thread nD τ) arg1 fullShare x0 ∗ owns (c : Thread nD τ) arg5 fullShare xs
        ∗ (iprop(owns (c : Thread nD τ) arg1 fullShare x0 ∗ owns (c : Thread nD τ) arg5 fullShare (stored arg5 harg5 i x0 xs)) -∗ K PUnit.unit))
      ⊢ wp frame (wpE (defs₀ (F := F)) Variants.none c none) E (cc0_w_scales i arg1 harg1 arg2 harg2 arg3 harg3 arg4 harg4 arg5 harg5) K := by
  simp only [cc0_w_scales_eq_skeleton]; unfold cc0_w_scales_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f0, %hf0, H0⟩, ⟨%fs, %hfs, HS⟩, Hk⟩
  obtain rfl := harg1.eq_unread hf0; obtain rfl := harg5.eq_unread hfs
  sl_exec (disch := first | sl_exact hc)
  sl_step
  iapply Hk
  isplitl [H0]
  · iexists _; isplitr; · ipureintro; exact harg1.read_unread _
    iexact H0
  iexists _; isplitr
  · ipureintro; exact rfl
  have hv : View.readAt (Elt F) arg1.view (Rect.unit (s := S512x2048) ![0, 0] S512x2048.size inb_S512x2048_S512x2048_0_0).toLoadRect (harg1.unread x0) = x0 :=
    (View.readAt_full arg1.view _ inb_S512x2048_S512x2048_0_0).trans (harg1.read_unread x0)
  have hs : k0_pay1 (run_step.sl.r_30 c arg1 harg1 x0) (run_step.sl.r_31 c arg1 harg1 x0) (k0_pay71 run_step.sl.v5) (k0_pay72 run_step.sl.v5) (k0_pay73 run_step.sl.v5) = slice x0 := by
    dsimp only [run_step.sl.v5, run_step.sl.r, run_step.sl.r_1, run_step.sl.r_2, run_step.sl.r_3, run_step.sl.r_4, run_step.sl.r_5, run_step.sl.r_6, run_step.sl.r_7, run_step.sl.r_8, run_step.sl.r_9, run_step.sl.r_10, run_step.sl.r_11, run_step.sl.r_12, run_step.sl.r_13, run_step.sl.r_14, run_step.sl.r_15, run_step.sl.r_16, run_step.sl.r_17, run_step.sl.r_18, run_step.sl.r_19, run_step.sl.r_20, run_step.sl.r_21, run_step.sl.r_22, run_step.sl.r_23, run_step.sl.r_24, run_step.sl.r_25, run_step.sl.r_26, run_step.sl.r_27, run_step.sl.r_28, run_step.sl.r_29, run_step.sl.r_30, run_step.sl.r_31, slice]
    rw [hv]
    rfl
  rw [hs]
  iexact HS

/-- The body at the last point: as at the others, and then, from the whole scratch buffer, the three results. -/
theorem run_last (c : Dev nD) (i : grid0.Coords) (arg1 : Memref sig .tc .vmem S512x2048 .bf16) (harg1 : arg1.IsWhole)
    (arg2 : Memref sig .tc .vmem S1376x128 .fp8e4m3) (harg2 : arg2.IsWhole) (arg3 : Memref sig .tc .vmem S1376x128 .f32) (harg3 : arg3.IsWhole)
    (arg4 : Memref sig .tc .smem S1 .f32) (harg4 : arg4.IsWhole) (arg5 : Memref sig .tc .vmem S1376x128 .f32) (harg5 : arg5.IsWhole)
    (hc : k0_cond1 i = 1#1) (x0 : Vec F S512x2048 .bf16) (xs : Vec F S1376x128 .f32)
    (E : Set ℕ) (K : PUnit → sProp 𝕄) :
    iprop(owns (c : Thread nD τ) arg1 fullShare x0 ∗ (∃ d, owns (c : Thread nD τ) arg2 fullShare d) ∗ (∃ d, owns (c : Thread nD τ) arg3 fullShare d)
        ∗ (∃ d, owns (c : Thread nD τ) arg4 fullShare d) ∗ owns (c : Thread nD τ) arg5 fullShare xs
        ∗ (iprop(owns (c : Thread nD τ) arg1 fullShare x0 ∗ owns (c : Thread nD τ) arg2 fullShare (k0_pay4 (stored arg5 harg5 i x0 xs))
            ∗ owns (c : Thread nD τ) arg3 fullShare (k0_pay5 (stored arg5 harg5 i x0 xs))
            ∗ owns (c : Thread nD τ) arg4 fullShare (fun _ => k0_pay3 (stored arg5 harg5 i x0 xs))
            ∗ owns (c : Thread nD τ) arg5 fullShare (stored arg5 harg5 i x0 xs)) -∗ K PUnit.unit))
      ⊢ wp frame (wpE (defs₀ (F := F)) Variants.none c none) E (cc0_w_scales i arg1 harg1 arg2 harg2 arg3 harg3 arg4 harg4 arg5 harg5) K := by
  simp only [cc0_w_scales_eq_skeleton]; unfold cc0_w_scales_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f0, %hf0, H0⟩, ⟨%d2, %f2, -, H2⟩, ⟨%d3, %f3, -, H3⟩, ⟨%d4, %f4, -, H4⟩, ⟨%fs, %hfs, HS⟩, Hk⟩
  obtain rfl := harg1.eq_unread hf0; obtain rfl := harg5.eq_unread hfs
  sl_exec (disch := first | sl_exact hc)
  sl_step
  have hv : View.readAt (Elt F) arg1.view (Rect.unit (s := S512x2048) ![0, 0] S512x2048.size inb_S512x2048_S512x2048_0_0).toLoadRect (harg1.unread x0) = x0 :=
    (View.readAt_full arg1.view _ inb_S512x2048_S512x2048_0_0).trans (harg1.read_unread x0)
  have hs : k0_pay1 (run_last.sl.r_30 c arg1 harg1 x0) (run_last.sl.r_31 c arg1 harg1 x0) (k0_pay71 run_last.sl.v5) (k0_pay72 run_last.sl.v5) (k0_pay73 run_last.sl.v5) = slice x0 := by
    dsimp only [run_last.sl.v5, run_last.sl.r, run_last.sl.r_1, run_last.sl.r_2, run_last.sl.r_3, run_last.sl.r_4, run_last.sl.r_5, run_last.sl.r_6, run_last.sl.r_7, run_last.sl.r_8, run_last.sl.r_9, run_last.sl.r_10, run_last.sl.r_11, run_last.sl.r_12, run_last.sl.r_13, run_last.sl.r_14, run_last.sl.r_15, run_last.sl.r_16, run_last.sl.r_17, run_last.sl.r_18, run_last.sl.r_19, run_last.sl.r_20, run_last.sl.r_21, run_last.sl.r_22, run_last.sl.r_23, run_last.sl.r_24, run_last.sl.r_25, run_last.sl.r_26, run_last.sl.r_27, run_last.sl.r_28, run_last.sl.r_29, run_last.sl.r_30, run_last.sl.r_31, slice]
    rw [hv]
    rfl
  have hL : run_last.sl.HS_1 c i arg1 harg1 x0 = [⟨rows i, slice x0⟩] := by
    rw [← hs]
    rfl
  have h738 : run_last.sl.v738 c i arg1 harg1 arg5 harg5 x0 xs = stored arg5 harg5 i x0 xs := by
    unfold run_last.sl.v738 stored
    rw [hL]
    exact View.readAt_full arg5.view _ inb_S1376x128_S1376x128_0_0
  rw [h738, hL]
  iapply Hk
  isplitl [H0]
  · iexists _; isplitr; · ipureintro; exact harg1.read_unread _
    iexact H0
  isplitl [H2]
  · iexists _; isplitr
    swap; · iexact H2
    ipureintro; exact View.read_writes_full arg2.view _ inb_S1376x128_S1376x128_0_0 _ []
  isplitl [H3]
  · iexists _; isplitr
    swap; · iexact H3
    ipureintro; exact View.read_writes_full arg3.view _ inb_S1376x128_S1376x128_0_0 _ []
  isplitl [H4]
  · iexists _; isplitr
    swap; · iexact H4
    ipureintro; exact View.read_writes_full arg4.view _ inb_S1_S1_0 _ []
  iexists _; isplitr
  · ipureintro; exact rfl
  iexact HS

end Cert.ScalesIdeal.Hand

end
-- ==== Proof.ScalesIdealFrame.lean ====
/-
  The call `w_scales`, the whole grid, for the program `ScalesIdeal`: it always finishes, leaves its argument and every
  semaphore as they were, and its three results are the stated functions of the block maxima `full` of the
  weights.

  The scratch buffer is filled a slice of 32 rows a grid point. `Good n s` says that the rows of the first `n` points
  are right; the last point, number 42, finds 42 slices, adds its own, and reads the whole buffer.
-/
module

public import proofs.«01_k».proof.Proof.ScalesIdealRun
public import Idealize.ShloMosaic.Lib.Claim

@[expose] public section

set_option maxRecDepth 16384

noncomputable section

namespace Cert.ScalesIdeal.Hand

open Cert.ScalesIdeal Cert.ScalesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The scratch buffer, slice by slice -/

/-- The block maxima of all the weights: row `r` is row `r % 32` of what point `r / 32` stores. -/
def full (c : Dev nD) : Vec F S1376x128 .f32 := fun y =>
  slice (iblk m c 0 ⟨(y (0 : Fin 2)).val / 32, lt_of_lt_of_eq (by have h : (y (0 : Fin 2)).val < 1376 := (y (0 : Fin 2)).isLt; omega) N_0.symm⟩)
    (fun a => match a with | ⟨0, _⟩ => ⟨(y (0 : Fin 2)).val % 32, Nat.mod_lt _ (by decide)⟩ | ⟨1, _⟩ => y (1 : Fin 2))

/-- The rows of the first `n` points hold what they should. -/
def Good (c : Dev nD) (n : ℕ) (s : Vec F S1376x128 .f32) : Prop :=
  ∀ y : S1376x128.Idx, (y (0 : Fin 2)).val < 32 * n → s y = full m c y

/-- Before the first point nothing is asked. -/
theorem good_zero (c : Dev nD) (s : Vec F S1376x128 .f32) : Good m c 0 s := fun _ h => absurd h (Nat.not_lt_zero _)

/-- With the rows of all 43 points right, the buffer is `full`. -/
theorem good_all (c : Dev nD) (s : Vec F S1376x128 .f32) (h : Good m c 43 s) : s = full m c :=
  funext fun y => h y (y (0 : Fin 2)).isLt

/-- Point `t` stores at row `32 · t`. -/
theorem off1_eq (t : Fin cfg0.N) : k0_off1 (grid0.coords t) = ![32 * t.val, 0] := by
  have e0 : (grid0.coords t 0).val = t.val / 1 % 43 := Pipeline.Grid.coords_val t 0 (by decide) rfl
  have ht : t.val < 43 := Nat.lt_of_lt_of_eq t.isLt N_0
  have e : (grid0.coords t 0).val = t.val := by rw [e0]; omega
  have hd : ∀ n : Fin 43, (Scalar.indexCast (Scalar.muli (BitVec.ofNat 32 n.val) 32#32) : Index).toNat = 32 * n.val := by decide +kernel
  unfold k0_off1
  dsimp only
  rw [e, hd ⟨t.val, ht⟩]

/-- A point's store keeps the rows before it and makes its own right. -/
theorem good_stored (c : Dev nD) (t : Fin cfg0.N) (arg5 : Memref sig .tc .vmem S1376x128 .f32) (harg5 : arg5.IsWhole)
    (s : Vec F S1376x128 .f32) (h : Good m c t.val s) :
    Good m c (t.val + 1) (stored arg5 harg5 (grid0.coords t) (iblk m c 0 t) s) := by
  intro y hy
  unfold stored
  refine (View.read_writes_cons_rows (o := 32 * t.val) (W := 32) (size := S32x128.size) arg5.view _ _ _ [] y (off1_eq t) rfl rfl).trans ?_
  by_cases hlt : 32 * t.val ≤ (y (0 : Fin 2)).val ∧ (y (0 : Fin 2)).val < 32 * t.val + 32
  · rw [dif_pos hlt]
    have hq : (y (0 : Fin 2)).val / 32 = t.val := by omega
    have hr : (y (0 : Fin 2)).val % 32 = (y (0 : Fin 2)).val - 32 * t.val := by omega
    unfold full
    have ht : (⟨(y (0 : Fin 2)).val / 32, by rw [hq]; exact t.isLt⟩ : Fin cfg0.N) = t := Fin.ext hq
    rw [ht]
    refine congrArg (slice (iblk m c 0 t)) (funext fun a => ?_)
    match a with
    | ⟨0, _⟩ => exact Fin.ext hr.symm
    | ⟨1, _⟩ => exact Fin.ext (Nat.sub_zero _)
  · rw [dif_neg hlt]
    have hlt' : (y (0 : Fin 2)).val < 32 * t.val := by omega
    rw [View.writes_nil, harg5.read_unread]
    exact h y hlt'

/-! ## The pipeline's proof data -/

/-- The scratch buffer. -/
abbrev scM : Memref sig .tc .vmem S1376x128 .f32 := Memref.whole cc0_scratch0

/-- What is known between two points: the first `n` slices of the scratch buffer are right. -/
def Inv (c : Dev nD) (n : ℕ) : sProp 𝕄 :=
  iprop((∃ s, ⌜Good m c n s⌝ ∗ owns (c : Thread nD τ) scM fullShare s) ∗ (∃ r, prngReg c r))

/-- What the grid starts from and gives back: the scratch buffer at anything. -/
theorem rest_eq (c : Dev nD) : (Pipeline.ΦA spec0 c : sProp 𝕄) = iprop((∃ d, owns (c : Thread nD τ) scM fullShare d) ∗ (∃ r, prngReg c r)) := by
  unfold Pipeline.ΦA
  rw [scopedRest0_eq]
  simp only [scM, owns_whole]
  try rfl

/-- The proof data: the weights' rows stay as they are, and the three results at the last point are the body's
    functions of the block maxima `full`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => k0_pay4 (full m c)
    | ⟨2, _⟩ => k0_pay5 (full m c)
    | ⟨3, _⟩ => fun _ => k0_pay3 (full m c)
  Φ t := Inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = k0_pay4 (full m c) := by dsimp only [dats]
theorem after_2 (c : Dev nD) (t : Fin cfg0.N) : (dats m 0 c).after 2 t = k0_pay5 (full m c) := by dsimp only [dats]
theorem after_3 (c : Dev nD) (t : Fin cfg0.N) : (dats m 0 c).after 3 t = fun _ => k0_pay3 (full m c) := by dsimp only [dats]

theorem before_0 (c : Dev nD) (t : Fin cfg0.N) (d) : (dats m 0 c).before 0 t d = iblk m c 0 t :=
  before0_0_of m (dats m 0 c) (A_eq m c 0) (after_0 m c) t d

/-! ## The last point, and where the results' windows are idle -/

/-- The body's condition holds at point 42 only. -/
theorem last_iff (t : Fin cfg0.N) : k0_cond1 (grid0.coords t) = 1#1 ↔ t.val = 42 := by
  have ht : t.val < 43 := Nat.lt_of_lt_of_eq t.isLt N_0
  have e0 : (grid0.coords t 0).val = t.val / 1 % 43 := Pipeline.Grid.coords_val t 0 (by decide) rfl
  have h : k0_cond1 (grid0.coords t) = 1#1 ↔ t.val % 43 = 42 := by
    simp only [k0_cond1, e0]
    word_cmp
  rw [h]
  omega

theorem live_0 : ∀ t : Fin cfg0.N, cfg0.idle 0 (grid0.coords t) = false := fun _ => rfl
theorem idle_out : ∀ w : Fin cfg0.W, w ≠ 0 → ∀ t : Fin cfg0.N, ¬ k0_cond1 (grid0.coords t) = 1#1 → cfg0.idle w (grid0.coords t) = true := by decide +kernel
theorem noFlush_out : ∀ w : Fin cfg0.W, w ≠ 0 → ∀ t : Fin cfg0.N, ¬ k0_cond1 (grid0.coords t) = 1#1 → (cfg0.win w).flush t = false := by decide +kernel
theorem live_out : ∀ w : Fin cfg0.W, w ≠ 0 → ∀ t : Fin cfg0.N, k0_cond1 (grid0.coords t) = 1#1 → cfg0.idle w (grid0.coords t) = false := by decide +kernel

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What the body leaves at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- The body at any point takes what it is called with to what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0]
  rw [show (dats m 0 c).owesAt () t.succ = (dats m 0 c).owesAt () t.castSucc from rfl,
    show (dats m 0 c).Φ t.succ = Inv m c (t.val + 1) from rfl,
    show (dats m 0 c).Φ t.castSucc = Inv m c t.val from rfl]
  rw [show (dats m 0 c).leavesExact 0 t = owns (c : Thread nD τ) (st0_0 t) fullShare ((dats m 0 c).after 0 t) from by
    unfold Dat.leavesExact; rw [live_0 t], after_0]
  unfold Inv
  by_cases hc : k0_cond1 (grid0.coords t) = 1#1
  · rw [show (dats m 0 c).leavesExact 1 t = owns (c : Thread nD τ) (st0_1 t) fullShare ((dats m 0 c).after 1 t) from by
      unfold Dat.leavesExact; rw [live_out 1 (by decide) t hc], after_1]
    rw [show (dats m 0 c).leavesExact 2 t = owns (c : Thread nD τ) (st0_2 t) fullShare ((dats m 0 c).after 2 t) from by
      unfold Dat.leavesExact; rw [live_out 2 (by decide) t hc], after_2]
    rw [show (dats m 0 c).leavesExact 3 t = owns (c : Thread nD τ) (st0_3 t) fullShare ((dats m 0 c).after 3 t) from by
      unfold Dat.leavesExact; rw [live_out 3 (by decide) t hc], after_3]
    have h42 : t.val = 42 := (last_iff t).mp hc
    iintro ⟨⟨⟨%s, %hs, HS⟩, Hg⟩, Ho, ⟨%d0, H0⟩, ⟨%d1, H1⟩, ⟨%d2, H2⟩, ⟨%d3, H3⟩⟩
    have hn := good_stored m c t scM (Memref.isWhole_whole _) s hs
    have hfull : stored scM (Memref.isWhole_whole _) (grid0.coords t) (iblk m c 0 t) s = full m c :=
      good_all m c _ (by rw [h42] at hn; exact hn)
    iapply (run_last c (grid0.coords t) _ _ _ _ _ _ _ _ scM (Memref.isWhole_whole _) hc (iblk m c 0 t) s Set.univ _)
    rw [hfull]
    isplitl [H0]; · iexact H0
    isplitl [H1]; · iexists _; iexact H1
    isplitl [H2]; · iexists _; iexact H2
    isplitl [H3]; · iexists _; iexact H3
    isplitl [HS]; · iexact HS
    iintro ⟨H0, H1, H2, H3, HS⟩
    isplitl [HS Hg]
    · isplitl [HS]
      · iexists _; isplitr
        swap; · iexact HS
        ipureintro; rw [← hfull]; exact hn
      iexact Hg
    isplitl [Ho]; · iexact Ho
    isplitl [H0]; · iexact H0
    isplitl [H1]; · iexact H1
    isplitl [H2]; · iexact H2
    iexact H3
  · rw [Dat.leavesExact_idle (dats m 0 c) 1 t (idle_out 1 (by decide) t hc) (noFlush_out 1 (by decide) t hc),
      Dat.leavesExact_idle (dats m 0 c) 2 t (idle_out 2 (by decide) t hc) (noFlush_out 2 (by decide) t hc),
      Dat.leavesExact_idle (dats m 0 c) 3 t (idle_out 3 (by decide) t hc) (noFlush_out 3 (by decide) t hc)]
    iintro ⟨⟨⟨%s, %hs, HS⟩, Hg⟩, Ho, ⟨%d0, H0⟩, ⟨%d1, H1⟩, ⟨%d2, H2⟩, ⟨%d3, H3⟩⟩
    have hn := good_stored m c t scM (Memref.isWhole_whole _) s hs
    iapply (run_step c (grid0.coords t) _ _ _ _ _ _ _ _ scM (Memref.isWhole_whole _) hc (iblk m c 0 t) s Set.univ _)
    isplitl [H0]; · iexact H0
    isplitl [HS]; · iexact HS
    iintro ⟨H0, HS⟩
    isplitl [HS Hg]
    · isplitl [HS]
      · iexists _; isplitr
        swap; · iexact HS
        ipureintro; exact hn
      iexact Hg
    isplitl [Ho]; · iexact Ho
    isplitl [H0]; · iexact H0
    isplitl [H1]; · iexists _; iexact H1
    isplitl [H2]; · iexists _; iexact H2
    iexists _; iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch buffer at anything satisfies what is known before the first point. -/
theorem hin (c : Dev nD) : Pipeline.ΦA spec0 c ⊢ (dats m 0 c).Φ 0 := by
  rw [show (dats m 0 c).Φ 0 = Inv m c 0 from rfl, rest_eq]
  unfold Inv
  iintro ⟨⟨%d, HS⟩, Hg⟩
  isplitl [HS]
  · iexists _; isplitr
    swap; · iexact HS
    ipureintro; exact good_zero m c _
  iexact Hg

/-- After the last point what is known of the scratch buffer is forgotten. -/
theorem hout (c : Dev nD) : (dats m 0 c).Φ (Fin.last cfg0.N) ⊢ Pipeline.ΦA spec0 c := by
  rw [show (dats m 0 c).Φ (Fin.last cfg0.N) = Inv m c (Fin.last cfg0.N).val from rfl, rest_eq]
  unfold Inv
  iintro ⟨⟨%s, %hs, HS⟩, Hg⟩
  isplitl [HS]
  · iexists _; iexact HS
  iexact Hg

/-! ## The run and the frame -/

set_option backward.isDefEq.respectTransparency.types false in
/-- Every execution finishes, with the arrays at what the proof data say and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every execution finishes, with the arrays at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- Every execution finishes and leaves the argument as it was. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- THE FRAME: every execution finishes, leaves the argument as it was and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.ScalesIdeal.Hand

end
-- ==== Proof.ScalesSlice.lean ====
/-
  What one grid point of `w_scales` stores, element by element.

  The body takes the largest absolute value over each 16 rows, and then, for each of the 16 groups of 128 columns, the
  largest over each 16 neighbouring columns: four rotations by 1, 2, 4 and 8 lanes and a gather (`take`). The 8 block
  maxima of group `j` go to lanes `8 j … 8 j + 7` of the result, by a choice on the lane's number divided by 8 (`put`).
-/
module

public import proofs.«01_k».proof.Proof.ScalesIdealFrame
public import Idealize.ShloMosaic.Lib.Pointwise

@[expose] public section

set_option maxRecDepth 65536

noncomputable section

namespace Cert.WScales

open Cert.ScalesIdeal Cert.ScalesIdeal.Gen Cert.ScalesIdeal.Hand Idealize.ShloMosaic Idealize.ShloMosaic.TcCoe

/-- A lane's number divided by 8, as the kernel computes it (a division that rounds down, from one that rounds to zero). -/
def quot : IVec S32x128 32 :=
  let v5 : IVec S32x128 32 := iota .tc S32x128 32 [1] iota_S32x128_d1_w32
  let d : IVec S32x128 32 := divsi v5 (broadcast S32x128 8#32)
  let sign : IVec S32x128 32 := subi (extui 32 (cmpi .sgt v5 (broadcast S32x128 0#32)) natLt_1_32)
    (extui 32 (cmpi .slt v5 (broadcast S32x128 0#32)) natLt_1_32)
  let sign8 : BitVec 32 := Scalar.subi (Scalar.extui (Scalar.cmpi .sgt 8#32 0#32)) (Scalar.extui (Scalar.cmpi .slt 8#32 0#32))
  select (andi (cmpi .ne sign (broadcast S32x128 sign8))
      (cmpi .ne (remsi v5 (broadcast S32x128 8#32)) (broadcast S32x128 0#32)))
    (subi d (broadcast S32x128 1#32)) d

/-- Lanes whose number divided by 8 is `j` from `t`, the others as they were. -/
def put (j : BitVec 32) (t out : FVec Ideal S32x128 .f32) : FVec Ideal S32x128 .f32 :=
  select (cmpi .eq quot (broadcast S32x128 j)) t out

/-- The lane a gather reads, as the kernel computes it: 16 times the lane's number modulo 8. -/
def pos : IVec S32x128 32 :=
  shapeCast S32x128 (shapeCast S32x128x1 (select (cmpi .slt k0_pay7 (broadcast S32x128 0#32))
    (addi k0_pay7 (broadcast S32x128 128#32)) k0_pay7) shapeCasts_S32x128_S32x128x1) shapeCasts_S32x128x1_S32x128

/-- The larger of each lane and the lane a rotation brings there. -/
def fold (n : BitVec 32) (v : FVec Ideal S32x128 .f32) : FVec Ideal S32x128 .f32 :=
  maximumf v (dynamicRotate 1 n none v rotates_S32x128_d1)

/-- Group `j` of 128 columns lies within the 2048. -/
theorem group_slices (j : ℕ) (hj : j < 16) : S32x2048.Slices ![0, 128 * j] S32x128 := by
  interval_cases j <;> decide

/-- The block maxima of column group `j`, at every lane the one of block `lane % 8` of the group. -/
def take (v4 : FVec Ideal S32x2048 .f32) (j : ℕ) (hj : j < 16) : FVec Ideal S32x128 .f32 :=
  dynamicGather 1 (fold 120#32 (fold 124#32 (fold 126#32 (fold 127#32
    (extractStridedSlice S32x128 ![0, 128 * j] v4 (group_slices j hj)))))) pos

/-- The result after the first `n` column groups. -/
def chain (v4 : FVec Ideal S32x2048 .f32) : (n : ℕ) → n ≤ 16 → FVec Ideal S32x128 .f32
  | 0, _ => k0_pay8 (F := Ideal)
  | n + 1, h => put (BitVec.ofNat 32 n) (take v4 n h) (chain v4 n (Nat.le_of_succ_le h))

/-- What a grid point stores is the result after all 16 column groups. -/
theorem slice_eq (x0 : FVec Ideal S512x2048 .bf16) :
    slice (F := Ideal) x0 = shapeCast S32x128 (chain (k0_pay6 x0) 16 le_rfl) shapeCasts_S32x128_S32x128 := by
  rfl

/-- The quotient at a lane. -/
theorem quot_apply (r : Fin 32) (l : Fin 128) : quot (ix2 r l) = BitVec.ofNat 32 (l.val / 8) := by
  have h : ∀ l : Fin 128, quot (ix2 (0 : Fin 32) l) = BitVec.ofNat 32 (l.val / 8) := by decide +kernel
  exact (show quot (ix2 r l) = quot (ix2 (0 : Fin 32) l) from rfl).trans (h l)

/-- The gathered lane at a lane. -/
theorem pos_apply (r : Fin 32) (l : Fin 128) : pos (ix2 r l) = BitVec.ofNat 32 (16 * (l.val % 8)) := by
  unfold pos
  rw [shapeCast_shapeCast]
  have h : ∀ l : Fin 128, (select (cmpi .slt k0_pay7 (broadcast S32x128 0#32))
      (addi k0_pay7 (broadcast S32x128 128#32)) k0_pay7 : IVec S32x128 32) (ix2 (0 : Fin 32) l)
        = BitVec.ofNat 32 (16 * (l.val % 8)) := by decide +kernel
  exact h l

/-- The choice of a lane. -/
theorem put_apply (j : ℕ) (hj : j < 16) (t out : FVec Ideal S32x128 .f32) (r : Fin 32) (l : Fin 128) :
    put (BitVec.ofNat 32 j) t out (ix2 r l) = if l.val / 8 = j then t (ix2 r l) else out (ix2 r l) := by
  have hl : l.val < 128 := l.isLt
  unfold put
  show Scalar.select (IntOp.cmpi .eq (quot (ix2 r l)) (BitVec.ofNat 32 j)) _ _ = _
  rw [quot_apply]
  by_cases h : l.val / 8 = j
  · rw [if_pos h, h]
    simp [Scalar.select, IntOp.cmpi]
  · rw [if_neg h]
    have hne : BitVec.ofNat 32 (l.val / 8) ≠ BitVec.ofNat 32 j := by
      intro e
      have := congrArg BitVec.toNat e
      simp only [BitVec.toNat_ofNat] at this
      omega
    simp [Scalar.select, IntOp.cmpi, beq_eq_false_iff_ne.mpr hne]

/-- The larger of a lane and the lane `s` further on. -/
theorem fold_apply (n : BitVec 32) (s : ℕ) (hn : n.toNat = 128 - s) (hs : 0 < s) (v : FVec Ideal S32x128 .f32) (r : Fin 32)
    (p : ℕ) (hp : p + s < 128) :
    fold n v (ix2 r ⟨p, by omega⟩) = max (v (ix2 r ⟨p, by omega⟩)) (v (ix2 r ⟨p + s, hp⟩)) := by
  unfold fold
  refine congrArg (max (v (ix2 r ⟨p, by omega⟩)) : EReal → EReal) ?_
  unfold dynamicRotate
  refine congrArg v (funext fun a => ?_)
  match a with
  | ⟨0, _⟩ => rfl
  | ⟨1, _⟩ =>
    refine Fin.ext ?_
    show (p + 128 - (n.toNat + 0) % 128) % 128 = p + s
    rw [hn]
    omega

/-- If a lane of `u` is the largest of `s` neighbouring lanes of `v`, a lane of `fold` is the largest of `2 s`. -/
theorem fold_le (n : BitVec 32) (s : ℕ) (hn : n.toNat = 128 - s) (hs : 0 < s) (v u : FVec Ideal S32x128 .f32) (r : Fin 32) (b : EReal)
    (h : ∀ p (hp : p + s ≤ 128), u (ix2 r ⟨p, by omega⟩) ≤ b ↔ ∀ i (hi : i < s), v (ix2 r ⟨p + i, by omega⟩) ≤ b)
    (p : ℕ) (hp : p + 2 * s ≤ 128) :
    fold n u (ix2 r ⟨p, by omega⟩) ≤ b ↔ ∀ i (hi : i < 2 * s), v (ix2 r ⟨p + i, by omega⟩) ≤ b := by
  rw [fold_apply n s hn hs u r p (by omega), max_le_iff, h p (by omega), h (p + s) (by omega)]
  constructor
  · rintro ⟨h1, h2⟩ i hi
    by_cases his : i < s
    · exact h1 i his
    · have := h2 (i - s) (by omega)
      have e : p + s + (i - s) = p + i := by omega
      simpa only [e] using this
  · intro hh
    refine ⟨fun i hi => hh i (by omega), fun i hi => ?_⟩
    have := hh (s + i) (by omega)
    simpa only [Nat.add_assoc] using this

/-- The block maxima of a column group: at lane `l` the largest of the 16 columns of block `l % 8` of the group. -/
theorem take_le (v4 : FVec Ideal S32x2048 .f32) (j : ℕ) (hj : j < 16) (r : Fin 32) (l : Fin 128) (b : EReal) :
    take v4 j hj (ix2 r l) ≤ b
      ↔ ∀ i (hi : i < 16), v4 (ix2 r ⟨128 * j + (16 * (l.val % 8) + i), by omega⟩) ≤ b := by
  have e : ∀ v : FVec Ideal S32x128 .f32, dynamicGather 1 v pos (ix2 r l) = v (ix2 r ⟨16 * (l.val % 8), by omega⟩) := by
    intro v
    unfold dynamicGather
    refine congrArg v (funext fun a => ?_)
    match a with
    | ⟨0, _⟩ => rfl
    | ⟨1, _⟩ =>
      refine Fin.ext ?_
      show (pos (ix2 r l)).toNat % 128 = 16 * (l.val % 8)
      rw [pos_apply, BitVec.toNat_ofNat]
      omega
  unfold take
  rw [e]
  have h1 := fold_le 127#32 1 rfl (by decide) (extractStridedSlice S32x128 ![0, 128 * j] v4 (group_slices j hj)) _ r b
    (fun p hp => ⟨fun h i hi => by obtain rfl : i = 0 := by omega
                                   exact h, fun h => h 0 (by decide)⟩)
  have h2 := fold_le 126#32 2 rfl (by decide) _ _ r b h1
  have h3 := fold_le 124#32 4 rfl (by decide) _ _ r b h2
  have h4 := fold_le 120#32 8 rfl (by decide) _ _ r b h3
  refine (h4 (16 * (l.val % 8)) (by omega)).trans (forall_congr' fun i => forall_congr' fun hi => ?_)
  have e2 : extractStridedSlice S32x128 ![0, 128 * j] v4 (group_slices j hj) (ix2 r ⟨16 * (l.val % 8) + i, by omega⟩)
      = v4 (ix2 r ⟨128 * j + (16 * (l.val % 8) + i), by omega⟩) := by
    unfold extractStridedSlice
    refine congrArg v4 (funext fun a => ?_)
    match a with
    | ⟨0, _⟩ => exact Fin.ext (Nat.zero_add _)
    | ⟨1, _⟩ => rfl
  rw [e2]

/-- After `n` column groups the lanes of those groups hold their own group's block maxima. -/
theorem chain_apply (v4 : FVec Ideal S32x2048 .f32) (r : Fin 32) (l : Fin 128) :
    ∀ (n : ℕ) (hn : n ≤ 16) (hl : l.val / 8 < n), chain v4 n hn (ix2 r l) = take v4 (l.val / 8) (by omega) (ix2 r l)
  | n + 1, hn, hl => by
    unfold chain
    rw [put_apply n (by omega)]
    by_cases h : l.val / 8 = n
    · subst h
      rw [if_pos rfl]
    · rw [if_neg h]
      exact chain_apply v4 r l n (by omega) (by omega)

/-- The word of minus infinity, of the weights' format. -/
theorem negInf_bf16 : Ideal.ofBits .bf16 0xFF80#16 = (⊥ : EReal) := by simp [Ideal.ofBits, Ideal.ieee]

/-- The largest absolute value of 16 rows. -/
theorem rows_le (x0 : FVec Ideal S512x2048 .bf16) (r : Fin 32) (k : Fin 2048) (b : EReal) :
    k0_pay6 (F := Ideal) x0 (ix2 r k) ≤ b
      ↔ ∀ i : Fin 16, max (x0 (ix2 ⟨r.val * 16 + i.val, by omega⟩ k)) (-x0 (ix2 ⟨r.val * 16 + i.val, by omega⟩ k)) ≤ b := by
  pointwise [k0_pay6]
  rw [Finset.fold_max_le, negInf_bf16]
  simp only [bot_le, true_and, Finset.mem_univ, true_implies]
  rfl

/-- **What a grid point stores**: at row `r` and lane `l` the largest absolute value of the 16 × 16 block `(r, l)` of the
    512 rows it reads. -/
theorem slice_le (x0 : FVec Ideal S512x2048 .bf16) (r : Fin 32) (l : Fin 128) (b : EReal) :
    slice (F := Ideal) x0 (ix2 r l) ≤ b
      ↔ ∀ i k : Fin 16, max (x0 (ix2 ⟨r.val * 16 + i.val, by omega⟩ ⟨l.val * 16 + k.val, by omega⟩))
          (-x0 (ix2 ⟨r.val * 16 + i.val, by omega⟩ ⟨l.val * 16 + k.val, by omega⟩)) ≤ b := by
  have hl : l.val < 128 := l.isLt
  rw [slice_eq, shapeCast_self, chain_apply _ r l 16 le_rfl (by omega), take_le]
  have e : ∀ k : ℕ, 128 * (l.val / 8) + (16 * (l.val % 8) + k) = l.val * 16 + k := fun k => by omega
  simp only [e, rows_le]
  exact ⟨fun h i k => h k.val k.isLt i, fun h k hk i => h i ⟨k, hk⟩⟩

end Cert.WScales

end
-- ==== Proof.ScalesArrays.lean ====
/-
  What the three results of `w_scales` hold at the end, as functions of the weights.
-/
module

public import proofs.«01_k».proof.Proof.ScalesSlice
public import proofs.«01_k».proof.Proof.Core
public import Idealize.ShloMosaic.Lib.Pipeline.Value
public import Idealize.ShloMosaic.Lib.Pipeline.ValueKit
public import Idealize.ShloMosaic.Lib.Claim

@[expose] public section

set_option maxRecDepth 65536

noncomputable section

namespace Cert.WScales

open Cert.ScalesIdeal Cert.ScalesIdeal.Gen Cert.ScalesIdeal.Hand Idealize.ShloMosaic Idealize.ShloMosaic.TcCoe Idealize.SL.Sem
open Idealize.ShloMosaic.Pipeline (Dat)

/-- A weight's absolute value. -/
def mag (w : FVec Ideal S22016x2048 .bf16) (row : Fin 22016) (k : Fin 2048) : EReal :=
  max (w (ix2 row k)) (-w (ix2 row k))

variable (m : (ℓ : Loc nD τ sig) → Buf (Elt Ideal) ℓ) (c : Dev nD)

/-- The weights. -/
abbrev W : FVec Ideal S22016x2048 .bf16 := m ((c : Thread nD τ).loc main_arg0)

/-- Grid point `t` reads the rows from `512 t`. -/
theorem idx : ∀ t : Fin cfg0.N, win0_0.index t = ![t.val, 0] ∧ win0_1.index t = ![0, 0] ∧ win0_2.index t = ![0, 0]
    ∧ win0_3.index t = ![0] :=
  (by decide +kernel : ∀ t : Fin grid0.N, _)

/-- The weights a grid point reads, at coordinates of the argument. -/
theorem w_eq (t : Fin cfg0.N) (r : Fin 512) (k : Fin 2048) (row : Fin 22016) (hr : row.val = 512 * t.val + r.val) :
    iblk m c 0 t (ix2 r k) = W m c (ix2 row k) := by
  blk_simp [iblk]
  have e : (win0_0.blk t).view.emb (ix2 r k) = ix2 row k := by blk_ext [idx t]
  rw [e]

/-- **The block maxima**: row `r`, lane `l` of the scratch buffer is the largest absolute value of block `(r, l)` of the
    weights. -/
theorem full_le (r : Fin 1376) (l : Fin 128) (b : EReal) :
    full m c (ix2 r l) ≤ b
      ↔ ∀ i k : Fin 16, mag (W m c) ⟨r.val * 16 + i.val, by omega⟩ ⟨l.val * 16 + k.val, by omega⟩ ≤ b := by
  have hr : r.val < 1376 := r.isLt
  have e : full m c (ix2 r l) = slice (F := Ideal) (iblk m c 0 ⟨r.val / 32, lt_of_lt_of_eq (by omega) N_0.symm⟩)
      (ix2 ⟨r.val % 32, by omega⟩ l) := by
    unfold full
    refine congrArg (slice _) (funext fun a => ?_)
    match a with
    | ⟨0, _⟩ => rfl
    | ⟨1, _⟩ => rfl
  rw [e]
  refine (slice_le _ _ _ b).trans (forall_congr' fun i => forall_congr' fun k => ?_)
  rw [w_eq m c _ _ _ ⟨r.val * 16 + i.val, by omega⟩ (by dsimp only; omega)]
  rfl

/-- The largest of the block maxima, as the kernel takes it. -/
def top : EReal := k0_pay2 (F := Ideal) (full m c)

/-- It is the largest absolute value of all weights. -/
theorem top_le (b : EReal) : top m c ≤ b ↔ ∀ (row : Fin 22016) (k : Fin 2048), mag (W m c) row k ≤ b := by
  have h : top m c ≤ b ↔ ∀ (r : Fin 1376) (l : Fin 128), full m c (ix2 r l) ≤ b := by
    unfold top
    generalize full m c = v
    pointwise [k0_pay2]
    rw [Finset.fold_max_le, Cert.GateUp.negInf_bits]
    simp only [bot_le, true_and, Finset.mem_univ, true_implies]
    exact ⟨fun h p l => h (p, l), fun h x => h x.1 x.2⟩
  refine h.trans ((forall_congr' fun r => forall_congr' fun l => full_le m c r l b).trans ?_)
  constructor
  · intro h row k
    have h' := h ⟨row.val / 16, by omega⟩ ⟨k.val / 16, by omega⟩ ⟨row.val % 16, by omega⟩ ⟨k.val % 16, by omega⟩
    have e1 : row.val / 16 * 16 + row.val % 16 = row.val := by omega
    have e2 : k.val / 16 * 16 + k.val % 16 = k.val := by omega
    simpa only [e1, e2] using h'
  · intro h r l i k
    exact h _ _

/-- The block scale of block `(r, l)`, from its largest absolute value `a` and the tensor's `t`. -/
def blockScale (t a : EReal) : EReal := min (Ideal.div a (t * ((1 / 448 : ℝ) : EReal))) ((448 : ℝ) : EReal)

/-- Its guarded reciprocal, the tensor scale applied. -/
def recip (d : EReal) : EReal := if 0 < d then Ideal.div 1 (if 0 < d then d else 1) else 0

theorem e448_bits : Ideal.ofBits .f32 0x43E00000#32 = ((448 : ℝ) : EReal) := by
  simp [Ideal.ofBits, Ideal.ieee, -EReal.coe_mul]; norm_num

theorem inv_div_val : (Named.named κ "inv_div" 0x39C30C31#32 : Ideal .f32) = ((1 / 2688 : ℝ) : EReal) :=
  IdealRules.named_const.ideal_named_scalar _ _ _ _ rfl

theorem six_div_val : (Named.named κ "six_div" 0x3B124925#32 : Ideal .f32) = ((1 / 448 : ℝ) : EReal) :=
  IdealRules.named_const.ideal_named_scalar _ _ _ _ rfl

/-- A scalar product over the reals. -/
theorem mul_eq (s z : Ideal .f32) : (Scalar.mulf (F := Ideal) s z : EReal) = (show EReal from s) * (show EReal from z) := rfl

/-- Scaled quotients, capped, at one element. -/
theorem quotient_eq {S : Shape} (v : FVec Ideal S .f32) (s z e : Ideal .f32) (hb : FTy.bits .fp8e4m3 < FTy.bits .f32) (i : S.Idx) :
    truncf .fp8e4m3 (minimumf (divf v (broadcast S (Scalar.mulf (F := Ideal) s z))) (broadcast S e))
        hb i
      = min (Ideal.div (v i) ((show EReal from s) * (show EReal from z))) e := rfl

/-- Guarded reciprocals at one element. -/
theorem recip_eq {S : Shape} (q : FVec Ideal S .fp8e4m3) (s z o : Ideal .f32) (hb : FTy.bits .fp8e4m3 < FTy.bits .f32) (hz : z = (0 : EReal)) (ho : o = (1 : EReal))
    (i : S.Idx) :
    select (cmpf .ogt (mulf (extf .f32 q hb) (broadcast S s)) (broadcast S z))
        (divf (broadcast S o)
          (select (cmpf .ogt (mulf (extf .f32 q hb) (broadcast S s)) (broadcast S z))
            (mulf (extf .f32 q hb) (broadcast S s)) (broadcast S o)))
        (broadcast S z) i
      = recip ((show EReal from q i) * (show EReal from s)) := by
  subst hz ho
  have e : ∀ (d : EReal) (a b : Ideal .f32), Scalar.select (FloatOps.cmpf (F := Ideal) (φ := .f32) .ogt d (0 : EReal)) a b
      = if 0 < d then a else b := fun d a b => by
    show (if BitVec.ofBool (decide ((0 : EReal) < d)) = 1#1 then a else b) = _
    by_cases h : (0 : EReal) < d <;> simp [h]
  exact (e _ _ _).trans (congrArg (fun t : EReal => if 0 < (show EReal from q i) * (show EReal from s) then Ideal.div 1 t else 0)
    (e ((show EReal from q i) * (show EReal from s)) ((show EReal from q i) * (show EReal from s)) (1 : EReal)))

/-- The tensor scale the kernel stores, as it computes it. -/
theorem pay3_mul (v : FVec Ideal S1376x128 .f32) :
    k0_pay3 (F := Ideal) v = Scalar.mulf (F := Ideal) (k0_pay2 (F := Ideal) v) (Named.named κ "inv_div" 0x39C30C31#32) := rfl

/-- The block scales the kernel stores, as it computes them. -/
theorem pay4_quotient (v : FVec Ideal S1376x128 .f32) :
    k0_pay4 (F := Ideal) v = truncf .fp8e4m3 (minimumf (divf v (broadcast S1376x128
      (Scalar.mulf (F := Ideal) (k0_pay2 (F := Ideal) v) (Named.named κ "six_div" 0x3B124925#32))))
      (broadcast S1376x128 (Scalar.ofBits (F := Ideal) .f32 0x43E00000#32))) bitsLt_fp8e4m3_f32 := rfl

/-- The guarded reciprocals the kernel stores, as it computes them. -/
theorem pay5_select (v : FVec Ideal S1376x128 .f32) :
    k0_pay5 (F := Ideal) v
      = select (cmpf .ogt (mulf (extf .f32 (k0_pay4 (F := Ideal) v) bitsLt_fp8e4m3_f32) (broadcast S1376x128
            (Scalar.mulf (F := Ideal) (k0_pay2 (F := Ideal) v) (Named.named κ "inv_div" 0x39C30C31#32))))
          (broadcast S1376x128 (Scalar.ofBits (F := Ideal) .f32 0x00000000#32)))
        (divf (broadcast S1376x128 (Scalar.ofBits (F := Ideal) .f32 0x3F800000#32))
          (select (cmpf .ogt (mulf (extf .f32 (k0_pay4 (F := Ideal) v) bitsLt_fp8e4m3_f32) (broadcast S1376x128
            (Scalar.mulf (F := Ideal) (k0_pay2 (F := Ideal) v) (Named.named κ "inv_div" 0x39C30C31#32))))
            (broadcast S1376x128 (Scalar.ofBits (F := Ideal) .f32 0x00000000#32)))
            (mulf (extf .f32 (k0_pay4 (F := Ideal) v) bitsLt_fp8e4m3_f32) (broadcast S1376x128
              (Scalar.mulf (F := Ideal) (k0_pay2 (F := Ideal) v) (Named.named κ "inv_div" 0x39C30C31#32))))
            (broadcast S1376x128 (Scalar.ofBits (F := Ideal) .f32 0x3F800000#32))))
        (broadcast S1376x128 (Scalar.ofBits (F := Ideal) .f32 0x00000000#32)) := rfl

/-- The word of 0.0. -/
theorem zero_bits : Ideal.ofBits .f32 0x00000000#32 = (0 : EReal) := by simp [Ideal.ofBits, Ideal.ieee]

/-- The word of 1.0. -/
theorem one_bits : Ideal.ofBits .f32 0x3F800000#32 = (1 : EReal) := by
  simp [Ideal.ofBits, Ideal.ieee, -EReal.coe_mul]; norm_num

/-- The tensor scale the kernel stores. -/
theorem pay3_eq : k0_pay3 (F := Ideal) (full m c) = top m c * ((1 / 2688 : ℝ) : EReal) :=
  (pay3_mul _).trans ((mul_eq _ _).trans (congrArg (fun z : EReal => top m c * z) inv_div_val))

/-- The block scales the kernel stores. -/
theorem pay4_apply (i : S1376x128.Idx) : k0_pay4 (F := Ideal) (full m c) i = blockScale (top m c) (full m c i) :=
  (congrFun (pay4_quotient _) i).trans ((quotient_eq _ _ _ _ _ i).trans
    (congrArg₂ (fun z e : EReal => min (Ideal.div (full m c i) (top m c * z)) e) six_div_val e448_bits))

/-- The guarded reciprocals the kernel stores. -/
theorem pay5_apply (i : S1376x128.Idx) :
    k0_pay5 (F := Ideal) (full m c) i
      = recip (blockScale (top m c) (full m c i) * (top m c * ((1 / 2688 : ℝ) : EReal))) := by
  refine (congrFun (pay5_select _) i).trans ((recip_eq _ _ _ _ _ zero_bits one_bits i).trans (congrArg recip ?_))
  exact congrArg₂ (fun a b : EReal => a * b) (pay4_apply m c i) ((pay3_mul _).symm.trans (pay3_eq m c))

end Cert.WScales

end
-- ==== Proof.ScalesFinal.lean ====
/-
  The run of `w_scales`, with every result array named at coordinates.
-/
module

public import proofs.«01_k».proof.Proof.ScalesArrays

@[expose] public section

set_option maxRecDepth 16384

noncomputable section

namespace Cert.WScales

open Cert.ScalesIdeal Cert.ScalesIdeal.Gen Cert.ScalesIdeal.Hand Idealize.ShloMosaic Idealize.ShloMosaic.TcCoe Idealize.SL.Sem
open Idealize.ShloMosaic.Pipeline (Dat)

variable (m : (ℓ : Loc nD τ sig) → Buf (Elt Ideal) ℓ) (c : Dev nD)

/-- The block scales are what every grid point is held to leave in them. -/
theorem arr1 (D : Dat τ (Elt Ideal) Unit ℕ (UR sig nD τ) ℕ cfg0 c) (v : FVec Ideal S1376x128 .fp8e4m3) (h : ∀ t, D.after 1 t = v) :
    D.arrAt 1 cfg0.N = v := by
  refine D.arrAt_eq_of_covers 1 v (by decide +kernel) fun t hf y => ?_
  have e : (win0_1.blk t).view.emb y = y := by blk_ext [idx t]
  blk_simp
  rw [e]
  exact congrFun (h t) y

/-- The reciprocals are what every grid point is held to leave in them. -/
theorem arr2 (D : Dat τ (Elt Ideal) Unit ℕ (UR sig nD τ) ℕ cfg0 c) (v : FVec Ideal S1376x128 .f32) (h : ∀ t, D.after 2 t = v) :
    D.arrAt 2 cfg0.N = v := by
  refine D.arrAt_eq_of_covers 2 v (by decide +kernel) fun t hf y => ?_
  have e : (win0_2.blk t).view.emb y = y := by blk_ext [idx t]
  blk_simp
  rw [e]
  exact congrFun (h t) y

/-- The tensor scale's entries are what every grid point is held to leave in them. -/
theorem arr3 (D : Dat τ (Elt Ideal) Unit ℕ (UR sig nD τ) ℕ cfg0 c) (v : FVec Ideal S1 .f32) (h : ∀ t, D.after 3 t = v) :
    D.arrAt 3 cfg0.N = v := by
  refine D.arrAt_eq_of_covers 3 v (by decide +kernel) fun t hf y => ?_
  have e : (win0_3.blk t).view.emb y = y := by blk_ext [idx t]
  blk_simp
  rw [e]
  exact congrFun (h t) y

/-- **The block scales**, the first result. -/
theorem final1 (i : S1376x128.Idx) : (dats m 0 c).arrAt 1 cfg0.N i = blockScale (top m c) (full m c i) :=
  (congrFun (arr1 c (dats m 0 c) _ (after_1 m c)) i).trans (pay4_apply m c i)

/-- **The reciprocals**, the second result. -/
theorem final2 (i : S1376x128.Idx) : (dats m 0 c).arrAt 2 cfg0.N i
    = recip (blockScale (top m c) (full m c i) * (top m c * ((1 / 2688 : ℝ) : EReal))) :=
  (congrFun (arr2 c (dats m 0 c) _ (after_2 m c)) i).trans (pay5_apply m c i)

/-- **The tensor scale**, the third result. -/
theorem final3 (i : S1.Idx) : (dats m 0 c).arrAt 3 cfg0.N i = top m c * ((1 / 2688 : ℝ) : EReal) :=
  (congrFun (arr3 c (dats m 0 c) _ (after_3 m c)) i).trans (pay3_eq m c)

/-- The run, every result array named and the argument unchanged. -/
theorem run_blocks (ρ : Dev nD → PrngReg) :
    θ_run defs (onTc (τ := τ) (main (F := Ideal))) ⟨m, fun _ => 0, ρ⟩ fun r => ∀ c : Dev nD,
      r.2.mem ((c : Thread nD τ).loc main_v0_0) = (dats m 0 c).arrAt 1 cfg0.N
      ∧ r.2.mem ((c : Thread nD τ).loc main_v0_1) = (dats m 0 c).arrAt 2 cfg0.N
      ∧ r.2.mem ((c : Thread nD τ).loc main_v0_2) = (dats m 0 c).arrAt 3 cfg0.N
      ∧ r.2.mem ((c : Thread nD τ).loc main_arg0) = m ((c : Thread nD τ).loc main_arg0) :=
  (θ_run defs _ _).mono (fun r h c => ⟨(h c).1 1, (h c).1 2, (h c).1 3,
    ((h c).1 0).trans (((dats m 0 c).arrAt_in 0 rfl _).trans ((A_eq m c 0).trans (V_main_arg0 m c)))⟩) (run_main m ρ)

end Cert.WScales

end
-- ==== Proof.ScalesRef.lean ====
/-
  The results of the reference for `w_scales`, and that they are the kernel's.
-/
module

public import proofs.«01_k».proof.Proof.ScalesArrays
public import proofs.«01_k».proof.Proof.Gen.ScalesReferenceIdeal.Value
public import Idealize.ShloMosaic.Lib.Pointwise
public import Idealize.ShloMosaic.Lib.Pipeline.ValueKit

@[expose] public section

set_option maxRecDepth 16384

noncomputable section

namespace Cert.WScalesRef

open Cert.ScalesReferenceIdeal Cert.ScalesReferenceIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Every array is one block. -/
theorem idx : ∀ t : Fin cfg0.N, win0_0.index t = ![0, 0] ∧ win0_1.index t = ![0, 0] ∧ win0_2.index t = ![0, 0]
    ∧ win0_3.index t = ![0] :=
  (by decide +kernel : ∀ t : Fin grid0.N, _)

/-- The weights, as the reference reads them. -/
theorem w_eq (t : Fin cfg0.N) : iblk m c 0 t = m ((c : Thread nD τ).loc main_arg0) := by
  funext y
  have e : (win0_0.blk t).view.emb y = y := by blk_ext [idx t]
  blk_simp [iblk]
  rw [e]

/-- The reference's blocks of the results after its one point are its stored values. -/
theorem out_eq (t : Fin cfg0.N) (y : S1376x128.Idx) (z : S1.Idx) :
    (outsAt0 m c t).1 y = k0_pay3 (F := Ideal) (iblk m c 0 t) y
      ∧ (outsAt0 m c t).2.1 y = k0_pay4 (F := Ideal) (iblk m c 0 t) y
      ∧ (outsAt0 m c t).2.2 z = k0_pay2 (F := Ideal) (iblk m c 0 t) := by
  unfold outsAt0
  refine ⟨?_, ?_, ?_⟩
  · frame_out
    exact congrArg (fun x => k0_pay3 (F := Ideal) x y) (Memref.IsWhole.read_unread _ _)
  · frame_out
    exact congrArg (fun x => k0_pay4 (F := Ideal) x y) (Memref.IsWhole.read_unread _ _)
  · frame_out
    exact congrArg (fun x => k0_pay2 (F := Ideal) x) (Memref.IsWhole.read_unread _ _)

variable (w : FVec Ideal S22016x2048 .bf16)

/-- The largest magnitude in each block, as the reference takes it. -/
def blockMax : FVec Ideal S1376x128 .f32 :=
  multiReduction .maximumf [1, 3] S1376x128 (absf (shapeCast S1376x16x128x16 (k0_pay1 (F := Ideal) w) shapeCasts_S22016x2048_S1376x16x128x16))
    0xFF800000#32 reduces_S1376x16x128x16_S1376x128 (.inl rfl) rfl

/-- The weights cut into blocks. -/
theorem cut_apply (r : Fin 1376) (i : Fin 16) (l : Fin 128) (k : Fin 16) :
    shapeCast S1376x16x128x16 (k0_pay1 (F := Ideal) w) shapeCasts_S22016x2048_S1376x16x128x16 (ix4 r i l k)
      = w (ix2 ⟨r.val * 16 + i.val, by omega⟩ ⟨l.val * 16 + k.val, by omega⟩) := by
  refine (shapeCast_apply _ _ _ (ix2 ⟨r.val * 16 + i.val, by omega⟩ ⟨l.val * 16 + k.val, by omega⟩) ?_).trans rfl
  refine (Shape.rowMajor_val_two (d := ![22016, 2048]) (ix2 _ _)).trans
    (Eq.trans ?_ (Shape.rowMajor_val_four (d := ![1376, 16, 128, 16]) (ix4 r i l k)).symm)
  change (r.val * 16 + i.val) * 2048 + (l.val * 16 + k.val) = ((r.val * 16 + i.val) * 128 + l.val) * 16 + k.val
  omega

/-- The row of blocks and the lane an element of the cut weights belongs to. -/
theorem drop_eq (r : Fin 1376) (i : Fin 16) (l : Fin 128) (k : Fin 16) :
    reduces_S1376x16x128x16_S1376x128.drop (ix4 r i l k) = ix2 r l := by
  funext a
  fin_cases a <;> rfl

/-- A block's largest magnitude is the least upper bound of its elements' magnitudes. -/
theorem blockMax_le (r : Fin 1376) (l : Fin 128) (b : EReal) :
    blockMax w (ix2 r l) ≤ b
      ↔ ∀ i k : Fin 16, Cert.WScales.mag w ⟨r.val * 16 + i.val, by omega⟩ ⟨l.val * 16 + k.val, by omega⟩ ≤ b := by
  unfold blockMax
  generalize hv : shapeCast S1376x16x128x16 (k0_pay1 (F := Ideal) w) shapeCasts_S22016x2048_S1376x16x128x16 = v
  pointwise
  rw [Finset.fold_max_le, Cert.GateUp.negInf_bits]
  simp only [bot_le, true_and, Finset.mem_filter, Finset.mem_univ]
  subst hv
  constructor
  · intro h i k
    have h' := h (ix4 r i l k) (drop_eq r i l k)
    rw [cut_apply] at h'
    exact h'
  · intro h x hx
    obtain ⟨r', i, l', k, rfl⟩ : ∃ (r' : Fin 1376) (i : Fin 16) (l' : Fin 128) (k : Fin 16), x = ix4 r' i l' k :=
      ⟨x 0, x 1, x 2, x 3, funext fun a => by match a with | ⟨0, _⟩ => rfl | ⟨1, _⟩ => rfl | ⟨2, _⟩ => rfl | ⟨3, _⟩ => rfl⟩
    rw [drop_eq] at hx
    obtain rfl : r' = r := congrFun hx 0
    obtain rfl : l' = l := congrFun hx 1
    rw [cut_apply]
    exact h i k

/-- The largest magnitude, as the reference takes it. -/
def topR : EReal :=
  extractAt ![0, 0, 0] (shapeCast S1x1x1 (multiReduction .maximumf [1, 2] S1 (shapeCast S1x22016x2048 (absf (k0_pay1 (F := Ideal) w))
    shapeCasts_S22016x2048_S1x22016x2048) 0xFF800000#32 reduces_S1x22016x2048_S1 (.inl rfl) rfl) shapeCasts_S1_S1x1x1) inpos_S1x1x1_p0_0_0

/-- `topR` is the least upper bound of all magnitudes. -/
theorem topR_le (b : EReal) : topR w ≤ b ↔ ∀ (row : Fin 22016) (k : Fin 2048), Cert.WScales.mag w row k ≤ b := by
  unfold topR
  pointwise
  rw [Finset.fold_max_le, Cert.GateUp.negInf_bits]
  simp only [bot_le, true_and, Finset.mem_univ, true_implies]
  exact ⟨fun h row k => h (row, k), fun h x => h x.1 x.2⟩

/-! ## The stored values -/

/-- The word of 6.0. -/
theorem six_bits : Ideal.ofBits .f32 0x40C00000#32 = ((6 : ℝ) : EReal) := by
  simp [Ideal.ofBits, Ideal.ieee, -EReal.coe_mul]; norm_num

/-- The word of 2688.0. -/
theorem div_bits : Ideal.ofBits .f32 0x45280000#32 = ((2688 : ℝ) : EReal) := by
  simp [Ideal.ofBits, Ideal.ieee, -EReal.coe_mul]; norm_num

/-- A scalar quotient over the reals. -/
theorem div_eq (s z : Ideal .f32) : (Scalar.divf (F := Ideal) s z : EReal) = Ideal.div s z := rfl

/-- The tensor scale the reference stores, as it computes it. -/
theorem pay2_div : k0_pay2 (F := Ideal) w = Scalar.divf (F := Ideal) (topR w) (Scalar.ofBits (F := Ideal) .f32 0x45280000#32) := rfl

/-- The block scales the reference stores, as it computes them. -/
theorem pay3_quotient :
    k0_pay3 (F := Ideal) w = truncf .fp8e4m3 (minimumf (divf (blockMax w) (broadcast S1376x128
      (Scalar.mulf (F := Ideal) (k0_pay2 (F := Ideal) w) (Scalar.ofBits (F := Ideal) .f32 0x40C00000#32))))
      (broadcast S1376x128 (Scalar.ofBits (F := Ideal) .f32 0x43E00000#32))) bitsLt_fp8e4m3_f32 := rfl

/-- The guarded reciprocals the reference stores, as it computes them. -/
theorem pay4_select :
    k0_pay4 (F := Ideal) w
      = select (cmpf .ogt (mulf (extf .f32 (k0_pay3 (F := Ideal) w) bitsLt_fp8e4m3_f32) (broadcast S1376x128 (k0_pay2 (F := Ideal) w)))
          (broadcast S1376x128 (Scalar.ofBits (F := Ideal) .f32 0x00000000#32)))
        (divf (broadcast S1376x128 (Scalar.ofBits (F := Ideal) .f32 0x3F800000#32))
          (select (cmpf .ogt (mulf (extf .f32 (k0_pay3 (F := Ideal) w) bitsLt_fp8e4m3_f32) (broadcast S1376x128 (k0_pay2 (F := Ideal) w)))
            (broadcast S1376x128 (Scalar.ofBits (F := Ideal) .f32 0x00000000#32)))
            (mulf (extf .f32 (k0_pay3 (F := Ideal) w) bitsLt_fp8e4m3_f32) (broadcast S1376x128 (k0_pay2 (F := Ideal) w)))
            (broadcast S1376x128 (Scalar.ofBits (F := Ideal) .f32 0x3F800000#32))))
        (broadcast S1376x128 (Scalar.ofBits (F := Ideal) .f32 0x00000000#32)) := rfl

/-- The tensor scale the reference stores. -/
theorem pay2_eq : k0_pay2 (F := Ideal) w = topR w * ((1 / 2688 : ℝ) : EReal) :=
  (pay2_div w).trans ((div_eq _ _).trans ((congrArg (fun z : EReal => Ideal.div (topR w) z) div_bits).trans
    (Ideal.div_coe (by norm_num : (2688 : ℝ) ≠ 0) (topR w))))

/-- Six times a 2688th is a 448th. -/
theorem six_div (a : EReal) : a * ((1 / 2688 : ℝ) : EReal) * ((6 : ℝ) : EReal) = a * ((1 / 448 : ℝ) : EReal) := by
  rw [mul_assoc, ← EReal.coe_mul]
  norm_num

/-- The block scales the reference stores. -/
theorem pay3_apply (i : S1376x128.Idx) : k0_pay3 (F := Ideal) w i = Cert.WScales.blockScale (topR w) (blockMax w i) :=
  (congrFun (pay3_quotient w) i).trans ((Cert.WScales.quotient_eq _ _ _ _ _ i).trans
    ((congrArg₂ (fun z e : EReal => min (Ideal.div (blockMax w i) z) e)
      (congrArg₂ (fun a b : EReal => a * b) (pay2_eq w) six_bits) Cert.WScales.e448_bits).trans
      (congrArg (fun z : EReal => min (Ideal.div (blockMax w i) z) ((448 : ℝ) : EReal)) (six_div (topR w)))))

/-- The guarded reciprocals the reference stores. -/
theorem pay4_apply (i : S1376x128.Idx) : k0_pay4 (F := Ideal) w i
    = Cert.WScales.recip (Cert.WScales.blockScale (topR w) (blockMax w i) * (topR w * ((1 / 2688 : ℝ) : EReal))) :=
  (congrFun (pay4_select w) i).trans ((Cert.WScales.recip_eq _ _ _ _ _ Cert.WScales.zero_bits Cert.WScales.one_bits i).trans
    (congrArg Cert.WScales.recip (congrArg₂ (fun a b : EReal => a * b) (pay3_apply w i) (pay2_eq w))))

/-! ## The result arrays -/

/-- The weights of the reference's run. -/
abbrev W : FVec Ideal S22016x2048 .bf16 := m ((c : Thread nD τ).loc main_arg0)

/-- A result array is what its one grid point is held to leave in it. -/
theorem arr1 (D : Dat τ (Elt Ideal) Unit ℕ (UR sig nD τ) ℕ cfg0 c) (v : FVec Ideal S1376x128 .fp8e4m3) (h : ∀ t y, D.after 1 t y = v y) :
    D.arrAt 1 cfg0.N = v := by
  refine D.arrAt_eq_of_covers 1 v (by decide +kernel) fun t hf y => ?_
  have e : (win0_1.blk t).view.emb y = y := by blk_ext [idx t]
  blk_simp
  rw [e]
  exact h t y

@[inherit_doc arr1]
theorem arr2 (D : Dat τ (Elt Ideal) Unit ℕ (UR sig nD τ) ℕ cfg0 c) (v : FVec Ideal S1376x128 .f32) (h : ∀ t y, D.after 2 t y = v y) :
    D.arrAt 2 cfg0.N = v := by
  refine D.arrAt_eq_of_covers 2 v (by decide +kernel) fun t hf y => ?_
  have e : (win0_2.blk t).view.emb y = y := by blk_ext [idx t]
  blk_simp
  rw [e]
  exact h t y

@[inherit_doc arr1]
theorem arr3 (D : Dat τ (Elt Ideal) Unit ℕ (UR sig nD τ) ℕ cfg0 c) (v : FVec Ideal S1 .f32) (h : ∀ t y, D.after 3 t y = v y) :
    D.arrAt 3 cfg0.N = v := by
  refine D.arrAt_eq_of_covers 3 v (by decide +kernel) fun t hf y => ?_
  have e : (win0_3.blk t).view.emb y = y := by blk_ext [idx t]
  blk_simp
  rw [e]
  exact h t y

/-- What the one grid point leaves in the results' blocks. -/
theorem after_eq (t : Fin cfg0.N) : (∀ y, (dats m 0 c).after 1 t y = k0_pay3 (F := Ideal) (W m c) y)
    ∧ (∀ y, (dats m 0 c).after 2 t y = k0_pay4 (F := Ideal) (W m c) y)
    ∧ (∀ y, (dats m 0 c).after 3 t y = k0_pay2 (F := Ideal) (W m c)) := by
  have h := out_eq m c t
  rw [w_eq m c t] at h
  dsimp only [dats]
  exact ⟨fun y => (h y (ix1 0)).1, fun y => (h y (ix1 0)).2.1, fun y => (h (ix2 0 0) y).2.2⟩

/-- **The reference's block scales.** -/
theorem final1 (i : S1376x128.Idx) : (dats m 0 c).arrAt 1 cfg0.N i = Cert.WScales.blockScale (topR (W m c)) (blockMax (W m c) i) := by
  rw [arr1 c (dats m 0 c) _ fun t => (after_eq m c t).1]
  exact pay3_apply (W m c) i

/-- **The reference's reciprocals.** -/
theorem final2 (i : S1376x128.Idx) : (dats m 0 c).arrAt 2 cfg0.N i
    = Cert.WScales.recip (Cert.WScales.blockScale (topR (W m c)) (blockMax (W m c) i) * (topR (W m c) * ((1 / 2688 : ℝ) : EReal))) := by
  rw [arr2 c (dats m 0 c) _ fun t => (after_eq m c t).2.1]
  exact pay4_apply (W m c) i

/-- **The reference's tensor scale.** -/
theorem final3 (i : S1.Idx) : (dats m 0 c).arrAt 3 cfg0.N i = topR (W m c) * ((1 / 2688 : ℝ) : EReal) := by
  rw [arr3 c (dats m 0 c) (fun _ => k0_pay2 (F := Ideal) (W m c)) fun t => (after_eq m c t).2.2]
  exact pay2_eq (W m c)

end Cert.WScalesRef

end
-- ==== Proof.ScalesAgree.lean ====
/-
  The kernel `w_scales` and its reference end with equal results.
-/
module

public import proofs.«01_k».proof.Proof.ScalesFinal
public import proofs.«01_k».proof.Proof.ScalesRef
public import proofs.«01_k».proof.Defs

@[expose] public section

set_option maxRecDepth 16384

noncomputable section

namespace Cert.WScales

open Idealize.ShloMosaic Idealize.ShloMosaic.TcCoe Idealize.SL.Sem

variable (m : (ℓ : Loc Cert.ScalesIdeal.nD Cert.ScalesIdeal.τ Cert.ScalesIdeal.sig) → Buf (Elt Ideal) ℓ) (c : Dev Cert.ScalesIdeal.nD)

/-- The kernel's largest magnitude is the reference's. -/
theorem top_eq : top m c = Cert.WScalesRef.topR (W m c) :=
  eq_of_forall_ge_iff fun b => (top_le m c b).trans (Cert.WScalesRef.topR_le (W m c) b).symm

/-- The kernel's block maxima are the reference's. -/
theorem full_eq (i : Cert.ScalesIdeal.S1376x128.Idx) : Cert.ScalesIdeal.Hand.full m c i = Cert.WScalesRef.blockMax (W m c) i := by
  obtain ⟨r, l, rfl⟩ : ∃ (r : Fin 1376) (l : Fin 128), i = ix2 r l :=
    ⟨i 0, i 1, funext fun a => by match a with | ⟨0, _⟩ => rfl | ⟨1, _⟩ => rfl⟩
  exact eq_of_forall_ge_iff fun b => (full_le m c r l b).trans (Cert.WScalesRef.blockMax_le (W m c) r l b).symm

/-- The ideal `w_scales` and its ideal reference, from equal weights, end with equal results. -/
theorem algebraic : Cert.algebraic_ScalesIdeal_ScalesReferenceIdeal := by
  intro m g m' g' _ hagree
  refine ⟨_, _, _, run_blocks m g, (θ_run _ _ _).mono (fun r h c => ?_) (Cert.ScalesReferenceIdeal.Value.run_blocks m' g')⟩
  obtain ⟨h0, h1, h2, harg⟩ := h c
  have e : Cert.WScalesRef.W m' c = W m c := hagree c
  refine ⟨h0.trans (funext fun i => ?_), h1.trans (funext fun i => ?_), h2.trans (funext fun i => ?_), harg⟩
  · refine (Cert.WScalesRef.final1 m' c i).trans (Eq.trans ?_ (final1 m c i).symm)
    rw [e, top_eq, full_eq]
  · refine (Cert.WScalesRef.final2 m' c i).trans (Eq.trans ?_ (final2 m c i).symm)
    rw [e, top_eq, full_eq]
  · refine (Cert.WScalesRef.final3 m' c i).trans (Eq.trans ?_ (final3 m c i).symm)
    rw [e, top_eq]

end Cert.WScales

end
-- ==== Proof.ActCode.lean ====
/-
  The code of a scaled activation in the four-bit format with magnitudes 0, 1/2, 1, 3/2, 2, 3, 4, 6: as the kernel finds it,
  by counting the thresholds below the magnitude, and as the reference finds it, by rounding to the grid; and that both
  are the same on the format's range.
-/
module

public import proofs.«01_k».proof.Proof.ScalesRef

@[expose] public section

noncomputable section

namespace Cert.Act

open Idealize.ShloMosaic

/-- A truth value as a word. -/
def bit (p : Prop) [Decidable p] : BitVec 32 := if p then 1#32 else 0#32

/-- How many of the thresholds between neighbouring magnitudes lie below `a`; a threshold itself counts where the larger
    neighbour is the one of even code. -/
def count (a : EReal) : BitVec 32 :=
  0#32 + bit (((1 / 4 : ℝ) : EReal) < a) + bit (((3 / 4 : ℝ) : EReal) ≤ a) + bit (((5 / 4 : ℝ) : EReal) < a)
    + bit (((7 / 4 : ℝ) : EReal) ≤ a) + bit (((5 / 2 : ℝ) : EReal) < a) + bit (((7 / 2 : ℝ) : EReal) ≤ a)
    + bit (((5 : ℝ) : EReal) < a)

/-- The kernel's code: the count, and the sign in the fourth bit. -/
def nibK (v : EReal) : BitVec 32 := if v < 0 then count (max v (-v)) ||| 8#32 else count (max v (-v))

/-- Rounding to the nearest integer, ties to even. -/
def rnd (x : EReal) : EReal := Ideal.liftRound Ideal.roundHalfEven x

/-- The nearest magnitude of the format, as the reference rounds to it. -/
def grid (a : EReal) : EReal :=
  if a < ((2 : ℝ) : EReal) then Ideal.div (rnd (((2 : ℝ) : EReal) * a)) ((2 : ℝ) : EReal)
  else if a < ((4 : ℝ) : EReal) then rnd a
  else ((2 : ℝ) : EReal) * rnd (Ideal.div a ((2 : ℝ) : EReal))

/-- The position of a magnitude in the format's list, as the reference computes it. -/
def index (g : EReal) : EReal :=
  if g < ((2 : ℝ) : EReal) then ((2 : ℝ) : EReal) * g
  else if g < ((4 : ℝ) : EReal) then g + ((2 : ℝ) : EReal)
  else Ideal.div g ((2 : ℝ) : EReal) + ((4 : ℝ) : EReal)

/-- The reference's code: the sign in the fourth bit, and the position of the nearest magnitude. -/
def nibR (v : EReal) : BitVec 32 := (bit (v < 0) <<< 3) ||| Ideal.fptosi 32 (index (grid (max v (-v))))

/-- Rounding finds the integer nearer than one half, and the even one at one half. -/
theorem round_eq (r : ℝ) (n : ℤ) (h1 : n - 1 / 2 ≤ r) (h2 : r ≤ n + 1 / 2)
    (h : Even n ∨ ((n : ℝ) - 1 / 2 < r ∧ r < n + 1 / 2)) : Ideal.roundHalfEven r = n := by
  have hf : ⌊r⌋ = n ∨ ⌊r⌋ = n - 1 := by
    by_cases hr : (n : ℝ) ≤ r
    · exact .inl (Int.floor_eq_iff.mpr ⟨hr, by linarith⟩)
    · exact .inr (Int.floor_eq_iff.mpr ⟨by push_cast; linarith, by push_cast; linarith [not_le.mp hr]⟩)
  unfold Ideal.roundHalfEven
  rcases hf with e | e <;> rw [e] <;> dsimp only
  · by_cases ha : r - n < 1 / 2
    · rw [if_pos ha]
    · rw [if_neg ha, if_neg (by linarith)]
      rcases h with h | h
      · rw [if_pos h]
      · linarith [h.2]
  · push_cast
    rw [if_neg (by linarith)]
    by_cases hb : 1 / 2 < r - (n - 1)
    · rw [if_pos hb]; ring
    · rw [if_neg hb]
      rcases h with h | h
      · rw [if_neg (by intro h'; exact absurd h (by simpa [Int.even_sub_one] using h'))]; ring
      · linarith [h.1]

theorem rnd_coe (r : ℝ) (n : ℤ) (h : Ideal.roundHalfEven r = n) : rnd ((r : ℝ) : EReal) = (((n : ℝ)) : EReal) := by
  unfold rnd
  rw [Ideal.liftRound_coe, h]

theorem half_coe (r : ℝ) : Ideal.div (r : EReal) ((2 : ℝ) : EReal) = ((r / 2 : ℝ) : EReal) := by
  rw [Ideal.div_coe (by norm_num), ← EReal.coe_mul]
  congr 1; ring

/-- Below 2 the grid is the halves. -/
theorem grid_lo (a : ℝ) (n : ℤ) (h : a < 2) (hn : Ideal.roundHalfEven (2 * a) = n) : grid a = ((n / 2 : ℝ) : EReal) := by
  unfold grid
  rw [if_pos (EReal.coe_lt_coe_iff.mpr h), ← EReal.coe_mul, rnd_coe _ n hn, half_coe]

/-- From 2 to 4 the grid is the integers. -/
theorem grid_mid (a : ℝ) (n : ℤ) (h : 2 ≤ a) (h' : a < 4) (hn : Ideal.roundHalfEven a = n) : grid a = ((n : ℝ) : EReal) := by
  unfold grid
  rw [if_neg (not_lt.mpr (EReal.coe_le_coe_iff.mpr h)), if_pos (EReal.coe_lt_coe_iff.mpr h'), rnd_coe _ n hn]

/-- From 4 the grid is the even integers. -/
theorem grid_hi (a : ℝ) (n : ℤ) (h : 4 ≤ a) (hn : Ideal.roundHalfEven (a / 2) = n) : grid a = ((2 * n : ℝ) : EReal) := by
  unfold grid
  rw [if_neg (not_lt.mpr (EReal.coe_le_coe_iff.mpr (by linarith))), if_neg (not_lt.mpr (EReal.coe_le_coe_iff.mpr h)), half_coe,
    rnd_coe _ n hn, ← EReal.coe_mul]

theorem index_lo (g : ℝ) (h : g < 2) : index g = ((2 * g : ℝ) : EReal) := by
  unfold index
  rw [if_pos (EReal.coe_lt_coe_iff.mpr h), ← EReal.coe_mul]

theorem index_mid (g : ℝ) (h : 2 ≤ g) (h' : g < 4) : index g = ((g + 2 : ℝ) : EReal) := by
  unfold index
  rw [if_neg (not_lt.mpr (EReal.coe_le_coe_iff.mpr h)), if_pos (EReal.coe_lt_coe_iff.mpr h'), ← EReal.coe_add]

theorem index_hi (g : ℝ) (h : 4 ≤ g) : index g = ((g / 2 + 4 : ℝ) : EReal) := by
  unfold index
  rw [if_neg (not_lt.mpr (EReal.coe_le_coe_iff.mpr (by linarith))), if_neg (not_lt.mpr (EReal.coe_le_coe_iff.mpr h)), half_coe,
    ← EReal.coe_add]

/-- A small natural number, converted to a word. -/
theorem toWord (x : ℝ) (n : ℕ) (h : x = n) (hn : n < 8) : Ideal.fptosi 32 ((x : ℝ) : EReal) = BitVec.ofNat 32 n := by
  subst h
  unfold Ideal.fptosi
  rw [Ideal.toIntClamped_coe, if_pos (Nat.cast_nonneg n), Int.floor_natCast]
  have : max (-((2 ^ (32 - 1) : ℕ) : ℤ)) (min (((2 ^ (32 - 1) : ℕ) : ℤ) - 1) (n : ℤ)) = n := by omega
  rw [this]
  exact BitVec.ofInt_natCast 32 n

theorem bit_true {p : Prop} [Decidable p] (h : p) : bit p = 1#32 := if_pos h
theorem bit_false {p : Prop} [Decidable p] (h : ¬p) : bit p = 0#32 := if_neg h

/-- The eight intervals: rounding to the grid and counting thresholds give the same code. -/
theorem code_eq (a : ℝ) (h0 : 0 ≤ a) (h6 : a ≤ 6) : Ideal.fptosi 32 (index (grid a)) = count a := by
  unfold count
  simp only [EReal.coe_lt_coe_iff, EReal.coe_le_coe_iff]
  by_cases c1 : a ≤ 1 / 4
  · rw [grid_lo a 0 (by linarith) (round_eq _ _ (by push_cast; linarith) (by push_cast; linarith) (.inl (by decide))),
      index_lo _ (by norm_num), toWord _ 0 (by norm_num) (by norm_num)]
    simp only [bit_false (show ¬ (1 / 4 : ℝ) < a by linarith), bit_false (show ¬ (3 / 4 : ℝ) ≤ a by linarith),
      bit_false (show ¬ (5 / 4 : ℝ) < a by linarith), bit_false (show ¬ (7 / 4 : ℝ) ≤ a by linarith),
      bit_false (show ¬ (5 / 2 : ℝ) < a by linarith), bit_false (show ¬ (7 / 2 : ℝ) ≤ a by linarith),
      bit_false (show ¬ (5 : ℝ) < a by linarith)]
    decide
  rw [bit_true (not_le.mp c1)]
  by_cases c2 : a < 3 / 4
  · rw [grid_lo a 1 (by linarith) (round_eq _ _ (by push_cast; linarith) (by push_cast; linarith)
        (.inr ⟨by push_cast; linarith, by push_cast; linarith⟩)),
      index_lo _ (by norm_num), toWord _ 1 (by norm_num) (by norm_num)]
    simp only [bit_false (show ¬ (3 / 4 : ℝ) ≤ a by linarith),
      bit_false (show ¬ (5 / 4 : ℝ) < a by linarith), bit_false (show ¬ (7 / 4 : ℝ) ≤ a by linarith),
      bit_false (show ¬ (5 / 2 : ℝ) < a by linarith), bit_false (show ¬ (7 / 2 : ℝ) ≤ a by linarith),
      bit_false (show ¬ (5 : ℝ) < a by linarith)]
    decide
  rw [bit_true (not_lt.mp c2)]
  by_cases c3 : a ≤ 5 / 4
  · rw [grid_lo a 2 (by linarith) (round_eq _ _ (by push_cast; linarith) (by push_cast; linarith) (.inl (by decide))),
      index_lo _ (by norm_num), toWord _ 2 (by norm_num) (by norm_num)]
    simp only [bit_false (show ¬ (5 / 4 : ℝ) < a by linarith), bit_false (show ¬ (7 / 4 : ℝ) ≤ a by linarith),
      bit_false (show ¬ (5 / 2 : ℝ) < a by linarith), bit_false (show ¬ (7 / 2 : ℝ) ≤ a by linarith),
      bit_false (show ¬ (5 : ℝ) < a by linarith)]
    decide
  rw [bit_true (not_le.mp c3)]
  by_cases c4 : a < 7 / 4
  · rw [grid_lo a 3 (by linarith) (round_eq _ _ (by push_cast; linarith) (by push_cast; linarith)
        (.inr ⟨by push_cast; linarith, by push_cast; linarith⟩)),
      index_lo _ (by norm_num), toWord _ 3 (by norm_num) (by norm_num)]
    simp only [bit_false (show ¬ (7 / 4 : ℝ) ≤ a by linarith),
      bit_false (show ¬ (5 / 2 : ℝ) < a by linarith), bit_false (show ¬ (7 / 2 : ℝ) ≤ a by linarith),
      bit_false (show ¬ (5 : ℝ) < a by linarith)]
    decide
  rw [bit_true (not_lt.mp c4)]
  by_cases c5 : a ≤ 5 / 2
  · have e : grid a = ((2 : ℝ) : EReal) := by
      by_cases c : a < 2
      · rw [grid_lo a 4 c (round_eq _ _ (by push_cast; linarith) (by push_cast; linarith) (.inl (by decide)))]
        norm_num
      · rw [grid_mid a 2 (not_lt.mp c) (by linarith) (round_eq _ _ (by push_cast; linarith) (by push_cast; linarith) (.inl (by decide)))]
        norm_num
    rw [e, index_mid _ (by norm_num) (by norm_num), toWord _ 4 (by norm_num) (by norm_num)]
    simp only [bit_false (show ¬ (5 / 2 : ℝ) < a by linarith), bit_false (show ¬ (7 / 2 : ℝ) ≤ a by linarith),
      bit_false (show ¬ (5 : ℝ) < a by linarith)]
    decide
  rw [bit_true (not_le.mp c5)]
  by_cases c6 : a < 7 / 2
  · rw [grid_mid a 3 (by linarith) (by linarith) (round_eq _ _ (by push_cast; linarith) (by push_cast; linarith)
        (.inr ⟨by push_cast; linarith, by push_cast; linarith⟩)),
      index_mid _ (by norm_num) (by norm_num), toWord _ 5 (by norm_num) (by norm_num)]
    simp only [bit_false (show ¬ (7 / 2 : ℝ) ≤ a by linarith), bit_false (show ¬ (5 : ℝ) < a by linarith)]
    decide
  rw [bit_true (not_lt.mp c6)]
  by_cases c7 : a ≤ 5
  · have e : grid a = ((4 : ℝ) : EReal) := by
      by_cases c : a < 4
      · rw [grid_mid a 4 (by linarith) c (round_eq _ _ (by push_cast; linarith) (by push_cast; linarith) (.inl (by decide)))]
        norm_num
      · rw [grid_hi a 2 (not_lt.mp c) (round_eq _ _ (by push_cast; linarith) (by push_cast; linarith) (.inl (by decide)))]
        norm_num
    rw [e, index_hi _ (by norm_num), toWord _ 6 (by norm_num) (by norm_num)]
    simp only [bit_false (show ¬ (5 : ℝ) < a by linarith)]
    decide
  rw [bit_true (not_le.mp c7), grid_hi a 3 (by linarith) (round_eq _ _ (by push_cast; linarith) (by push_cast; linarith)
      (.inr ⟨by push_cast; linarith, by push_cast; linarith⟩)),
    index_hi _ (by norm_num), toWord _ 7 (by norm_num) (by norm_num)]
  decide

/-- **On the format's range, from -6 to 6, the kernel's code is the reference's.** -/
theorem nib_eq (v : EReal) (h1 : ((-6 : ℝ) : EReal) ≤ v) (h2 : v ≤ ((6 : ℝ) : EReal)) : nibK v = nibR v := by
  induction v with
  | bot => exact absurd h1 (by simp)
  | top => exact absurd h2 (by simp)
  | coe r =>
    rw [EReal.coe_le_coe_iff] at h1 h2
    have e : max (r : EReal) (-(r : EReal)) = ((|r| : ℝ) : EReal) := by
      rw [← EReal.coe_neg, abs_eq_max_neg]
      exact (EReal.coe_strictMono.monotone.map_max).symm
    unfold nibK nibR
    rw [e, code_eq _ (abs_nonneg r) (abs_le.mpr ⟨by linarith, h2⟩)]
    by_cases h : (r : EReal) < 0
    · rw [if_pos h, bit_true h, BitVec.or_comm]
      rfl
    · rw [if_neg h, bit_false h]
      simp

end Cert.Act

end
-- ==== Proof.ActColumn.lean ====
/-
  One token's activations, cut into blocks of 16 channels: scales, scaled values and packed codes, as the kernel and as the
  reference compute them; and that both agree where the largest magnitude handed in is not negative.
-/
module

public import proofs.«01_k».proof.Proof.ActCode

@[expose] public section

noncomputable section

namespace Cert.Act

open Idealize.ShloMosaic

/-- The largest magnitude of a block of 16 activations. -/
def blockMax (h : Fin 16 → EReal) : EReal := Finset.univ.sup fun j => max (h j) (-(h j))

theorem blockMax_le (h : Fin 16 → EReal) (b : EReal) : blockMax h ≤ b ↔ ∀ j, max (h j) (-(h j)) ≤ b := by
  unfold blockMax
  simp only [Finset.sup_le_iff, Finset.mem_univ, true_implies]

/-- The scale of a block, from the tensor's largest magnitude `t` and the block's activations. -/
def scale (t : EReal) (h : Fin 16 → EReal) : EReal := Cert.WScales.blockScale t (blockMax h)

/-- The step of a block: its scale times the tensor's. -/
def step (t : EReal) (h : Fin 16 → EReal) : EReal := scale t h * (t * ((1 / 2688 : ℝ) : EReal))

/-- A value clipped to the format's range. -/
def clip (v : EReal) : EReal := min ((6 : ℝ) : EReal) (max ((-6 : ℝ) : EReal) v)

/-- The kernel's scaled activation: times the guarded reciprocal of the step, plus the smaller of `t` and 0. -/
def valK (t : EReal) (h : Fin 16 → EReal) (j : Fin 16) : EReal := clip (h j * Cert.WScales.recip (step t h) + min t 0)

/-- The reference's scaled activation: divided by the step where that is positive. -/
def valR (t : EReal) (h : Fin 16 → EReal) (j : Fin 16) : EReal :=
  clip (if 0 < step t h then Ideal.div (h j) (if 0 < step t h then step t h else 1) else 0)

/-- Two codes in one byte, the even channel's in the lower half. -/
def byte (lo hi : BitVec 32) : BitVec 8 := (lo ||| hi <<< 4).setWidth 8

/-- The block of 16 channels with number `g`. -/
def block (h : Fin 11008 → EReal) (g : Fin 688) (j : Fin 16) : EReal := h ⟨16 * g.val + j.val, by omega⟩

/-- The scaled activation of channel `n`, the kernel's. -/
def atK (t : EReal) (h : Fin 11008 → EReal) (n : Fin 11008) : EReal :=
  valK t (block h ⟨n.val / 16, by omega⟩) ⟨n.val % 16, by omega⟩

/-- The scaled activation of channel `n`, the reference's. -/
def atR (t : EReal) (h : Fin 11008 → EReal) (n : Fin 11008) : EReal :=
  valR t (block h ⟨n.val / 16, by omega⟩) ⟨n.val % 16, by omega⟩

/-- The byte of the channels `2 p` and `2 p + 1`, the kernel's. -/
def byteK (t : EReal) (h : Fin 11008 → EReal) (p : Fin 5504) : BitVec 8 :=
  byte (nibK (atK t h ⟨2 * p.val, by omega⟩)) (nibK (atK t h ⟨2 * p.val + 1, by omega⟩))

/-- The byte of the channels `2 p` and `2 p + 1`, the reference's. -/
def byteR (t : EReal) (h : Fin 11008 → EReal) (p : Fin 5504) : BitVec 8 :=
  byte (nibR (atR t h ⟨2 * p.val, by omega⟩)) (nibR (atR t h ⟨2 * p.val + 1, by omega⟩))

/-- A clipped value lies in the format's range. -/
theorem clip_range (v : EReal) : ((-6 : ℝ) : EReal) ≤ clip v ∧ clip v ≤ ((6 : ℝ) : EReal) :=
  ⟨le_min (EReal.coe_le_coe_iff.mpr (by norm_num)) (le_max_left _ _), min_le_left _ _⟩

/-- **Where the largest magnitude is not negative, both scale alike.** -/
theorem val_eq (t : EReal) (ht : 0 ≤ t) (h : Fin 16 → EReal) (j : Fin 16) : valK t h j = valR t h j := by
  unfold valK valR Cert.WScales.recip
  generalize step t h = d
  rw [min_eq_right ht, add_zero]
  by_cases hd : 0 < d
  · simp only [if_pos hd]
    unfold Ideal.div
    rw [if_neg hd.ne', if_neg hd.ne', one_mul]
  · simp only [if_neg hd, mul_zero]

/-- **… and so they pack the same bytes.** -/
theorem byte_eq (t : EReal) (ht : 0 ≤ t) (h : Fin 11008 → EReal) (p : Fin 5504) : byteK t h p = byteR t h p := by
  have e (n : Fin 11008) : nibK (atK t h n) = nibR (atR t h n) := by
    unfold atK atR
    rw [val_eq t ht]
    exact nib_eq _ (clip_range _).1 (clip_range _).2
  unfold byteK byteR
  rw [e, e]

/-! ## The operations, element by element -/

/-- A comparison's result, widened. -/
theorem cmp_ogt_bit (a z : EReal) : (Ideal.cmp .ogt a z).setWidth 32 = bit (z < a) := by
  by_cases h : z < a <;> simp [Ideal.cmp, bit, h]

theorem cmp_oge_bit (a z : EReal) : (Ideal.cmp .oge a z).setWidth 32 = bit (z ≤ a) := by
  by_cases h : z ≤ a <;> simp [Ideal.cmp, bit, h]

theorem cmp_olt_bit (a z : EReal) : (Ideal.cmp .olt a z).setWidth 32 = bit (a < z) := by
  by_cases h : a < z <;> simp [Ideal.cmp, bit, h]

/-- A selection by a comparison. -/
theorem select_olt {α : Type} (a z : EReal) (x y : α) : Scalar.select (Ideal.cmp .olt a z) x y = if a < z then x else y := by
  by_cases h : a < z <;> simp [Scalar.select, Ideal.cmp, h]

theorem select_ogt {α : Type} (a z : EReal) (x y : α) : Scalar.select (Ideal.cmp .ogt a z) x y = if z < a then x else y := by
  by_cases h : z < a <;> simp [Scalar.select, Ideal.cmp, h]

theorem quarter_bits : Ideal.ofBits .f32 0x3E800000#32 = ((1 / 4 : ℝ) : EReal) := by
  simp [Ideal.ofBits, Ideal.ieee, -EReal.coe_mul]; norm_num
theorem threeQuarters_bits : Ideal.ofBits .f32 0x3F400000#32 = ((3 / 4 : ℝ) : EReal) := by
  simp [Ideal.ofBits, Ideal.ieee, -EReal.coe_mul]; norm_num
theorem fiveQuarters_bits : Ideal.ofBits .f32 0x3FA00000#32 = ((5 / 4 : ℝ) : EReal) := by
  simp [Ideal.ofBits, Ideal.ieee, -EReal.coe_mul]; norm_num
theorem sevenQuarters_bits : Ideal.ofBits .f32 0x3FE00000#32 = ((7 / 4 : ℝ) : EReal) := by
  simp [Ideal.ofBits, Ideal.ieee, -EReal.coe_mul]; norm_num
theorem fiveHalves_bits : Ideal.ofBits .f32 0x40200000#32 = ((5 / 2 : ℝ) : EReal) := by
  simp [Ideal.ofBits, Ideal.ieee, -EReal.coe_mul]; norm_num
theorem sevenHalves_bits : Ideal.ofBits .f32 0x40600000#32 = ((7 / 2 : ℝ) : EReal) := by
  simp [Ideal.ofBits, Ideal.ieee, -EReal.coe_mul]; norm_num
theorem five_bits : Ideal.ofBits .f32 0x40A00000#32 = ((5 : ℝ) : EReal) := by
  simp [Ideal.ofBits, Ideal.ieee, -EReal.coe_mul]; norm_num
theorem two_bits : Ideal.ofBits .f32 0x40000000#32 = ((2 : ℝ) : EReal) := by
  simp [Ideal.ofBits, Ideal.ieee, -EReal.coe_mul]; norm_num
theorem four_bits : Ideal.ofBits .f32 0x40800000#32 = ((4 : ℝ) : EReal) := by
  simp [Ideal.ofBits, Ideal.ieee, -EReal.coe_mul]; norm_num
theorem minusSix_bits : Ideal.ofBits .f32 0xC0C00000#32 = ((-6 : ℝ) : EReal) := by
  simp [Ideal.ofBits, Ideal.ieee, -EReal.coe_mul]; norm_num

variable {S : Shape}

/-- The kernel's codes of an array. -/
def codes (v : FVec Ideal S .f32) : IVec S 32 :=
  let a := absf v
  let s := addi (addi (addi (addi (addi (addi (addi (broadcast S 0#32)
    (extui 32 (cmpf .ogt a (broadcast S (Scalar.ofBits (F := Ideal) .f32 0x3E800000#32))) (by decide)))
    (extui 32 (cmpf .oge a (broadcast S (Scalar.ofBits (F := Ideal) .f32 0x3F400000#32))) (by decide)))
    (extui 32 (cmpf .ogt a (broadcast S (Scalar.ofBits (F := Ideal) .f32 0x3FA00000#32))) (by decide)))
    (extui 32 (cmpf .oge a (broadcast S (Scalar.ofBits (F := Ideal) .f32 0x3FE00000#32))) (by decide)))
    (extui 32 (cmpf .ogt a (broadcast S (Scalar.ofBits (F := Ideal) .f32 0x40200000#32))) (by decide)))
    (extui 32 (cmpf .oge a (broadcast S (Scalar.ofBits (F := Ideal) .f32 0x40600000#32))) (by decide)))
    (extui 32 (cmpf .ogt a (broadcast S (Scalar.ofBits (F := Ideal) .f32 0x40A00000#32))) (by decide))
  select (cmpf .olt v (broadcast S (Scalar.ofBits (F := Ideal) .f32 0x00000000#32))) (ori s (broadcast S 8#32)) s

/-- The codes of an array are the codes of its elements. -/
theorem codes_apply (v : FVec Ideal S .f32) (i : S.Idx) : codes v i = nibK (v i) := by
  have hc (x : EReal) : 0#32 + (Ideal.cmp .ogt x (Ideal.ofBits .f32 0x3E800000#32)).setWidth 32
      + (Ideal.cmp .oge x (Ideal.ofBits .f32 0x3F400000#32)).setWidth 32
      + (Ideal.cmp .ogt x (Ideal.ofBits .f32 0x3FA00000#32)).setWidth 32
      + (Ideal.cmp .oge x (Ideal.ofBits .f32 0x3FE00000#32)).setWidth 32
      + (Ideal.cmp .ogt x (Ideal.ofBits .f32 0x40200000#32)).setWidth 32
      + (Ideal.cmp .oge x (Ideal.ofBits .f32 0x40600000#32)).setWidth 32
      + (Ideal.cmp .ogt x (Ideal.ofBits .f32 0x40A00000#32)).setWidth 32 = count x := by
    unfold count
    rw [cmp_ogt_bit, cmp_oge_bit, cmp_ogt_bit, cmp_oge_bit, cmp_ogt_bit, cmp_oge_bit, cmp_ogt_bit, quarter_bits, threeQuarters_bits,
      fiveQuarters_bits, sevenQuarters_bits, fiveHalves_bits, sevenHalves_bits, five_bits]
  have h : codes v i = Scalar.select (Ideal.cmp .olt (v i) (Ideal.ofBits .f32 0x00000000#32))
      ((0#32 + (Ideal.cmp .ogt (max (v i) (-(v i))) (Ideal.ofBits .f32 0x3E800000#32)).setWidth 32
      + (Ideal.cmp .oge (max (v i) (-(v i))) (Ideal.ofBits .f32 0x3F400000#32)).setWidth 32
      + (Ideal.cmp .ogt (max (v i) (-(v i))) (Ideal.ofBits .f32 0x3FA00000#32)).setWidth 32
      + (Ideal.cmp .oge (max (v i) (-(v i))) (Ideal.ofBits .f32 0x3FE00000#32)).setWidth 32
      + (Ideal.cmp .ogt (max (v i) (-(v i))) (Ideal.ofBits .f32 0x40200000#32)).setWidth 32
      + (Ideal.cmp .oge (max (v i) (-(v i))) (Ideal.ofBits .f32 0x40600000#32)).setWidth 32
      + (Ideal.cmp .ogt (max (v i) (-(v i))) (Ideal.ofBits .f32 0x40A00000#32)).setWidth 32) ||| 8#32)
      (0#32 + (Ideal.cmp .ogt (max (v i) (-(v i))) (Ideal.ofBits .f32 0x3E800000#32)).setWidth 32
      + (Ideal.cmp .oge (max (v i) (-(v i))) (Ideal.ofBits .f32 0x3F400000#32)).setWidth 32
      + (Ideal.cmp .ogt (max (v i) (-(v i))) (Ideal.ofBits .f32 0x3FA00000#32)).setWidth 32
      + (Ideal.cmp .oge (max (v i) (-(v i))) (Ideal.ofBits .f32 0x3FE00000#32)).setWidth 32
      + (Ideal.cmp .ogt (max (v i) (-(v i))) (Ideal.ofBits .f32 0x40200000#32)).setWidth 32
      + (Ideal.cmp .oge (max (v i) (-(v i))) (Ideal.ofBits .f32 0x40600000#32)).setWidth 32
      + (Ideal.cmp .ogt (max (v i) (-(v i))) (Ideal.ofBits .f32 0x40A00000#32)).setWidth 32) := rfl
  rw [h, hc, select_olt, Cert.WScales.zero_bits]
  rfl

end Cert.Act

end
-- ==== Proof.ActChunk.lean ====
/-
  What one trip of the loop of `h_quant` stores, element by element, from the 256 channels it loads.
-/
module

public import proofs.«01_k».proof.Proof.ActColumn
public import proofs.«01_k».proof.Proof.Gen.HQuantIdeal.Value
public import Idealize.ShloMosaic.Lib.Pointwise
public import Idealize.ShloMosaic.Lib.Pipeline.ValueKit

@[expose] public section

set_option maxRecDepth 16384

noncomputable section

namespace Cert.Act

open Cert.HQuantIdeal Cert.HQuantIdeal.Gen Idealize.ShloMosaic Idealize.ShloMosaic.TcCoe Idealize.SL.Sem

variable (t : Ideal .f32) (x : FVec Ideal S1x256x128 .f32)

/-- Block `g` of lane `l` of the channels a trip loads. -/
def chunkBlock (g : Fin 16) (l : Fin 128) (j : Fin 16) : EReal := x (ix3 0 ⟨16 * g.val + j.val, by omega⟩ l)

/-- The loaded channels without the leading axis. -/
theorem pay3_apply (r : Fin 256) (l : Fin 128) : k0_pay3 (F := Ideal) x (ix2 r l) = x (ix3 0 r l) := by
  unfold k0_pay3
  refine shapeCast_apply _ _ _ (ix3 0 r l) ?_
  refine (Shape.rowMajor_val_three (d := ![1, 256, 128]) (ix3 _ _ _)).trans
    (Eq.trans ?_ (Shape.rowMajor_val_two (d := ![256, 128]) (ix2 r l)).symm)
  change (0 * 256 + r.val) * 128 + l.val = r.val * 128 + l.val
  omega

/-- The largest magnitudes of the trip's blocks, as the kernel takes them. -/
def maxima : FVec Ideal S16x128 .f32 :=
  multiReduction .maximumf [1] S16x128 (shapeCast S16x16x128 (absf (k0_pay3 (F := Ideal) x)) shapeCasts_S256x128_S16x16x128)
    0xFF800000#32 reduces_S16x16x128_S16x128 (.inl rfl) rfl

/-- The trip's channels cut into blocks. -/
theorem cut_apply (g j : Fin 16) (l : Fin 128) :
    shapeCast S16x16x128 (absf (k0_pay3 (F := Ideal) x)) shapeCasts_S256x128_S16x16x128 (ix3 g j l)
      = max (chunkBlock x g l j) (-(chunkBlock x g l j)) := by
  refine (shapeCast_apply _ _ _ (ix2 ⟨16 * g.val + j.val, by omega⟩ l) ?_).trans ?_
  · refine (Shape.rowMajor_val_two (d := ![256, 128]) (ix2 _ _)).trans
      (Eq.trans ?_ (Shape.rowMajor_val_three (d := ![16, 16, 128]) (ix3 g j l)).symm)
    change (16 * g.val + j.val) * 128 + l.val = (g.val * 16 + j.val) * 128 + l.val
    omega
  · change max (k0_pay3 (F := Ideal) x _) (-(k0_pay3 (F := Ideal) x _)) = _
    rw [pay3_apply]
    rfl

/-- They are the largest magnitudes of the blocks. -/
theorem maxima_apply (g : Fin 16) (l : Fin 128) : maxima x (ix2 g l) = blockMax (chunkBlock x g l) := by
  refine eq_of_forall_ge_iff fun b => Iff.trans ?_ (blockMax_le _ b).symm
  have e := cut_apply x g
  unfold maxima
  generalize shapeCast S16x16x128 (absf (k0_pay3 (F := Ideal) x)) shapeCasts_S256x128_S16x16x128 = v at e ⊢
  pointwise
  rw [Finset.fold_max_le, Cert.GateUp.negInf_bits]
  simp only [bot_le, true_and, Finset.mem_univ, true_implies]
  exact forall_congr' fun j => by rw [← e j l]

theorem inv_div_val : (Named.named κ "inv_div" 0x39C30C31#32 : Ideal .f32) = ((1 / 2688 : ℝ) : EReal) :=
  IdealRules.named_const.ideal_named_scalar _ _ _ _ rfl

theorem six_div_val : (Named.named κ "six_div" 0x3B124925#32 : Ideal .f32) = ((1 / 448 : ℝ) : EReal) :=
  IdealRules.named_const.ideal_named_scalar _ _ _ _ rfl

/-- The trip's block scales, as the kernel computes them. -/
theorem pay4_quotient : k0_pay4 (F := Ideal) t x
    = truncf .fp8e4m3 (minimumf (divf (maxima x) (broadcast S16x128 (Scalar.mulf (F := Ideal) t (Named.named κ "six_div" 0x3B124925#32))))
      (broadcast S16x128 (Scalar.ofBits (F := Ideal) .f32 0x43E00000#32))) bitsLt_fp8e4m3_f32 := rfl

/-- The trip's block scales. -/
theorem pay4_apply (g : Fin 16) (l : Fin 128) : k0_pay4 (F := Ideal) t x (ix2 g l) = scale t (chunkBlock x g l) :=
  (congrFun (pay4_quotient t x) _).trans ((Cert.WScales.quotient_eq _ _ _ _ _ _).trans
    ((congrArg₂ (fun z e : EReal => min (Ideal.div (maxima x (ix2 g l)) ((show EReal from t) * z)) e) six_div_val Cert.WScales.e448_bits).trans
      (congrArg (fun a : EReal => Cert.WScales.blockScale t a) (maxima_apply x g l))))

/-- What the trip stores of the scales. -/
theorem pay5_apply (g : Fin 16) (l : Fin 128) : k0_pay5 (F := Ideal) t x (ix2 g l) = scale t (chunkBlock x g l) := by
  refine (shapeCast_apply _ _ _ (ix2 g l) rfl).trans (pay4_apply t x g l)

/-- The guarded reciprocals of the trip's steps, as the kernel computes them. -/
def recips : FVec Ideal S16x128 .f32 :=
  select (cmpf .ogt (mulf (extf .f32 (k0_pay4 (F := Ideal) t x) bitsLt_fp8e4m3_f32) (broadcast S16x128 (Scalar.mulf (F := Ideal) t (Named.named κ "inv_div" 0x39C30C31#32)))) (broadcast S16x128 (Scalar.ofBits (F := Ideal) .f32 0x00000000#32)))
    (divf (broadcast S16x128 (Scalar.ofBits (F := Ideal) .f32 0x3F800000#32))
      (select (cmpf .ogt (mulf (extf .f32 (k0_pay4 (F := Ideal) t x) bitsLt_fp8e4m3_f32) (broadcast S16x128 (Scalar.mulf (F := Ideal) t (Named.named κ "inv_div" 0x39C30C31#32)))) (broadcast S16x128 (Scalar.ofBits (F := Ideal) .f32 0x00000000#32)))
        (mulf (extf .f32 (k0_pay4 (F := Ideal) t x) bitsLt_fp8e4m3_f32) (broadcast S16x128 (Scalar.mulf (F := Ideal) t (Named.named κ "inv_div" 0x39C30C31#32))))
        (broadcast S16x128 (Scalar.ofBits (F := Ideal) .f32 0x3F800000#32))))
    (broadcast S16x128 (Scalar.ofBits (F := Ideal) .f32 0x00000000#32))

theorem recips_apply (g : Fin 16) (l : Fin 128) : recips t x (ix2 g l) = Cert.WScales.recip (step t (chunkBlock x g l)) :=
  (Cert.WScales.recip_eq _ _ _ _ _ Cert.WScales.zero_bits Cert.WScales.one_bits _).trans
    (congrArg Cert.WScales.recip (congrArg₂ (fun a b : EReal => a * b) (pay4_apply t x g l)
      ((Cert.WScales.mul_eq _ _).trans (congrArg (fun z : EReal => (show EReal from t) * z) inv_div_val))))

/-- The reciprocals spread over the channels of their blocks. -/
def spread (q : FVec Ideal S16x128 .f32) : FVec Ideal S256x128 .f32 :=
  shapeCast S256x128 (broadcastTo S16x16x128 (shapeCast S16x1x128 (shapeCast S16x1x128 q shapeCasts_S16x128_S16x1x128) shapeCasts_S16x1x128_S16x1x128)
    broadcasts_S16x1x128_S16x16x128) shapeCasts_S16x16x128_S256x128

theorem spread_apply (q : FVec Ideal S16x128 .f32) (r : Fin 256) (l : Fin 128) :
    spread q (ix2 r l) = q (ix2 ⟨r.val / 16, by omega⟩ l) := by
  unfold spread
  refine (shapeCast_apply _ _ _ (ix3 ⟨r.val / 16, by omega⟩ ⟨r.val % 16, by omega⟩ l) ?_).trans ?_
  · refine (Shape.rowMajor_val_three (d := ![16, 16, 128]) (ix3 _ _ _)).trans
      (Eq.trans ?_ (Shape.rowMajor_val_two (d := ![256, 128]) (ix2 r l)).symm)
    change (r.val / 16 * 16 + r.val % 16) * 128 + l.val = r.val * 128 + l.val
    omega
  refine (broadcastTo_apply _ _ _ (ix3 ⟨r.val / 16, by omega⟩ 0 l) fun a => ?_).trans ?_
  · fin_cases a <;> rfl
  refine (shapeCast_apply _ _ _ (ix3 ⟨r.val / 16, by omega⟩ 0 l) rfl).trans (shapeCast_apply _ _ _ (ix2 ⟨r.val / 16, by omega⟩ l) ?_)
  refine (Shape.rowMajor_val_two (d := ![16, 128]) (ix2 _ _)).trans
      (Eq.trans ?_ (Shape.rowMajor_val_three (d := ![16, 1, 128]) (ix3 _ _ _)).symm)
  change r.val / 16 * 128 + l.val = (r.val / 16 * 1 + 0) * 128 + l.val
  omega

/-- The scaled activations before the upper clip, as the kernel computes them. -/
theorem pay6_eq (z : Ideal .f32) : k0_pay6 (F := Ideal) t z x
    = maximumf (broadcast S256x128 (Scalar.ofBits (F := Ideal) .f32 0xC0C00000#32))
        (addf (mulf (k0_pay3 (F := Ideal) x) (spread (recips t x))) (broadcast S256x128 z)) := rfl

/-- Both clips, at one element. -/
theorem clip_apply {S : Shape} (u v : FVec Ideal S .f32) (z : Ideal .f32) (i : S.Idx) :
    minimumf (broadcast S (Scalar.ofBits (F := Ideal) .f32 0x40C00000#32))
        (maximumf (broadcast S (Scalar.ofBits (F := Ideal) .f32 0xC0C00000#32)) (addf (mulf u v) (broadcast S z))) i
      = clip ((show EReal from u i) * (show EReal from v i) + (show EReal from z)) :=
  congrArg₂ (fun a b : EReal => min a (max b ((show EReal from u i) * (show EReal from v i) + (show EReal from z))))
    Cert.WScalesRef.six_bits minusSix_bits

/-- The trip's scaled activations. -/
theorem scaled_apply (r : Fin 256) (l : Fin 128) :
    minimumf (k0_pay7 (F := Ideal)) (k0_pay6 (F := Ideal) t (k0_pay1 (F := Ideal) t) x) (ix2 r l)
      = valK t (chunkBlock x ⟨r.val / 16, by omega⟩ l) ⟨r.val % 16, by omega⟩ := by
  rw [pay6_eq]
  refine (clip_apply _ _ _ _).trans (congrArg clip ?_)
  have hz : (k0_pay1 (F := Ideal) t : EReal) = min t 0 := congrArg (fun z : EReal => min (show EReal from t) z) Cert.WScales.zero_bits
  have hx : k0_pay3 (F := Ideal) x (ix2 r l) = chunkBlock x ⟨r.val / 16, by omega⟩ l ⟨r.val % 16, by omega⟩ :=
    (pay3_apply x r l).trans (congrArg (fun r => x (ix3 0 r l)) (Fin.ext (by dsimp only; omega)))
  have hs := (spread_apply (recips t x) r l).trans (recips_apply t x _ l)
  exact congrArg₂ (fun a b : EReal => a + b) (congrArg₂ (fun a b : EReal => a * b) hx hs) hz

/-- Pairs of rows of codes packed in bytes, lanes first. -/
def pack (v : IVec S256x128 32) : IVec S128x128 8 :=
  transpose S128x128 [1, 0] (trunci 8 (ori
      (shapeCast S128x128 (extractStridedSlice S128x1x128 ![0, 0, 0] (shapeCast S128x2x128 v shapeCasts_S256x128_S128x2x128) slices_S128x2x128_o0_0_0_S128x1x128) shapeCasts_S128x1x128_S128x128)
      (shli (shapeCast S128x128 (extractStridedSlice S128x1x128 ![0, 1, 0] (shapeCast S128x2x128 v shapeCasts_S256x128_S128x2x128) slices_S128x2x128_o0_1_0_S128x1x128) shapeCasts_S128x1x128_S128x128)
        (broadcast S128x128 4#32))) natLt_8_32) transposes_S128x128_p1_0_S128x128

/-- One of the rows of the pairs. -/
theorem half_apply (v : IVec S256x128 32) (b : ℕ) (hb : b < 2) (hs : S128x2x128.Slices ![0, b, 0] S128x1x128) (p l : Fin 128) :
    shapeCast S128x128 (extractStridedSlice S128x1x128 ![0, b, 0] (shapeCast S128x2x128 v shapeCasts_S256x128_S128x2x128) hs)
      shapeCasts_S128x1x128_S128x128 (ix2 p l) = v (ix2 ⟨2 * p.val + b, by omega⟩ l) := by
  refine (shapeCast_apply _ _ _ (ix3 p 0 l) ?_).trans ?_
  · refine (Shape.rowMajor_val_three (d := ![128, 1, 128]) (ix3 _ _ _)).trans
      (Eq.trans ?_ (Shape.rowMajor_val_two (d := ![128, 128]) (ix2 p l)).symm)
    change (p.val * 1 + 0) * 128 + l.val = p.val * 128 + l.val
    omega
  refine (extractStridedSlice_apply _ _ _ _ (ix3 p ⟨b, hb⟩ l) fun a => ?_).trans ?_
  · match a with
    | ⟨0, _⟩ => exact (Nat.zero_add _).symm
    | ⟨1, _⟩ => rfl
    | ⟨2, _⟩ => exact (Nat.zero_add _).symm
  refine shapeCast_apply _ _ _ _ ?_
  refine (Shape.rowMajor_val_two (d := ![256, 128]) (ix2 _ _)).trans
      (Eq.trans ?_ (Shape.rowMajor_val_three (d := ![128, 2, 128]) (ix3 _ _ _)).symm)
  change (2 * p.val + b) * 128 + l.val = (p.val * 2 + b) * 128 + l.val
  omega

theorem pack_apply (v : IVec S256x128 32) (l p : Fin 128) :
    pack v (ix2 l p) = byte (v (ix2 ⟨2 * p.val, by omega⟩ l)) (v (ix2 ⟨2 * p.val + 1, by omega⟩ l)) := by
  unfold pack
  refine (transpose_apply _ _ _ _ (ix2 p l) fun a => by fin_cases a <;> rfl).trans ?_
  exact congrArg₂ byte (half_apply v 0 (by omega) _ p l) (half_apply v 1 (by omega) _ p l)

/-- The bytes the trip stores, as the kernel computes them. -/
theorem pay8_eq (a b : FVec Ideal S256x128 .f32) : k0_pay8 (F := Ideal) a b = pack (codes (minimumf b a)) := rfl

/-- **The bytes the trip stores.** -/
theorem pay8_apply (l p : Fin 128) :
    k0_pay8 (F := Ideal) (k0_pay6 (F := Ideal) t (k0_pay1 (F := Ideal) t) x) (k0_pay7 (F := Ideal)) (ix2 l p)
      = byte (nibK (valK t (chunkBlock x ⟨2 * p.val / 16, by omega⟩ l) ⟨2 * p.val % 16, by omega⟩))
          (nibK (valK t (chunkBlock x ⟨(2 * p.val + 1) / 16, by omega⟩ l) ⟨(2 * p.val + 1) % 16, by omega⟩)) := by
  rw [pay8_eq, pack_apply, codes_apply, codes_apply, scaled_apply, scaled_apply]

end Cert.Act

end
-- ==== Proof.ActLoop.lean ====
/-
  What the loop of `h_quant` leaves: the trips' pieces put together, for the packed codes and for the block scales.
-/
module

public import proofs.«01_k».proof.Proof.ActChunk

@[expose] public section

set_option maxRecDepth 16384

noncomputable section

namespace Cert.Act

open Cert.HQuantIdeal Cert.HQuantIdeal.Gen Idealize.ShloMosaic Idealize.ShloMosaic.TcCoe Idealize.SL.Sem

variable (𝒱 : Variants) (c : Dev nD) (bd : Option 𝒱.V) (i : grid0.Coords) (arg1 : Memref sig .tc .smem S1 .f32) (harg1 : arg1.IsWhole)
  (arg2 : Memref sig .tc .vmem S1x11008x128 .f32) (harg2 : arg2.IsWhole) (arg3 : Memref sig .tc .vmem S128x5504 .i8) (harg3 : arg3.IsWhole)
  (arg4 : Memref sig .tc .vmem S1x688x128 .fp8e4m3) (harg4 : arg4.IsWhole) (arg5 : Memref sig .tc .vmem S688x128 .f32) (harg5 : arg5.IsWhole)
  (t : Ideal .f32)

/-- The pieces of the first `n` trips are those of each of them. -/
theorem mem_trips (X : BufTy.Contents (Elt Ideal) arg2.view.ty) (n : ℕ) (hn : n ≤ k0_t1_loop.trips) :
    (∀ p, p ∈ (pb_k0_t1 (F := Ideal) 𝒱 c bd i arg1 harg1 arg2 harg2 arg3 harg3 arg4 harg4 arg5 harg5 t X n).1
      ↔ ∃ k : Fin k0_t1_loop.trips, k.val < n ∧ p ∈ (trip_k0_t1 (F := Ideal) 𝒱 c bd i arg1 harg1 arg2 harg2 arg3 harg3 arg4 harg4 arg5 harg5 t X k).1)
    ∧ (∀ p, p ∈ (pb_k0_t1 (F := Ideal) 𝒱 c bd i arg1 harg1 arg2 harg2 arg3 harg3 arg4 harg4 arg5 harg5 t X n).2
      ↔ ∃ k : Fin k0_t1_loop.trips, k.val < n ∧ p ∈ (trip_k0_t1 (F := Ideal) 𝒱 c bd i arg1 harg1 arg2 harg2 arg3 harg3 arg4 harg4 arg5 harg5 t X k).2.1) := by
  induction n with
  | zero => exact ⟨fun p => ⟨fun h => absurd h List.not_mem_nil, fun ⟨k, hk, _⟩ => absurd hk (Nat.not_lt_zero _)⟩,
      fun p => ⟨fun h => absurd h List.not_mem_nil, fun ⟨k, hk, _⟩ => absurd hk (Nat.not_lt_zero _)⟩⟩
  | succ n ih =>
    obtain ⟨h1, h2⟩ := ih (by omega)
    have e := pb_k0_t1_succ (F := Ideal) 𝒱 c bd i arg1 harg1 arg2 harg2 arg3 harg3 arg4 harg4 arg5 harg5 t X ⟨n, hn⟩
    dsimp only at e
    rw [e]
    dsimp only
    constructor
    · intro p
      rw [List.mem_append, h1]
      constructor
      · rintro (h | ⟨k, hk, h⟩)
        · exact ⟨⟨n, hn⟩, Nat.lt_succ_self n, h⟩
        · exact ⟨k, by omega, h⟩
      · rintro ⟨k, hk, h⟩
        by_cases hkn : k.val = n
        · left
          have : k = ⟨n, hn⟩ := Fin.ext hkn
          rw [← this]
          exact h
        · exact Or.inr ⟨k, by omega, h⟩
    · intro p
      rw [List.mem_append, h2]
      constructor
      · rintro (h | ⟨k, hk, h⟩)
        · exact ⟨⟨n, hn⟩, Nat.lt_succ_self n, h⟩
        · exact ⟨k, by omega, h⟩
      · rintro ⟨k, hk, h⟩
        by_cases hkn : k.val = n
        · left
          have : k = ⟨n, hn⟩ := Fin.ext hkn
          rw [← this]
          exact h
        · exact Or.inr ⟨k, by omega, h⟩

/-- There are 43 trips. -/
theorem trips_eq : k0_t1_loop.trips = 43 := by decide +kernel

theorem trip_lt (k : Fin k0_t1_loop.trips) : k.val < 43 := lt_of_lt_of_eq k.isLt trips_eq

/-- The channels trip `k` loads. -/
def chunk (X : FVec Ideal S1x11008x128 .f32) (k : Fin k0_t1_loop.trips) : FVec Ideal S1x256x128 .f32 := fun y =>
  X (ix3 0 ⟨256 * k.val + (y 1).val, by have := trip_lt k; have : (y 1).val < 256 := (y 1).isLt; omega⟩ (y 2))

/-- They are what the loop reads of the block at the trip's offset. -/
theorem readAt_chunk (X : FVec Ideal S1x11008x128 .f32) (k : Fin k0_t1_loop.trips) :
    View.readAt (Elt Ideal) arg2.view (Rect.unit (s := S1x11008x128) (k0_off1 k) S1x256x128.size (k0_off1_inb k)).toLoadRect (harg2.unread X)
      = chunk X k := by
  funext y
  refine (congrArg (fun Z : FVec Ideal S1x11008x128 .f32 => View.ld (Val := Elt Ideal) (e' := .f32) Z (Rect.unit (s := S1x11008x128) (k0_off1 k) S1x256x128.size (k0_off1_inb k)) y)
    (harg2.read_unread (Val := Elt Ideal) X)).trans ?_
  refine congrArg X (funext fun a => Fin.ext ?_)
  refine (ValueKit.rect_emb_unit_val (s := S1x11008x128) (k0_off1 k) S1x256x128.size (k0_off1_inb k) y a).trans
    ((congrArg (fun o : Fin 3 → ℕ => o a + (y a).val) (k0_off1_eq k)).trans ?_)
  match a with
  | ⟨0, _⟩ =>
    have : (y 0).val < 1 := (y 0).isLt
    change 0 + (y 0).val = 0
    omega
  | ⟨1, _⟩ => rfl
  | ⟨2, _⟩ => exact Nat.zero_add _

/-- Trip `k`'s piece of the codes. -/
theorem trip_codes (X : FVec Ideal S1x11008x128 .f32) (k : Fin k0_t1_loop.trips) :
    (trip_k0_t1 (F := Ideal) 𝒱 c bd i arg1 harg1 arg2 harg2 arg3 harg3 arg4 harg4 arg5 harg5 t (harg2.unread X) k).1
      = [⟨Rect.unit (s := S128x5504) (k0_off3 k) S128x128.size (k0_off3_inb k),
          k0_pay8 (F := Ideal) (k0_pay6 (F := Ideal) t (k0_pay1 (F := Ideal) t) (chunk X k)) (k0_pay7 (F := Ideal))⟩] := by
  rw [← readAt_chunk arg2 harg2 X k]
  unfold trip_k0_t1
  rfl

/-- Trip `k`'s piece of the scales. -/
theorem trip_scales (X : FVec Ideal S1x11008x128 .f32) (k : Fin k0_t1_loop.trips) :
    (trip_k0_t1 (F := Ideal) 𝒱 c bd i arg1 harg1 arg2 harg2 arg3 harg3 arg4 harg4 arg5 harg5 t (harg2.unread X) k).2.1
      = [⟨Rect.unit (s := S688x128) (k0_off2 k) S16x128.size (k0_off2_inb k), k0_pay5 (F := Ideal) t (chunk X k)⟩] := by
  rw [← readAt_chunk arg2 harg2 X k]
  unfold trip_k0_t1
  rfl

/-- A block of a trip's channels is a block of the token's. -/
theorem chunk_block (X : FVec Ideal S1x11008x128 .f32) (k : Fin k0_t1_loop.trips) (g : Fin 16) (l : Fin 128) (G : Fin 688)
    (hG : G.val = 16 * k.val + g.val) : chunkBlock (chunk X k) g l = block (fun n => X (ix3 0 n l)) G := by
  funext j
  exact congrArg (fun n => X (ix3 0 n l)) (Fin.ext (by
    change 256 * k.val + (16 * g.val + j.val) = 16 * G.val + j.val
    omega))

/-- A channel of a trip is a channel of the token. -/
theorem chunk_at (X : FVec Ideal S1x11008x128 .f32) (k : Fin k0_t1_loop.trips) (l : Fin 128) (r : ℕ) (hr : r < 256) (n : Fin 11008)
    (hn : n.val = 256 * k.val + r) :
    valK t (chunkBlock (chunk X k) ⟨r / 16, by omega⟩ l) ⟨r % 16, by omega⟩ = atK t (fun n => X (ix3 0 n l)) n := by
  unfold atK
  rw [chunk_block X k _ l ⟨n.val / 16, by omega⟩ (by dsimp only; omega)]
  exact congrArg _ (Fin.ext (by dsimp only; omega))

/-- A byte of a trip is a byte of the token. -/
theorem chunk_byte (X : FVec Ideal S1x11008x128 .f32) (k : Fin k0_t1_loop.trips) (l q : Fin 128) (P : Fin 5504)
    (hP : P.val = 128 * k.val + q.val) :
    byte (nibK (valK t (chunkBlock (chunk X k) ⟨2 * q.val / 16, by omega⟩ l) ⟨2 * q.val % 16, by omega⟩))
        (nibK (valK t (chunkBlock (chunk X k) ⟨(2 * q.val + 1) / 16, by omega⟩ l) ⟨(2 * q.val + 1) % 16, by omega⟩))
      = byteK t (fun n => X (ix3 0 n l)) P := by
  unfold byteK
  rw [chunk_at t X k l (2 * q.val) (by omega) ⟨2 * P.val, by omega⟩ (by dsimp only; omega),
    chunk_at t X k l (2 * q.val + 1) (by omega) ⟨2 * P.val + 1, by omega⟩ (by dsimp only; omega)]

/-- **The codes after the loop**: lane `y 0`, byte `y 1`. -/
theorem loop_codes (X : FVec Ideal S1x11008x128 .f32) (n : ℕ) (hn : n = k0_t1_loop.trips) (y : S128x5504.Idx) :
    View.canon (pb_k0_t1 (F := Ideal) 𝒱 c bd i arg1 harg1 arg2 harg2 arg3 harg3 arg4 harg4 arg5 harg5 t (harg2.unread X) n).1 y = byteK t (fun n => X (ix3 0 n (y 0))) (y 1) := by
  have hm := (mem_trips 𝒱 c bd i arg1 harg1 arg2 harg2 arg3 harg3 arg4 harg4 arg5 harg5 t (harg2.unread X) n hn.le).1
  refine View.canon_apply_of_pieces (Val := Elt Ideal) (e := .i8) (fun y : S128x5504.Idx => byteK t (fun n => X (ix3 0 n (y 0))) (y 1)) _ ?_ y ?_
  · intro p hp x
    obtain ⟨k, _, hk⟩ := (hm p).mp hp
    rw [trip_codes, List.mem_singleton] at hk
    subst hk
    dsimp only at x ⊢
    obtain ⟨l, q, rfl⟩ : ∃ (l q : Fin 128), x = ix2 l q := ⟨x 0, x 1, funext fun a => by match a with | ⟨0, _⟩ => rfl | ⟨1, _⟩ => rfl⟩
    have e0 : (Rect.unit (s := S128x5504) (k0_off3 k) S128x128.size (k0_off3_inb k)).emb (ix2 l q) 0 = l := Fin.ext (by
      refine (ValueKit.rect_emb_unit_val (s := S128x5504) (k0_off3 k) S128x128.size (k0_off3_inb k) (ix2 l q) 0).trans ((congrArg (fun o : Fin 2 → ℕ => o 0 + l.val) (k0_off3_eq k)).trans (Nat.zero_add _)))
    have e1 : ((Rect.unit (s := S128x5504) (k0_off3 k) S128x128.size (k0_off3_inb k)).emb (ix2 l q) 1).val = 128 * k.val + q.val := by
      refine (ValueKit.rect_emb_unit_val (s := S128x5504) (k0_off3 k) S128x128.size (k0_off3_inb k) (ix2 l q) 1).trans (congrArg (fun o : Fin 2 → ℕ => o 1 + q.val) (k0_off3_eq k))
    refine (pay8_apply t (chunk X k) l q).trans ?_
    rw [e0]
    exact chunk_byte t X k l q _ e1
  · have hy : (y 1).val < 5504 := (y 1).isLt
    have hy0 : (y 0).val < 128 := (y 0).isLt
    have hk : (y 1).val / 128 < k0_t1_loop.trips := lt_of_lt_of_eq (by omega) trips_eq.symm
    refine ⟨_, (hm _).mpr ⟨⟨(y 1).val / 128, hk⟩, by rw [hn]; exact hk, by rw [trip_codes]; exact List.mem_singleton_self _⟩, ?_⟩
    refine (Rect.mem_set_unit (inb := k0_off3_inb ⟨(y 1).val / 128, hk⟩)).mpr fun a => ?_
    match a with
    | ⟨0, _⟩ => exact ⟨(congrFun (k0_off3_eq ⟨(y 1).val / 128, hk⟩) 0).le.trans (Nat.zero_le _),
        lt_of_lt_of_eq (by change (y 0).val < 0 + 128; omega) (congrArg (fun o : Fin 2 → ℕ => o 0 + 128) (k0_off3_eq ⟨(y 1).val / 128, hk⟩).symm)⟩
    | ⟨1, _⟩ => exact ⟨(congrFun (k0_off3_eq ⟨(y 1).val / 128, hk⟩) 1).le.trans (by change 128 * ((y 1).val / 128) ≤ (y 1).val; omega),
        lt_of_lt_of_eq (by change (y 1).val < 128 * ((y 1).val / 128) + 128; omega) (congrArg (fun o : Fin 2 → ℕ => o 1 + 128) (k0_off3_eq ⟨(y 1).val / 128, hk⟩).symm)⟩

/-- **The scales after the loop**: block `y 0`, lane `y 1`. -/
theorem loop_scales (X : FVec Ideal S1x11008x128 .f32) (n : ℕ) (hn : n = k0_t1_loop.trips) (y : S688x128.Idx) :
    View.canon (pb_k0_t1 (F := Ideal) 𝒱 c bd i arg1 harg1 arg2 harg2 arg3 harg3 arg4 harg4 arg5 harg5 t (harg2.unread X) n).2 y = scale t (block (fun n => X (ix3 0 n (y 1))) (y 0)) := by
  have hm := (mem_trips 𝒱 c bd i arg1 harg1 arg2 harg2 arg3 harg3 arg4 harg4 arg5 harg5 t (harg2.unread X) n hn.le).2
  refine View.canon_apply_of_pieces (Val := Elt Ideal) (e := .f32) (fun y : S688x128.Idx => scale t (block (fun n => X (ix3 0 n (y 1))) (y 0))) _ ?_ y ?_
  · intro p hp x
    obtain ⟨k, _, hk⟩ := (hm p).mp hp
    rw [trip_scales, List.mem_singleton] at hk
    subst hk
    dsimp only at x ⊢
    obtain ⟨g, l, rfl⟩ : ∃ (g : Fin 16) (l : Fin 128), x = ix2 g l := ⟨x 0, x 1, funext fun a => by match a with | ⟨0, _⟩ => rfl | ⟨1, _⟩ => rfl⟩
    have e1 : (Rect.unit (s := S688x128) (k0_off2 k) S16x128.size (k0_off2_inb k)).emb (ix2 g l) 1 = l := Fin.ext (by
      refine (ValueKit.rect_emb_unit_val (s := S688x128) (k0_off2 k) S16x128.size (k0_off2_inb k) (ix2 g l) 1).trans ((congrArg (fun o : Fin 2 → ℕ => o 1 + l.val) (k0_off2_eq k)).trans (Nat.zero_add _)))
    have e0 : ((Rect.unit (s := S688x128) (k0_off2 k) S16x128.size (k0_off2_inb k)).emb (ix2 g l) 0).val = 16 * k.val + g.val := by
      refine (ValueKit.rect_emb_unit_val (s := S688x128) (k0_off2 k) S16x128.size (k0_off2_inb k) (ix2 g l) 0).trans (congrArg (fun o : Fin 2 → ℕ => o 0 + g.val) (k0_off2_eq k))
    refine (pay5_apply t (chunk X k) g l).trans ?_
    rw [e1]
    exact congrArg (scale t) (chunk_block X k g l _ e0)
  · have hy : (y 0).val < 688 := (y 0).isLt
    have hy0 : (y 1).val < 128 := (y 1).isLt
    have hk : (y 0).val / 16 < k0_t1_loop.trips := lt_of_lt_of_eq (by omega) trips_eq.symm
    refine ⟨_, (hm _).mpr ⟨⟨(y 0).val / 16, hk⟩, by rw [hn]; exact hk, by rw [trip_scales]; exact List.mem_singleton_self _⟩, ?_⟩
    refine (Rect.mem_set_unit (inb := k0_off2_inb ⟨(y 0).val / 16, hk⟩)).mpr fun a => ?_
    match a with
    | ⟨0, _⟩ => exact ⟨(congrFun (k0_off2_eq ⟨(y 0).val / 16, hk⟩) 0).le.trans (by change 16 * ((y 0).val / 16) ≤ (y 0).val; omega),
        lt_of_lt_of_eq (by change (y 0).val < 16 * ((y 0).val / 16) + 16; omega) (congrArg (fun o : Fin 2 → ℕ => o 0 + 16) (k0_off2_eq ⟨(y 0).val / 16, hk⟩).symm)⟩
    | ⟨1, _⟩ => exact ⟨(congrFun (k0_off2_eq ⟨(y 0).val / 16, hk⟩) 1).le.trans (Nat.zero_le _),
        lt_of_lt_of_eq (by change (y 1).val < 0 + 128; omega) (congrArg (fun o : Fin 2 → ℕ => o 1 + 128) (k0_off2_eq ⟨(y 0).val / 16, hk⟩).symm)⟩

end Cert.Act

end
-- ==== Proof.ActArrays.lean ====
/-
  The arrays the ideal kernel `h_quant` ends with: packed codes and block scales.
-/
module

public import proofs.«01_k».proof.Proof.ActLoop

@[expose] public section

set_option maxRecDepth 16384

noncomputable section

namespace Cert.Act

open Cert.HQuantIdeal Cert.HQuantIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Which block of each array a grid point holds. -/
theorem idx : ∀ t : Fin cfg0.N, win0_0.index t = ![0] ∧ win0_1.index t = ![t.val, 0, 0] ∧ win0_2.index t = ![t.val, 0]
    ∧ win0_3.index t = ![t.val / 9, 0, t.val % 9] :=
  (by decide +kernel : ∀ t : Fin grid0.N, _)

/-- There are 144 grid points. -/
theorem point_lt (t : Fin cfg0.N) : t.val < 144 := t.isLt

/-- The largest magnitude handed in. -/
def topArg : EReal := (show FVec Ideal S1 .f32 from m ((c : Thread nD τ).loc main_arg0)) (ix1 0)

/-- Token `row`'s activations: lane `row % 128` of group `row / 128`. -/
def token (row : Fin 18432) (n : Fin 11008) : EReal :=
  (show FVec Ideal S144x11008x128 .f32 from m ((c : Thread nD τ).loc main_arg1)) (ix3 ⟨row.val / 128, by omega⟩ n ⟨row.val % 128, by omega⟩)

/-- The largest magnitude, as a grid point reads it. -/
theorem top_read (t : Fin cfg0.N) (y : S1.Idx) : (show FVec Ideal S1 .f32 from iblk m c 0 t) y = topArg m c := by
  have e : (win0_0.blk t).view.emb y = y := by blk_ext [idx t]
  blk_simp [iblk]
  rw [e]
  exact congrArg (show FVec Ideal S1 .f32 from m ((c : Thread nD τ).loc main_arg0)) (funext fun a => by
    match a with
    | ⟨0, _⟩ => exact Fin.ext (by have : (y 0).val < 1 := (y 0).isLt; change (y 0).val = 0; omega))

/-- The activations, as a grid point reads them. -/
theorem act_read (t : Fin cfg0.N) (n : Fin 11008) (l : Fin 128) (row : Fin 18432) (hr : row.val = 128 * t.val + l.val) :
    (show FVec Ideal S1x11008x128 .f32 from iblk m c 1 t) (ix3 0 n l) = token m c row n := by
  have ht := point_lt t
  have e : (win0_1.blk t).view.emb (ix3 0 n l) = ix3 ⟨row.val / 128, by omega⟩ n ⟨row.val % 128, by omega⟩ := by
    have h1 : row.val / 128 = t.val := by omega
    have h2 : row.val % 128 = l.val := by omega
    simp only [h1, h2]
    blk_ext [idx t]
  blk_simp [iblk]
  rw [e]
  rfl

/-- The codes a grid point leaves. -/
theorem after2 (t : Fin cfg0.N) (y : S128x5504.Idx) :
    (dats m 0 c).after 2 t y = byteK (topArg m c) (fun n => (show FVec Ideal S1x11008x128 .f32 from iblk m c 1 t) (ix3 0 n (y 0))) (y 1) := by
  rw [after0_2]
  unfold outsAt0
  dsimp only
  frame_out
  refine (loop_codes _ _ _ _ _ _ _ _ _ _ _ _ _ _ _ (iblk m c 1 t) _ rfl y).trans ?_
  exact congrArg (fun z : EReal => byteK z (fun n => (show FVec Ideal S1x11008x128 .f32 from iblk m c 1 t) (ix3 0 n (y 0))) (y 1)) (top_read m c t _)

/-- The scales a grid point leaves, as the kernel reads them back. -/
theorem pay2_apply (v : FVec Ideal S688x128 .f32) (y : S1x688x128.Idx) : k0_pay2 (F := Ideal) v y = v (ix2 (y 1) (y 2)) := by
  refine (shapeCast_apply _ _ _ (ix2 (y 1) (y 2)) ?_).trans rfl
  obtain ⟨a, g, l, rfl⟩ : ∃ (a : Fin 1) (g : Fin 688) (l : Fin 128), y = ix3 a g l :=
    ⟨y 0, y 1, y 2, funext fun a => by match a with | ⟨0, _⟩ => rfl | ⟨1, _⟩ => rfl | ⟨2, _⟩ => rfl⟩
  refine (Shape.rowMajor_val_two (d := ![688, 128]) (ix2 _ _)).trans
    (Eq.trans ?_ (Shape.rowMajor_val_three (d := ![1, 688, 128]) (ix3 a g l)).symm)
  change g.val * 128 + l.val = (a.val * 688 + g.val) * 128 + l.val
  omega

/-- The scales a grid point leaves. -/
theorem after3 (t : Fin cfg0.N) (y : S1x688x128.Idx) :
    (dats m 0 c).after 3 t y = scale (topArg m c) (block (fun n => (show FVec Ideal S1x11008x128 .f32 from iblk m c 1 t) (ix3 0 n (y 2))) (y 1)) := by
  rw [after0_3]
  unfold outsAt0
  dsimp only
  frame_out
  refine (pay2_apply _ y).trans ?_
  rw [View.readCov_eq_canon']
  have e : (Rect.unit (s := S688x128) ![0, 0] S688x128.size inb_S688x128_S688x128_0_0).emb (ix2 (y 1) (y 2)) = ix2 (y 1) (y 2) :=
    funext fun a => Fin.ext ((ValueKit.rect_emb_unit_val (s := S688x128) ![0, 0] S688x128.size inb_S688x128_S688x128_0_0 (ix2 (y 1) (y 2)) a).trans
      (by match a with | ⟨0, _⟩ => exact Nat.zero_add _ | ⟨1, _⟩ => exact Nat.zero_add _))
  refine (congrArg _ e).trans ?_
  refine (loop_scales _ _ _ _ _ _ _ _ _ _ _ _ _ _ _ (iblk m c 1 t) _ rfl _).trans ?_
  exact congrArg (fun z : EReal => scale z (block (fun n => (show FVec Ideal S1x11008x128 .f32 from iblk m c 1 t) (ix3 0 n (y 2))) (y 1))) (top_read m c t _)

/-- **The kernel's packed codes**: token `i 0`, byte `i 1`. -/
theorem final2 (i : S18432x5504.Idx) : (dats m 0 c).arrAt 2 cfg0.N i = byteK (topArg m c) (token m c (i 0)) (i 1) := by
  refine congrFun ((dats m 0 c).arrAt_eq_of_covers 2 (fun i : S18432x5504.Idx => byteK (topArg m c) (token m c (i 0)) (i 1)) (by decide +kernel) fun t _ y => ?_) i
  blk_simp
  have e0 : ((win0_2.blk t).view.emb y 0).val = 128 * t.val + (y 0).val := by
    refine (?_ : _ = t.val * 128 + (y 0).val).trans (by omega)
    blk_ext [idx t]
  have e1 : (win0_2.blk t).view.emb y 1 = y 1 := Fin.ext (by blk_ext [idx t])
  refine (after2 m c t y).trans ?_
  rw [e1]
  exact congrArg (fun h => byteK (topArg m c) h (y 1)) (funext fun n => act_read m c t n (y 0) _ e0)

/-- Token number `col` of batch `b`. -/
def rowOf (b : Fin 16) (col : Fin 1152) : Fin 18432 := ⟨1152 * b.val + col.val, by omega⟩

/-- **The kernel's block scales**: batch `i 0`, block `i 1`, token `i 2`. -/
theorem final3 (i : S16x688x1152.Idx) :
    (dats m 0 c).arrAt 3 cfg0.N i = scale (topArg m c) (block (token m c (rowOf (i 0) (i 2))) (i 1)) := by
  refine congrFun ((dats m 0 c).arrAt_eq_of_covers 3
    (fun i : S16x688x1152.Idx => scale (topArg m c) (block (token m c (rowOf (i 0) (i 2))) (i 1))) (by decide +kernel) fun t _ y => ?_) i
  blk_simp
  have ht := point_lt t
  have e0 : ((win0_3.blk t).view.emb y 0).val = t.val / 9 + (y 0).val := by blk_ext [idx t]
  have e1 : (win0_3.blk t).view.emb y 1 = y 1 := Fin.ext (by blk_ext [idx t])
  have e2 : ((win0_3.blk t).view.emb y 2).val = t.val % 9 * 128 + (y 2).val := by blk_ext [idx t]
  have hy : (y 0).val < 1 := (y 0).isLt
  refine (after3 m c t y).trans ?_
  rw [e1]
  refine congrArg (fun h => scale (topArg m c) (block h (y 1))) (funext fun n => act_read m c t n (y 2) _ ?_)
  change 1152 * ((win0_3.blk t).view.emb y 0).val + ((win0_3.blk t).view.emb y 2).val = _
  rw [e0, e2]
  omega

end Cert.Act

end
-- ==== Proof.ActRef.lean ====
/-
  What the reference for `h_quant` computes, element by element.
-/
module

public import proofs.«01_k».proof.Proof.ActColumn
public import proofs.«01_k».proof.Proof.ScalesRef
public import proofs.«01_k».proof.Proof.Gen.HQuantReferenceIdeal.Value
public import Idealize.ShloMosaic.Lib.Pointwise
public import Idealize.ShloMosaic.Lib.Pipeline.ValueKit

@[expose] public section

set_option maxRecDepth 16384

noncomputable section

namespace Cert.ActRef

open Cert.HQuantReferenceIdeal Cert.HQuantReferenceIdeal.Gen Cert.Act Idealize.ShloMosaic Idealize.ShloMosaic.TcCoe Idealize.SL.Sem
open Idealize.ShloMosaic.Pipeline (Dat)

/-! ## The code of a scaled activation -/

section Codes

variable {S : Shape}

/-- The magnitudes rounded to the format, as the reference computes them. -/
def rounded (a : FVec Ideal S .f32) : FVec Ideal S .f32 :=
  select (cmpf .olt a (broadcast S (Scalar.ofBits (F := Ideal) .f32 0x40000000#32)))
    (divf (roundeven (mulf (broadcast S (Scalar.ofBits (F := Ideal) .f32 0x40000000#32)) a)) (broadcast S (Scalar.ofBits (F := Ideal) .f32 0x40000000#32)))
    (select (cmpf .olt a (broadcast S (Scalar.ofBits (F := Ideal) .f32 0x40800000#32))) (roundeven a)
      (mulf (broadcast S (Scalar.ofBits (F := Ideal) .f32 0x40000000#32))
        (roundeven (divf a (broadcast S (Scalar.ofBits (F := Ideal) .f32 0x40000000#32))))))

theorem rounded_apply (a : FVec Ideal S .f32) (i : S.Idx) : rounded a i = grid (a i) := by
  have h : rounded a i = Scalar.select (Ideal.cmp .olt (a i) (Ideal.ofBits .f32 0x40000000#32))
      (Ideal.div (rnd (Ideal.ofBits .f32 0x40000000#32 * (show EReal from a i))) (Ideal.ofBits .f32 0x40000000#32))
      (Scalar.select (Ideal.cmp .olt (a i) (Ideal.ofBits .f32 0x40800000#32)) (rnd (a i))
        (Ideal.ofBits .f32 0x40000000#32 * rnd (Ideal.div (a i) (Ideal.ofBits .f32 0x40000000#32)))) := rfl
  rw [h, select_olt, select_olt, two_bits, four_bits]
  rfl

/-- The positions of magnitudes in the format's list, as the reference computes them. -/
def positions (g : FVec Ideal S .f32) : FVec Ideal S .f32 :=
  select (cmpf .olt g (broadcast S (Scalar.ofBits (F := Ideal) .f32 0x40000000#32)))
    (mulf (broadcast S (Scalar.ofBits (F := Ideal) .f32 0x40000000#32)) g)
    (select (cmpf .olt g (broadcast S (Scalar.ofBits (F := Ideal) .f32 0x40800000#32)))
      (addf g (broadcast S (Scalar.ofBits (F := Ideal) .f32 0x40000000#32)))
      (addf (divf g (broadcast S (Scalar.ofBits (F := Ideal) .f32 0x40000000#32))) (broadcast S (Scalar.ofBits (F := Ideal) .f32 0x40800000#32))))

theorem positions_apply (g : FVec Ideal S .f32) (i : S.Idx) : positions g i = index (g i) := by
  have h : positions g i = Scalar.select (Ideal.cmp .olt (g i) (Ideal.ofBits .f32 0x40000000#32))
      (Ideal.ofBits .f32 0x40000000#32 * (show EReal from g i))
      (Scalar.select (Ideal.cmp .olt (g i) (Ideal.ofBits .f32 0x40800000#32)) ((show EReal from g i) + Ideal.ofBits .f32 0x40000000#32)
        (Ideal.div (g i) (Ideal.ofBits .f32 0x40000000#32) + Ideal.ofBits .f32 0x40800000#32)) := rfl
  rw [h, select_olt, select_olt, two_bits, four_bits]
  rfl

/-- The reference's codes of an array. -/
def codesR (v : FVec Ideal S .f32) : IVec S 32 :=
  ori (shli (extui 32 (cmpf .olt v (broadcast S (Scalar.ofBits (F := Ideal) .f32 0x00000000#32))) natLt_1_32) (broadcast S 3#32))
    (fptosi 32 (positions (rounded (absf v))))

theorem codesR_apply (v : FVec Ideal S .f32) (i : S.Idx) : codesR v i = nibR (v i) := by
  have h : codesR v i = ((Ideal.cmp .olt (v i) (Ideal.ofBits .f32 0x00000000#32)).setWidth 32 <<< 3)
      ||| Ideal.fptosi 32 (positions (rounded (absf v)) i) := rfl
  have ha : absf v i = max (v i : EReal) (-(v i : EReal)) := rfl
  rw [h, positions_apply, rounded_apply, ha, cmp_olt_bit, Cert.WScales.zero_bits]
  rfl

end Codes

/-! ## Scales and scaled activations -/

variable (x : FVec Ideal S144x11008x128 .f32) (t : Ideal .f32)

/-- Token `row`'s activations in the reference's argument. -/
def tok (row : Fin 18432) (n : Fin 11008) : EReal := x (ix3 ⟨row.val / 128, by omega⟩ n ⟨row.val % 128, by omega⟩)

/-- The activations cut into blocks. -/
theorem pay2_apply (row : Fin 18432) (g : Fin 688) (j : Fin 16) : k0_pay2 (F := Ideal) x (ix3 row g j) = block (tok x row) g j := by
  unfold k0_pay2
  dsimp only
  refine (shapeCast_apply _ _ _ (ix2 row ⟨16 * g.val + j.val, by omega⟩) ?_).trans ?_
  · refine (Shape.rowMajor_val_two (d := ![18432, 11008]) (ix2 _ _)).trans
      (Eq.trans ?_ (Shape.rowMajor_val_three (d := ![18432, 688, 16]) (ix3 row g j)).symm)
    change row.val * 11008 + (16 * g.val + j.val) = (row.val * 688 + g.val) * 16 + j.val
    omega
  refine (shapeCast_apply _ _ _ (ix3 ⟨row.val / 128, by omega⟩ ⟨row.val % 128, by omega⟩ ⟨16 * g.val + j.val, by omega⟩) ?_).trans ?_
  · refine (Shape.rowMajor_val_three (d := ![144, 128, 11008]) (ix3 _ _ _)).trans
      (Eq.trans ?_ (Shape.rowMajor_val_two (d := ![18432, 11008]) (ix2 _ _)).symm)
    change (row.val / 128 * 128 + row.val % 128) * 11008 + (16 * g.val + j.val) = row.val * 11008 + (16 * g.val + j.val)
    omega
  exact transpose_apply _ _ _ _ (ix3 ⟨row.val / 128, by omega⟩ ⟨16 * g.val + j.val, by omega⟩ ⟨row.val % 128, by omega⟩) fun a => by
    fin_cases a <;> rfl

/-- The largest magnitude of each block, as the reference takes it. -/
def maxima : FVec Ideal S18432x688 .f32 :=
  multiReduction .maximumf [2] S18432x688 (absf (k0_pay2 (F := Ideal) x)) 0xFF800000#32 reduces_S18432x688x16_S18432x688 (.inl rfl) rfl

theorem maxima_apply (row : Fin 18432) (g : Fin 688) : maxima x (ix2 row g) = blockMax (block (tok x row) g) := by
  refine eq_of_forall_ge_iff fun b => Iff.trans ?_ (blockMax_le _ b).symm
  have e := pay2_apply x row g
  unfold maxima
  generalize k0_pay2 (F := Ideal) x = v at e ⊢
  pointwise
  rw [Finset.fold_max_le, Cert.GateUp.negInf_bits]
  simp only [bot_le, true_and, Finset.mem_univ, true_implies]
  exact forall_congr' fun j => by rw [← e j]; rfl

/-- The tensor scale. -/
theorem pay1_eq : (k0_pay1 (F := Ideal) t : EReal) = (show EReal from t) * ((1 / 2688 : ℝ) : EReal) :=
  (Cert.WScalesRef.div_eq t (Scalar.ofBits (F := Ideal) .f32 0x45280000#32)).trans ((congrArg (fun z : EReal => Ideal.div (show EReal from t) z) Cert.WScalesRef.div_bits).trans
    (Ideal.div_coe (by norm_num : (2688 : ℝ) ≠ 0) (show EReal from t)))

/-- The block scales, as the reference computes them. -/
theorem pay3_quotient : k0_pay3 (F := Ideal) x t
    = truncf .fp8e4m3 (minimumf (divf (maxima x) (broadcast S18432x688
        (Scalar.mulf (F := Ideal) (k0_pay1 (F := Ideal) t) (Scalar.ofBits (F := Ideal) .f32 0x40C00000#32))))
      (broadcast S18432x688 (Scalar.ofBits (F := Ideal) .f32 0x43E00000#32))) bitsLt_fp8e4m3_f32 := rfl

/-- The reference's block scales. -/
theorem pay3_apply (row : Fin 18432) (g : Fin 688) : k0_pay3 (F := Ideal) x t (ix2 row g) = scale t (block (tok x row) g) :=
  (congrFun (pay3_quotient x t) _).trans ((Cert.WScales.quotient_eq _ _ _ _ _ _).trans
    ((congrArg₂ (fun z e : EReal => min (Ideal.div (maxima x (ix2 row g)) z) e)
      (congrArg₂ (fun a b : EReal => a * b) (pay1_eq t) Cert.WScalesRef.six_bits) Cert.WScales.e448_bits).trans
      ((congrArg (fun z : EReal => min (Ideal.div (maxima x (ix2 row g)) z) ((448 : ℝ) : EReal)) (Cert.WScalesRef.six_div t)).trans
        (congrArg (fun a : EReal => Cert.WScales.blockScale t a) (maxima_apply x row g)))))

/-- The steps with the trailing axis of extent one. -/
def steps : FVec Ideal S18432x688x1 .f32 :=
  shapeCast S18432x688x1 (mulf (extf .f32 (k0_pay3 (F := Ideal) x t) bitsLt_fp8e4m3_f32) (broadcast S18432x688 (k0_pay1 (F := Ideal) t))) shapeCasts_S18432x688_S18432x688x1

theorem steps_apply (row : Fin 18432) (g : Fin 688) : steps x t (ix3 row g 0) = step t (block (tok x row) g) := by
  unfold steps
  refine (shapeCast_apply _ _ _ (ix2 row g) ?_).trans ?_
  · refine (Shape.rowMajor_val_two (d := ![18432, 688]) (ix2 _ _)).trans
      (Eq.trans ?_ (Shape.rowMajor_val_three (d := ![18432, 688, 1]) (ix3 row g 0)).symm)
    change row.val * 688 + g.val = (row.val * 688 + g.val) * 1 + 0
    omega
  exact congrArg₂ (fun a b : EReal => a * b) (pay3_apply x t row g) (pay1_eq t)

/-- The guarded quotients, clipped, from the activations `h` and the steps `d`. -/
def scaled (h : FVec Ideal S18432x688x16 .f32) (d : FVec Ideal S18432x688x1 .f32) : FVec Ideal S18432x688x16 .f32 :=
  minimumf (broadcast S18432x688x16 (Scalar.ofBits (F := Ideal) .f32 0x40C00000#32))
    (maximumf (broadcast S18432x688x16 (Scalar.ofBits (F := Ideal) .f32 0xC0C00000#32))
      (select (broadcastTo S18432x688x16 (shapeCast S18432x688x1 (cmpf .ogt d (broadcast S18432x688x1 (Scalar.ofBits (F := Ideal) .f32 0x00000000#32))) shapeCasts_S18432x688x1_S18432x688x1) broadcasts_S18432x688x1_S18432x688x16)
        (divf h (broadcastTo S18432x688x16 (select (cmpf .ogt d (broadcast S18432x688x1 (Scalar.ofBits (F := Ideal) .f32 0x00000000#32))) d
          (broadcast S18432x688x1 (Scalar.ofBits (F := Ideal) .f32 0x3F800000#32))) broadcasts_S18432x688x1_S18432x688x16))
        (broadcast S18432x688x16 (Scalar.ofBits (F := Ideal) .f32 0x00000000#32))))

/-- Spreading over the block axis. -/
theorem spread_apply {α : Type} (v : S18432x688x1.Idx → α) (row : Fin 18432) (g : Fin 688) (j : Fin 16) :
    broadcastTo S18432x688x16 v broadcasts_S18432x688x1_S18432x688x16 (ix3 row g j) = v (ix3 row g 0) :=
  broadcastTo_apply _ _ _ (ix3 row g 0) fun a => by fin_cases a <;> rfl

theorem scaled_apply (h : FVec Ideal S18432x688x16 .f32) (d : FVec Ideal S18432x688x1 .f32) (row : Fin 18432) (g : Fin 688) (j : Fin 16) :
    scaled h d (ix3 row g j) = clip (if (0 : EReal) < d (ix3 row g 0)
      then Ideal.div (h (ix3 row g j)) (if (0 : EReal) < d (ix3 row g 0) then d (ix3 row g 0) else 1) else 0) := by
  have e1 := spread_apply (shapeCast S18432x688x1 (cmpf .ogt d (broadcast S18432x688x1 (Scalar.ofBits (F := Ideal) .f32 0x00000000#32))) shapeCasts_S18432x688x1_S18432x688x1) row g j
  have e2 := spread_apply (select (cmpf .ogt d (broadcast S18432x688x1 (Scalar.ofBits (F := Ideal) .f32 0x00000000#32))) d
          (broadcast S18432x688x1 (Scalar.ofBits (F := Ideal) .f32 0x3F800000#32))) row g j
  have e3 := shapeCast_apply (cmpf .ogt d (broadcast S18432x688x1 (Scalar.ofBits (F := Ideal) .f32 0x00000000#32)))
    shapeCasts_S18432x688x1_S18432x688x1 (ix3 row g 0) (ix3 row g 0) rfl
  rw [e3] at e1
  have hh : scaled h d (ix3 row g j) = min (Ideal.ofBits .f32 0x40C00000#32) (max (Ideal.ofBits .f32 0xC0C00000#32)
      (Scalar.select (broadcastTo S18432x688x16 (shapeCast S18432x688x1 (cmpf .ogt d (broadcast S18432x688x1 (Scalar.ofBits (F := Ideal) .f32 0x00000000#32))) shapeCasts_S18432x688x1_S18432x688x1) broadcasts_S18432x688x1_S18432x688x16 (ix3 row g j))
        (Ideal.div (h (ix3 row g j)) (broadcastTo S18432x688x16 (select (cmpf .ogt d (broadcast S18432x688x1 (Scalar.ofBits (F := Ideal) .f32 0x00000000#32))) d
          (broadcast S18432x688x1 (Scalar.ofBits (F := Ideal) .f32 0x3F800000#32))) broadcasts_S18432x688x1_S18432x688x16 (ix3 row g j)))
        (Ideal.ofBits .f32 0x00000000#32))) := rfl
  rw [hh, e1, e2]
  have e4 : select (cmpf .ogt d (broadcast S18432x688x1 (Scalar.ofBits (F := Ideal) .f32 0x00000000#32))) d
      (broadcast S18432x688x1 (Scalar.ofBits (F := Ideal) .f32 0x3F800000#32)) (ix3 row g 0)
      = Scalar.select (Ideal.cmp .ogt (d (ix3 row g 0)) (Ideal.ofBits .f32 0x00000000#32)) (d (ix3 row g 0)) (Ideal.ofBits .f32 0x3F800000#32) := rfl
  have e5 : cmpf .ogt d (broadcast S18432x688x1 (Scalar.ofBits (F := Ideal) .f32 0x00000000#32)) (ix3 row g 0)
      = Ideal.cmp .ogt (d (ix3 row g 0)) (Ideal.ofBits .f32 0x00000000#32) := rfl
  rw [e4, e5, select_ogt, select_ogt, Cert.WScales.zero_bits, Cert.WScales.one_bits, Cert.WScalesRef.six_bits, minusSix_bits]
  rfl

/-- The scaled activations, as the reference computes them. -/
theorem pay4_eq : k0_pay4 (F := Ideal) x t = scaled (k0_pay2 (F := Ideal) x) (steps x t) := rfl

/-- The reference's scaled activations. -/
theorem pay4_apply (row : Fin 18432) (g : Fin 688) (j : Fin 16) : k0_pay4 (F := Ideal) x t (ix3 row g j) = valR t (block (tok x row) g) j := by
  rw [pay4_eq, scaled_apply, steps_apply, pay2_apply]
  rfl

/-! ## The stored values -/

/-- Neighbouring codes packed in bytes. -/
def pack (v : IVec S18432x688x16 32) : IVec S18432x5504 8 :=
  trunci 8 (ori
    (shapeCast S18432x5504 (extractStridedSlice S18432x5504x1 ![0, 0, 0] (shapeCast S18432x5504x2 v shapeCasts_S18432x688x16_S18432x5504x2) slices_S18432x5504x2_o0_0_0_S18432x5504x1) shapeCasts_S18432x5504x1_S18432x5504)
    (shli (shapeCast S18432x5504 (extractStridedSlice S18432x5504x1 ![0, 0, 1] (shapeCast S18432x5504x2 v shapeCasts_S18432x688x16_S18432x5504x2) slices_S18432x5504x2_o0_0_1_S18432x5504x1) shapeCasts_S18432x5504x1_S18432x5504)
      (broadcast S18432x5504 4#32))) natLt_8_32

/-- One of the neighbours. -/
theorem half_apply (v : IVec S18432x688x16 32) (b : ℕ) (hb : b < 2) (hs : S18432x5504x2.Slices ![0, 0, b] S18432x5504x1) (row : Fin 18432) (p : Fin 5504)
    (n : Fin 11008) (hn : n.val = 2 * p.val + b) :
    shapeCast S18432x5504 (extractStridedSlice S18432x5504x1 ![0, 0, b] (shapeCast S18432x5504x2 v shapeCasts_S18432x688x16_S18432x5504x2) hs)
      shapeCasts_S18432x5504x1_S18432x5504 (ix2 row p) = v (ix3 row ⟨n.val / 16, by omega⟩ ⟨n.val % 16, by omega⟩) := by
  refine (shapeCast_apply _ _ _ (ix3 row p 0) ?_).trans ?_
  · refine (Shape.rowMajor_val_three (d := ![18432, 5504, 1]) (ix3 _ _ _)).trans
      (Eq.trans ?_ (Shape.rowMajor_val_two (d := ![18432, 5504]) (ix2 row p)).symm)
    change (row.val * 5504 + p.val) * 1 + 0 = row.val * 5504 + p.val
    omega
  refine (extractStridedSlice_apply _ _ _ _ (ix3 row p ⟨b, hb⟩) fun a => ?_).trans ?_
  · match a with
    | ⟨0, _⟩ => exact (Nat.zero_add _).symm
    | ⟨1, _⟩ => exact (Nat.zero_add _).symm
    | ⟨2, _⟩ => rfl
  refine shapeCast_apply _ _ _ _ ?_
  refine (Shape.rowMajor_val_three (d := ![18432, 688, 16]) (ix3 _ _ _)).trans
      (Eq.trans ?_ (Shape.rowMajor_val_three (d := ![18432, 5504, 2]) (ix3 _ _ _)).symm)
  change (row.val * 688 + n.val / 16) * 16 + n.val % 16 = (row.val * 5504 + p.val) * 2 + b
  omega

/-- The bytes the reference stores, as it computes them. -/
theorem pay10_eq : k0_pay10 (F := Ideal) (k0_pay4 (F := Ideal) x t) (k0_pay5 (F := Ideal) x t) (k0_pay6 (F := Ideal) x t) (k0_pay7 (F := Ideal) x t) (k0_pay8 (F := Ideal) x t) (k0_pay9 (F := Ideal) x t)
    = pack (codesR (k0_pay4 (F := Ideal) x t)) := rfl

/-- **The bytes the reference stores.** -/
theorem pay10_apply (row : Fin 18432) (p : Fin 5504) :
    k0_pay10 (F := Ideal) (k0_pay4 (F := Ideal) x t) (k0_pay5 (F := Ideal) x t) (k0_pay6 (F := Ideal) x t) (k0_pay7 (F := Ideal) x t) (k0_pay8 (F := Ideal) x t) (k0_pay9 (F := Ideal) x t) (ix2 row p)
      = byteR t (tok x row) p := by
  rw [pay10_eq]
  have h (n : Fin 11008) : codesR (k0_pay4 (F := Ideal) x t) (ix3 row ⟨n.val / 16, by omega⟩ ⟨n.val % 16, by omega⟩) = nibR (atR t (tok x row) n) := by
    rw [codesR_apply, pay4_apply]
    rfl
  exact congrArg₂ byte ((half_apply _ 0 (by omega) _ row p ⟨2 * p.val, by omega⟩ rfl).trans (h _))
    ((half_apply _ 1 (by omega) _ row p ⟨2 * p.val + 1, by omega⟩ rfl).trans (h _))

/-- The block scales the reference stores: transposed within each batch. -/
theorem pay11_apply (v : FVec Ideal S18432x688 .fp8e4m3) (b : Fin 16) (g : Fin 688) (col : Fin 1152) :
    k0_pay11 (F := Ideal) v (ix3 b g col) = v (ix2 ⟨1152 * b.val + col.val, by omega⟩ g) := by
  unfold k0_pay11
  dsimp only
  refine (transpose_apply _ _ _ _ (ix3 b col g) fun a => by fin_cases a <;> rfl).trans (shapeCast_apply _ _ _ _ ?_)
  refine (Shape.rowMajor_val_two (d := ![18432, 688]) (ix2 _ _)).trans
      (Eq.trans ?_ (Shape.rowMajor_val_three (d := ![16, 1152, 688]) (ix3 b col g)).symm)
  change (1152 * b.val + col.val) * 688 + g.val = (b.val * 1152 + col.val) * 688 + g.val
  omega

end Cert.ActRef

end
-- ==== Proof.ActRefArrays.lean ====
/-
  The arrays the reference for `h_quant` ends with.
-/
module

public import proofs.«01_k».proof.Proof.ActRef

@[expose] public section

set_option maxRecDepth 16384

noncomputable section

namespace Cert.ActRef

open Cert.HQuantReferenceIdeal Cert.HQuantReferenceIdeal.Gen Cert.Act Idealize.ShloMosaic Idealize.ShloMosaic.TcCoe Idealize.SL.Sem
open Idealize.ShloMosaic.Pipeline (Dat)

variable (m : (ℓ : Loc nD τ sig) → Buf (Elt Ideal) ℓ) (c : Dev nD)

/-- Every array is one block. -/
theorem idx : ∀ t : Fin cfg0.N, win0_0.index t = ![0] ∧ win0_1.index t = ![0, 0, 0] ∧ win0_2.index t = ![0, 0]
    ∧ win0_3.index t = ![0, 0, 0] :=
  (by decide +kernel : ∀ t : Fin grid0.N, _)

/-- The activations of the reference's run. -/
abbrev X : FVec Ideal S144x11008x128 .f32 := m ((c : Thread nD τ).loc main_arg1)

/-- The largest magnitude handed to the reference. -/
abbrev T : Ideal .f32 := (show FVec Ideal S1 .f32 from m ((c : Thread nD τ).loc main_arg0)) (ix1 0)

/-- The activations, as the reference reads them. -/
theorem x_eq (t : Fin cfg0.N) : iblk m c 1 t = X m c := by
  funext y
  have e : (win0_1.blk t).view.emb y = y := by blk_ext [idx t]
  blk_simp [iblk]
  rw [e]

/-- The largest magnitude, as the reference reads it. -/
theorem t_eq (t : Fin cfg0.N) (y : S1.Idx) : (show FVec Ideal S1 .f32 from iblk m c 0 t) y = T m c := by
  have e : (win0_0.blk t).view.emb y = y := by blk_ext [idx t]
  blk_simp [iblk]
  rw [e]
  exact congrArg (show FVec Ideal S1 .f32 from m ((c : Thread nD τ).loc main_arg0)) (funext fun a => by
    match a with
    | ⟨0, _⟩ => exact Fin.ext (by have : (y 0).val < 1 := (y 0).isLt; change (y 0).val = 0; omega))

/-- The bytes stored, of two values. -/
def bytes (x : FVec Ideal S144x11008x128 .f32) (t : Ideal .f32) : IVec S18432x5504 8 :=
  k0_pay10 (F := Ideal) (k0_pay4 (F := Ideal) x t) (k0_pay5 (F := Ideal) x t) (k0_pay6 (F := Ideal) x t) (k0_pay7 (F := Ideal) x t)
    (k0_pay8 (F := Ideal) x t) (k0_pay9 (F := Ideal) x t)

/-- The scales stored, of two values. -/
def scales (x : FVec Ideal S144x11008x128 .f32) (t : Ideal .f32) : FVec Ideal S16x688x1152 .fp8e4m3 :=
  k0_pay11 (F := Ideal) (k0_pay3 (F := Ideal) x t)

/-- The reference's blocks of the results after its one point are its stored values. -/
theorem out_eq (t : Fin cfg0.N) (y : S18432x5504.Idx) (z : S16x688x1152.Idx) :
    (outsAt0 m c t).1 y = bytes (iblk m c 1 t) (T m c) y ∧ (outsAt0 m c t).2 z = scales (iblk m c 1 t) (T m c) z := by
  unfold outsAt0
  refine ⟨?_, ?_⟩
  · frame_out
    exact congrArg₂ (fun x t => bytes x t y) (Memref.IsWhole.read_unread _ _)
      ((congrFun (Memref.IsWhole.read_unread (Val := Elt Ideal) _ _) _).trans (t_eq m c t _))
  · frame_out
    exact congrArg₂ (fun x t => scales x t z) (Memref.IsWhole.read_unread _ _)
      ((congrFun (Memref.IsWhole.read_unread (Val := Elt Ideal) _ _) _).trans (t_eq m c t _))

/-- A result array is what its one grid point is held to leave in it. -/
theorem arr2 (D : Dat τ (Elt Ideal) Unit ℕ (UR sig nD τ) ℕ cfg0 c) (v : IVec S18432x5504 8) (h : ∀ t y, D.after 2 t y = v y) :
    D.arrAt 2 cfg0.N = v := by
  refine D.arrAt_eq_of_covers 2 v (by decide +kernel) fun t hf y => ?_
  have e : (win0_2.blk t).view.emb y = y := by blk_ext [idx t]
  blk_simp
  rw [e]
  exact h t y

@[inherit_doc arr2]
theorem arr3 (D : Dat τ (Elt Ideal) Unit ℕ (UR sig nD τ) ℕ cfg0 c) (v : FVec Ideal S16x688x1152 .fp8e4m3) (h : ∀ t y, D.after 3 t y = v y) :
    D.arrAt 3 cfg0.N = v := by
  refine D.arrAt_eq_of_covers 3 v (by decide +kernel) fun t hf y => ?_
  have e : (win0_3.blk t).view.emb y = y := by blk_ext [idx t]
  blk_simp
  rw [e]
  exact h t y

/-- What the one grid point leaves in the results' blocks. -/
theorem after_eq (t : Fin cfg0.N) : (∀ y, (dats m 0 c).after 2 t y = bytes (X m c) (T m c) y)
    ∧ (∀ y, (dats m 0 c).after 3 t y = scales (X m c) (T m c) y) := by
  have h := out_eq m c t
  rw [x_eq m c t] at h
  dsimp only [dats]
  exact ⟨fun y => (h y (ix3 0 0 0)).1, fun y => (h (ix2 0 0) y).2⟩

/-- **The reference's packed codes**: token `i 0`, byte `i 1`. -/
theorem final2 (i : S18432x5504.Idx) : (dats m 0 c).arrAt 2 cfg0.N i = byteR (T m c) (tok (X m c) (i 0)) (i 1) := by
  rw [arr2 c (dats m 0 c) _ fun t => (after_eq m c t).1]
  have e : i = ix2 (i 0) (i 1) := funext fun a => by match a with | ⟨0, _⟩ => rfl | ⟨1, _⟩ => rfl
  exact (congrArg (bytes (X m c) (T m c)) e).trans (pay10_apply (X m c) (T m c) (i 0) (i 1))

/-- **The reference's block scales**: batch `i 0`, block `i 1`, token `i 2`. -/
theorem final3 (i : S16x688x1152.Idx) : (dats m 0 c).arrAt 3 cfg0.N i
    = scale (T m c) (block (tok (X m c) ⟨1152 * (i 0).val + (i 2).val, by
        have h0 : (i 0).val < 16 := (i 0).isLt
        have h2 : (i 2).val < 1152 := (i 2).isLt
        omega⟩) (i 1)) := by
  rw [arr3 c (dats m 0 c) _ fun t => (after_eq m c t).2]
  have e : i = ix3 (i 0) (i 1) (i 2) := funext fun a => by match a with | ⟨0, _⟩ => rfl | ⟨1, _⟩ => rfl | ⟨2, _⟩ => rfl
  exact (congrArg (scales (X m c) (T m c)) e).trans ((pay11_apply _ (i 0) (i 1) (i 2)).trans (pay3_apply (X m c) (T m c) _ (i 1)))

end Cert.ActRef

end
-- ==== Proof.ActAgree.lean ====
/-
  The kernel `h_quant` and its reference end with equal results where the largest magnitude handed in is not negative.
-/
module

public import proofs.«01_k».proof.Proof.ActArrays
public import proofs.«01_k».proof.Proof.ActRefArrays
public import proofs.«01_k».proof.Defs

@[expose] public section

set_option maxRecDepth 16384

noncomputable section

namespace Cert.Act

open Idealize.ShloMosaic Idealize.ShloMosaic.TcCoe Idealize.SL.Sem

/-- The shape relation the precondition's one reshape states. -/
theorem preFacts : Cert.Pre_top_not_negative.Facts := ⟨by decide⟩

instance : Cert.Pre_top_not_negative.Facts := preFacts

variable (m : (ℓ : Loc Cert.HQuantIdeal.nD Cert.HQuantIdeal.τ Cert.HQuantIdeal.sig) → Buf (Elt Ideal) ℓ) (c : Dev Cert.HQuantIdeal.nD)

/-- What the precondition says of the largest magnitude. -/
theorem top_nonneg (h : Cert.Pre_HQuantIdeal_top_not_negative m) : 0 ≤ topArg m c := by
  have h1 := congrFun (h c) (fun a => a.elim0)
  have e := shapeCast_apply (show FVec Ideal Cert.Pre_top_not_negative.S1 .f32 from
      m ((c.tc : Thread Cert.HQuantIdeal.nD Cert.HQuantIdeal.τ).loc Cert.HQuantIdeal.main_arg0))
    (Cert.Pre_top_not_negative.Facts.shapeCasts_S1_S_) (fun a => a.elim0) (ix1 0) rfl
  have h2 : Ideal.cmp .oge (topArg m c) (Ideal.ofBits .f32 0x00000000#32) = 1#1 :=
    (congrArg (fun z : EReal => Ideal.cmp .oge z (Ideal.ofBits .f32 0x00000000#32)) e).symm.trans h1
  rw [Cert.WScales.zero_bits] at h2
  by_contra hn
  simp [Ideal.cmp, hn] at h2

/-- The ideal `h_quant` and its ideal reference, from equal arguments with a largest magnitude that is not negative, end with equal results. -/
theorem algebraic : Cert.algebraic_HQuantIdeal_HQuantReferenceIdeal_pre_top_not_negative := by
  intro m g m' g' hpre hagree
  refine ⟨_, _, Cert.HQuantIdeal.Value.run_blocks m g, (θ_run _ _ _).mono (fun r h c => ?_) (Cert.HQuantReferenceIdeal.Value.run_blocks m' g')⟩
  obtain ⟨h0, h1, hargs⟩ := h c
  obtain ⟨a0, a1⟩ := hagree c
  have et : Cert.ActRef.T m' c = topArg m c := congrFun a0 (ix1 0)
  have ex (row : Fin 18432) : Cert.ActRef.tok (Cert.ActRef.X m' c) row = token m c row := funext fun n => congrFun a1 _
  refine ⟨h0.trans (funext fun i => ?_), h1.trans (funext fun i => ?_), hargs⟩
  · refine (Cert.ActRef.final2 m' c i).trans (Eq.trans ?_ (final2 m c i).symm)
    rw [et]
    exact (congrArg (fun h => byteR (topArg m c) h (i 1)) (ex (i 0))).trans (byte_eq _ (top_nonneg m c hpre) _ _).symm
  · refine (Cert.ActRef.final3 m' c i).trans (Eq.trans ?_ (final3 m c i).symm)
    rw [et]
    exact congrArg (fun h => scale (topArg m c) (block h (i 1))) (ex (rowOf (i 0) (i 2)))

end Cert.Act

end
-- ==== Proof.WeightValue.lean ====
/-
  One weight: its scaled value and four-bit code, as the kernel and as the reference compute them; and the value of a
  four-bit code, as both decode it.
-/
module

public import proofs.«01_k».proof.Proof.ActColumn

@[expose] public section

noncomputable section

namespace Cert.Weight

open Idealize.ShloMosaic Cert.Act

/-! ## One weight -/

/-- The kernel's scaled weight: times the reciprocal it is handed, plus the smaller of the tensor scale and 0. -/
def valK (t x r : EReal) : EReal := clip (x * r + min t 0)

/-- The reference's scaled weight. -/
def valR (x r : EReal) : EReal := clip (x * r)

/-- **Where the tensor scale is not negative, both give the same code.** -/
theorem nib_val (t x r : EReal) (ht : 0 ≤ t) : nibK (valK t x r) = nibR (valR x r) := by
  unfold valK valR
  rw [min_eq_right ht, add_zero]
  exact nib_eq _ (clip_range _).1 (clip_range _).2

/-! ## The value of a code -/

section Choice

variable {α : Type} (a0 a1 a2 a3 a4 a5 a6 a7 : α) (neg : α → α) (n : BitVec 32)

/-- The choice among eight magnitudes and a sign by comparisons, as the kernel makes it. -/
def chooseK : α :=
  let m := n &&& 7#32
  let mag := Scalar.select (IntOp.cmpi .slt m 4#32)
    (Scalar.select (IntOp.cmpi .slt m 2#32) (Scalar.select (IntOp.cmpi .slt m 1#32) a0 a1) (Scalar.select (IntOp.cmpi .slt m 3#32) a2 a3))
    (Scalar.select (IntOp.cmpi .slt m 6#32) (Scalar.select (IntOp.cmpi .slt m 5#32) a4 a5) (Scalar.select (IntOp.cmpi .slt m 7#32) a6 a7))
  Scalar.select (IntOp.cmpi .slt n 8#32) mag (neg mag)

/-- The same choice by the code's bits, as the reference makes it. -/
def chooseR : α :=
  let b0 := IntOp.cmpi .ne (n &&& 1#32) 0#32
  let b1 := IntOp.cmpi .ne (n &&& 2#32) 0#32
  let b2 := IntOp.cmpi .ne (n &&& 4#32) 0#32
  let b3 := IntOp.cmpi .ne (n &&& 8#32) 0#32
  let mag := Scalar.select b2 (Scalar.select b1 (Scalar.select b0 a7 a6) (Scalar.select b0 a5 a4))
    (Scalar.select b1 (Scalar.select b0 a3 a2) (Scalar.select b0 a1 a0))
  Scalar.select b3 (neg mag) mag

/-- **Both choices agree on the sixteen codes.** -/
theorem choose_eq (k : Fin 16) : chooseK a0 a1 a2 a3 a4 a5 a6 a7 neg (BitVec.ofNat 32 k.val) = chooseR a0 a1 a2 a3 a4 a5 a6 a7 neg (BitVec.ofNat 32 k.val) := by
  fin_cases k <;> rfl

end Choice

/-- The number an f32 word stands for. -/
abbrev num (b : BitVec 32) : EReal := Ideal.ofBits .f32 b

/-- The value of a code, as the kernel decodes it. -/
def valueK (n : BitVec 32) : EReal :=
  chooseK (num 0x00000000#32) (num 0x3F000000#32) (num 0x3F800000#32) (num 0x3FC00000#32) (num 0x40000000#32) (num 0x40400000#32)
    (num 0x40800000#32) (num 0x40C00000#32) (fun a => num 0x00000000#32 - a) n

/-- The value of a code, as the reference decodes it. -/
def valueR (n : BitVec 32) : EReal :=
  chooseR (num 0x00000000#32) (num 0x3F000000#32) (num 0x3F800000#32) (num 0x3FC00000#32) (num 0x40000000#32) (num 0x40400000#32)
    (num 0x40800000#32) (num 0x40C00000#32) (fun a => num 0x00000000#32 - a) n

/-- A word made of seven bits counted and a sign is one of sixteen. -/
theorem small : ∀ p0 p1 p2 p3 p4 p5 p6 s : Bool, ∃ k : Fin 16,
    (bif s then (0#32 + (bif p0 then 1#32 else 0#32) + (bif p1 then 1#32 else 0#32) + (bif p2 then 1#32 else 0#32) + (bif p3 then 1#32 else 0#32)
      + (bif p4 then 1#32 else 0#32) + (bif p5 then 1#32 else 0#32) + (bif p6 then 1#32 else 0#32)) ||| 8#32
      else 0#32 + (bif p0 then 1#32 else 0#32) + (bif p1 then 1#32 else 0#32) + (bif p2 then 1#32 else 0#32) + (bif p3 then 1#32 else 0#32)
      + (bif p4 then 1#32 else 0#32) + (bif p5 then 1#32 else 0#32) + (bif p6 then 1#32 else 0#32)) = BitVec.ofNat 32 k.val := by
  decide +kernel

/-- A code is one of sixteen. -/
theorem nibK_small (v : EReal) : ∃ k : Fin 16, nibK v = BitVec.ofNat 32 k.val := by
  have hb (p : Prop) [Decidable p] : bit p = bif decide p then 1#32 else 0#32 := by
    unfold bit
    by_cases h : p <;> simp [h]
  unfold nibK Cert.Act.count
  simp only [hb]
  by_cases h : v < 0
  · rw [if_pos h]
    exact small _ _ _ _ _ _ _ true
  · rw [if_neg h]
    exact small _ _ _ _ _ _ _ false

/-- **Both decode a code to the same value.** -/
theorem value_eq (v : EReal) : valueK (nibK v) = valueR (nibK v) := by
  obtain ⟨k, hk⟩ := nibK_small v
  rw [hk]
  exact choose_eq _ _ _ _ _ _ _ _ _ k

variable {S : Shape}

/-- The values of an array of codes, as the kernel computes them. -/
def valuesK (v : IVec S 32) : FVec Ideal S .f32 :=
  let m := andi v (broadcast S 7#32)
  let c (b : BitVec 32) : FVec Ideal S .f32 := broadcast S (Scalar.ofBits (F := Ideal) .f32 b)
  let mag := select (cmpi .slt m (broadcast S 4#32))
    (select (cmpi .slt m (broadcast S 2#32)) (select (cmpi .slt m (broadcast S 1#32)) (c 0x00000000#32) (c 0x3F000000#32))
      (select (cmpi .slt m (broadcast S 3#32)) (c 0x3F800000#32) (c 0x3FC00000#32)))
    (select (cmpi .slt m (broadcast S 6#32)) (select (cmpi .slt m (broadcast S 5#32)) (c 0x40000000#32) (c 0x40400000#32))
      (select (cmpi .slt m (broadcast S 7#32)) (c 0x40800000#32) (c 0x40C00000#32)))
  select (cmpi .slt v (broadcast S 8#32)) mag (subf (c 0x00000000#32) mag)

theorem valuesK_apply (v : IVec S 32) (i : S.Idx) : valuesK v i = valueK (v i) := rfl

/-- The values of an array of codes, as the reference computes them. -/
def valuesR (v : IVec S 32) : FVec Ideal S .f32 :=
  let b (k : BitVec 32) : IVec S 1 := cmpi .ne (andi v (broadcast S k)) (broadcast S 0#32)
  let c (b : BitVec 32) : FVec Ideal S .f32 := broadcast S (Scalar.ofBits (F := Ideal) .f32 b)
  let mag := select (b 4#32)
    (select (b 2#32) (select (b 1#32) (c 0x40C00000#32) (c 0x40800000#32)) (select (b 1#32) (c 0x40400000#32) (c 0x40000000#32)))
    (select (b 2#32) (select (b 1#32) (c 0x3FC00000#32) (c 0x3F800000#32)) (select (b 1#32) (c 0x3F000000#32) (c 0x00000000#32)))
  select (b 8#32) (subf (c 0x00000000#32) mag) mag

theorem valuesR_apply (v : IVec S 32) (i : S.Idx) : valuesR v i = valueR (v i) := rfl

end Cert.Weight

end
-- ==== Proof.WeightCols.lean ====
/-
  What `w_quant` computes for 128 columns of a block of 512 weight rows, element by element: the scaled values, their
  four-bit codes, the codes packed down the rows and across the columns, and the decoded weights.
-/
module

public import proofs.«01_k».proof.Proof.WeightValue
public import proofs.«01_k».proof.Proof.ScalesRef
public import proofs.«01_k».proof.Proof.Gen.WQuantIdeal
public import Idealize.ShloMosaic.Lib.Pointwise
public import Idealize.ShloMosaic.Lib.Pipeline.ValueKit

@[expose] public section

set_option maxRecDepth 16384

noncomputable section

namespace Cert.Weight

open Cert.WQuantIdeal Cert.WQuantIdeal.Gen Idealize.ShloMosaic Idealize.ShloMosaic.TcCoe Cert.Act

/-! ## The gather of the blocks' numbers -/

/-- A lane's number divided by 16, as the kernel computes it (a division that rounds down, from one that rounds to zero). -/
def quot : IVec S32x128 32 :=
  let v : IVec S32x128 32 := iota .tc S32x128 32 [1] iota_S32x128_d1_w32
  let d : IVec S32x128 32 := divsi v (broadcast S32x128 16#32)
  let sign : IVec S32x128 32 := subi (extui 32 (cmpi .sgt v (broadcast S32x128 0#32)) natLt_1_32)
    (extui 32 (cmpi .slt v (broadcast S32x128 0#32)) natLt_1_32)
  let sign16 : BitVec 32 := Scalar.subi (Scalar.extui (Scalar.cmpi .sgt 16#32 0#32)) (Scalar.extui (Scalar.cmpi .slt 16#32 0#32))
  select (andi (cmpi .ne sign (broadcast S32x128 sign16))
      (cmpi .ne (remsi v (broadcast S32x128 16#32)) (broadcast S32x128 0#32)))
    (subi d (broadcast S32x128 1#32)) d

theorem quot_apply (r : Fin 32) (l : Fin 128) : quot (ix2 r l) = BitVec.ofNat 32 (l.val / 16) := by
  have h : ∀ l : Fin 128, quot (ix2 (0 : Fin 32) l) = BitVec.ofNat 32 (l.val / 16) := by decide +kernel
  exact (show quot (ix2 r l) = quot (ix2 (0 : Fin 32) l) from rfl).trans (h l)

/-- The lane the gather for the columns with block offset `o` reads, as the kernel computes it. -/
def pos (o : BitVec 32) : IVec S32x128 32 :=
  shapeCast S32x128 (shapeCast S32x128x1 (select (cmpi .slt (addi (broadcast S32x128 o) quot) (broadcast S32x128 0#32))
    (addi (addi (broadcast S32x128 o) quot) (broadcast S32x128 128#32)) (addi (broadcast S32x128 o) quot))
    shapeCasts_S32x128_S32x128x1) shapeCasts_S32x128x1_S32x128

theorem pos_apply (c : ℕ) (hc : c < 16) (r : Fin 32) (l : Fin 128) :
    pos (BitVec.ofNat 32 (8 * c)) (ix2 r l) = BitVec.ofNat 32 (8 * c + l.val / 16) := by
  unfold pos
  rw [shapeCast_shapeCast]
  show Scalar.select (IntOp.cmpi .slt (BitVec.ofNat 32 (8 * c) + quot (ix2 r l)) 0#32)
    (BitVec.ofNat 32 (8 * c) + quot (ix2 r l) + 128#32) (BitVec.ofNat 32 (8 * c) + quot (ix2 r l)) = _
  rw [quot_apply, ← BitVec.ofNat_add]
  have h : ∀ n : Fin 128, Scalar.select (IntOp.cmpi .slt (BitVec.ofNat 32 n.val) 0#32) (BitVec.ofNat 32 n.val + 128#32) (BitVec.ofNat 32 n.val)
      = BitVec.ofNat 32 n.val := by decide +kernel
  exact h ⟨8 * c + l.val / 16, by omega⟩

/-- The numbers of the columns' blocks, spread over the blocks' 16 rows. -/
def spread (q : FVec Ideal S32x128 .f32) (o : BitVec 32) : FVec Ideal S512x128 .f32 :=
  shapeCast S512x128 (broadcastTo S32x16x128 (shapeCast S32x1x128 (shapeCast S32x1x128 (dynamicGather 1 q (pos o))
    shapeCasts_S32x128_S32x1x128) shapeCasts_S32x1x128_S32x1x128) broadcasts_S32x1x128_S32x16x128) shapeCasts_S32x16x128_S512x128

theorem gather_apply (q : FVec Ideal S32x128 .f32) (c : ℕ) (hc : c < 16) (r : Fin 32) (l : Fin 128) :
    dynamicGather 1 q (pos (BitVec.ofNat 32 (8 * c))) (ix2 r l) = q (ix2 r ⟨8 * c + l.val / 16, by omega⟩) := by
  unfold dynamicGather
  refine congrArg q (funext fun a => ?_)
  match a with
  | ⟨0, _⟩ => rfl
  | ⟨1, _⟩ =>
    refine Fin.ext ?_
    show (pos (BitVec.ofNat 32 (8 * c)) (ix2 r l)).toNat % 128 = 8 * c + l.val / 16
    rw [pos_apply c hc]
    simp only [BitVec.toNat_ofNat]
    omega

theorem spread_apply (q : FVec Ideal S32x128 .f32) (c : ℕ) (hc : c < 16) (r : Fin 512) (l : Fin 128) :
    spread q (BitVec.ofNat 32 (8 * c)) (ix2 r l) = q (ix2 ⟨r.val / 16, by omega⟩ ⟨8 * c + l.val / 16, by omega⟩) := by
  unfold spread
  refine (shapeCast_apply _ _ _ (ix3 ⟨r.val / 16, by omega⟩ ⟨r.val % 16, by omega⟩ l) ?_).trans ?_
  · refine (Shape.rowMajor_val_three (d := ![32, 16, 128]) (ix3 _ _ _)).trans
      (Eq.trans ?_ (Shape.rowMajor_val_two (d := ![512, 128]) (ix2 r l)).symm)
    change (r.val / 16 * 16 + r.val % 16) * 128 + l.val = r.val * 128 + l.val
    omega
  refine (broadcastTo_apply _ _ _ (ix3 ⟨r.val / 16, by omega⟩ 0 l) fun a => ?_).trans ?_
  · fin_cases a <;> rfl
  refine (shapeCast_apply _ _ _ (ix3 ⟨r.val / 16, by omega⟩ 0 l) rfl).trans ((shapeCast_apply _ _ _ (ix2 ⟨r.val / 16, by omega⟩ l) ?_).trans
    (gather_apply q c hc _ l))
  refine (Shape.rowMajor_val_two (d := ![32, 128]) (ix2 _ _)).trans
      (Eq.trans ?_ (Shape.rowMajor_val_three (d := ![32, 1, 128]) (ix3 _ _ _)).symm)
  change r.val / 16 * 128 + l.val = (r.val / 16 * 1 + 0) * 128 + l.val
  omega

/-! ## Codes -/

variable (t : Ideal .f32) (x : FVec Ideal S512x128 .bf16) (q : FVec Ideal S32x128 .f32)

/-- The codes of 128 columns, as the kernel computes them. -/
def codesOf (o : BitVec 32) : IVec S512x128 32 :=
  codes (minimumf (broadcast S512x128 (Scalar.ofBits (F := Ideal) .f32 0x40C00000#32))
    (maximumf (broadcast S512x128 (Scalar.ofBits (F := Ideal) .f32 0xC0C00000#32))
      (addf (mulf (extf .f32 x bitsLt_bf16_f32) (spread q o))
        (broadcast S512x128 (Scalar.minimumf t (Scalar.ofBits (F := Ideal) .f32 0x00000000#32))))))

theorem codesOf_apply (c : ℕ) (hc : c < 16) (r : Fin 512) (l : Fin 128) :
    codesOf t x q (BitVec.ofNat 32 (8 * c)) (ix2 r l)
      = nibK (valK t (x (ix2 r l)) (q (ix2 ⟨r.val / 16, by omega⟩ ⟨8 * c + l.val / 16, by omega⟩))) := by
  unfold codesOf valK
  rw [codes_apply]
  refine congrArg nibK ?_
  refine (congrArg₂ (fun a b : EReal => min a (max b _)) Cert.WScalesRef.six_bits minusSix_bits).trans (congrArg clip ?_)
  exact congrArg₂ (fun a b : EReal => a + b) (congrArg (fun b : EReal => (show EReal from x (ix2 r l)) * b) (spread_apply q c hc r l))
    (congrArg (fun z : EReal => min (show EReal from t) z) Cert.WScales.zero_bits)

/-- Pairs of rows of codes packed in bytes, columns first. -/
def packDown (v : IVec S512x128 32) : IVec S128x256 8 :=
  transpose S128x256 [1, 0] (trunci 8 (ori
      (shapeCast S256x128 (extractStridedSlice S256x1x128 ![0, 0, 0] (shapeCast S256x2x128 v shapeCasts_S512x128_S256x2x128) slices_S256x2x128_o0_0_0_S256x1x128) shapeCasts_S256x1x128_S256x128)
      (shli (shapeCast S256x128 (extractStridedSlice S256x1x128 ![0, 1, 0] (shapeCast S256x2x128 v shapeCasts_S512x128_S256x2x128) slices_S256x2x128_o0_1_0_S256x1x128) shapeCasts_S256x1x128_S256x128)
        (broadcast S256x128 4#32))) natLt_8_32) transposes_S256x128_p1_0_S128x256

/-- One of the rows of the pairs. -/
theorem half_apply (v : IVec S512x128 32) (b : ℕ) (hb : b < 2) (hs : S256x2x128.Slices ![0, b, 0] S256x1x128) (p : Fin 256) (l : Fin 128) :
    shapeCast S256x128 (extractStridedSlice S256x1x128 ![0, b, 0] (shapeCast S256x2x128 v shapeCasts_S512x128_S256x2x128) hs)
      shapeCasts_S256x1x128_S256x128 (ix2 p l) = v (ix2 ⟨2 * p.val + b, by omega⟩ l) := by
  refine (shapeCast_apply _ _ _ (ix3 p 0 l) ?_).trans ?_
  · refine (Shape.rowMajor_val_three (d := ![256, 1, 128]) (ix3 _ _ _)).trans
      (Eq.trans ?_ (Shape.rowMajor_val_two (d := ![256, 128]) (ix2 p l)).symm)
    change (p.val * 1 + 0) * 128 + l.val = p.val * 128 + l.val
    omega
  refine (extractStridedSlice_apply _ _ _ _ (ix3 p ⟨b, hb⟩ l) fun a => ?_).trans ?_
  · match a with
    | ⟨0, _⟩ => exact (Nat.zero_add _).symm
    | ⟨1, _⟩ => rfl
    | ⟨2, _⟩ => exact (Nat.zero_add _).symm
  refine shapeCast_apply _ _ _ _ ?_
  refine (Shape.rowMajor_val_two (d := ![512, 128]) (ix2 _ _)).trans
      (Eq.trans ?_ (Shape.rowMajor_val_three (d := ![256, 2, 128]) (ix3 _ _ _)).symm)
  change (2 * p.val + b) * 128 + l.val = (p.val * 2 + b) * 128 + l.val
  omega

theorem packDown_apply (v : IVec S512x128 32) (l : Fin 128) (p : Fin 256) :
    packDown v (ix2 l p) = byte (v (ix2 ⟨2 * p.val, by omega⟩ l)) (v (ix2 ⟨2 * p.val + 1, by omega⟩ l)) := by
  unfold packDown
  refine (transpose_apply _ _ _ _ (ix2 p l) fun a => by fin_cases a <;> rfl).trans ?_
  exact congrArg₂ byte (half_apply v 0 (by omega) _ p l) (half_apply v 1 (by omega) _ p l)

/-- Pairs of columns of codes packed in bytes, from the codes of two neighbouring groups of 128 columns. -/
def packAcross (v w : IVec S512x128 32) : IVec S512x128 8 :=
  transpose S512x128 [1, 0] (trunci 8 (ori
      (shapeCast S128x512 (extractStridedSlice S128x1x512 ![0, 0, 0] (shapeCast S128x2x512 (concatenate S256x512 0
        [⟨S128x512, transpose S128x512 [1, 0] v transposes_S512x128_p1_0_S128x512⟩, ⟨S128x512, transpose S128x512 [1, 0] w transposes_S512x128_p1_0_S128x512⟩]
        concatenates_S128x512_S128x512_S256x512_d0) shapeCasts_S256x512_S128x2x512) slices_S128x2x512_o0_0_0_S128x1x512) shapeCasts_S128x1x512_S128x512)
      (shli (shapeCast S128x512 (extractStridedSlice S128x1x512 ![0, 1, 0] (shapeCast S128x2x512 (concatenate S256x512 0
        [⟨S128x512, transpose S128x512 [1, 0] v transposes_S512x128_p1_0_S128x512⟩, ⟨S128x512, transpose S128x512 [1, 0] w transposes_S512x128_p1_0_S128x512⟩]
        concatenates_S128x512_S128x512_S256x512_d0) shapeCasts_S256x512_S128x2x512) slices_S128x2x512_o0_1_0_S128x1x512) shapeCasts_S128x1x512_S128x512)
        (broadcast S128x512 4#32))) natLt_8_32) transposes_S128x512_p1_0_S512x128

/-- The codes of two groups, columns first, one group after the other. -/
def both (v w : IVec S512x128 32) (r : Fin 512) (j : Fin 256) : BitVec 32 :=
  if h : j.val < 128 then v (ix2 r ⟨j.val, h⟩) else w (ix2 r ⟨j.val - 128, by omega⟩)

theorem both_apply (v w : IVec S512x128 32) (r : Fin 512) (j : Fin 256) :
    concatenate S256x512 0 [⟨S128x512, transpose S128x512 [1, 0] v transposes_S512x128_p1_0_S128x512⟩, ⟨S128x512, transpose S128x512 [1, 0] w transposes_S512x128_p1_0_S128x512⟩]
        concatenates_S128x512_S128x512_S256x512_d0 (ix2 j r) = both v w r j := by
  have hT (u : IVec S512x128 32) (k : Fin 128) : transpose S128x512 [1, 0] u transposes_S512x128_p1_0_S128x512 (ix2 k r) = u (ix2 r k) :=
    transpose_apply _ _ _ _ (ix2 r k) fun a => by fin_cases a <;> rfl
  unfold both
  by_cases h : j.val < 128
  · rw [dif_pos h, ← hT v ⟨j.val, h⟩]
    exact concatenate_pair_apply_left (t := S256x512) (s₁ := S128x512) (s₂ := S128x512) 0 _ _ _ (ix2 j r) rfl (ix2 ⟨j.val, h⟩ r) fun b => by fin_cases b <;> rfl
  · rw [dif_neg h, ← hT w ⟨j.val - 128, by omega⟩]
    refine concatenate_pair_apply_right (t := S256x512) (s₁ := S128x512) (s₂ := S128x512) 0 _ _ _ (ix2 j r) rfl rfl (ix2 ⟨j.val - 128, by omega⟩ r) (fun b hb => ?_) ?_
    · fin_cases b
      · exact absurd rfl hb
      · rfl
    · change j.val - 128 + 128 = j.val
      omega

/-- One of the columns of the pairs. -/
theorem across_apply (u : IVec S256x512 32) (b : ℕ) (hb : b < 2) (hs : S128x2x512.Slices ![0, b, 0] S128x1x512) (p : Fin 128) (r : Fin 512) :
    shapeCast S128x512 (extractStridedSlice S128x1x512 ![0, b, 0] (shapeCast S128x2x512 u shapeCasts_S256x512_S128x2x512) hs)
      shapeCasts_S128x1x512_S128x512 (ix2 p r) = u (ix2 ⟨2 * p.val + b, by omega⟩ r) := by
  refine (shapeCast_apply _ _ _ (ix3 p 0 r) ?_).trans ?_
  · refine (Shape.rowMajor_val_three (d := ![128, 1, 512]) (ix3 _ _ _)).trans
      (Eq.trans ?_ (Shape.rowMajor_val_two (d := ![128, 512]) (ix2 p r)).symm)
    change (p.val * 1 + 0) * 512 + r.val = p.val * 512 + r.val
    omega
  refine (extractStridedSlice_apply _ _ _ _ (ix3 p ⟨b, hb⟩ r) fun a => ?_).trans ?_
  · match a with
    | ⟨0, _⟩ => exact (Nat.zero_add _).symm
    | ⟨1, _⟩ => rfl
    | ⟨2, _⟩ => exact (Nat.zero_add _).symm
  refine shapeCast_apply _ _ _ _ ?_
  refine (Shape.rowMajor_val_two (d := ![256, 512]) (ix2 _ _)).trans
      (Eq.trans ?_ (Shape.rowMajor_val_three (d := ![128, 2, 512]) (ix3 _ _ _)).symm)
  change (2 * p.val + b) * 512 + r.val = (p.val * 2 + b) * 512 + r.val
  omega

theorem packAcross_apply (v w : IVec S512x128 32) (r : Fin 512) (p : Fin 128) :
    packAcross v w (ix2 r p) = byte (both v w r ⟨2 * p.val, by omega⟩) (both v w r ⟨2 * p.val + 1, by omega⟩) := by
  unfold packAcross
  refine (transpose_apply _ _ _ _ (ix2 p r) fun a => by fin_cases a <;> rfl).trans ?_
  exact congrArg₂ byte ((across_apply _ 0 (by omega) _ p r).trans (both_apply v w r _)) ((across_apply _ 1 (by omega) _ p r).trans (both_apply v w r _))

/-! ## Decoded weights -/

/-- The decoded weights of 128 columns, as the kernel computes them: the codes' values times the blocks' scales. -/
def decodedOf (v : IVec S512x128 32) (s : FVec Ideal S32x128 .fp8e4m3) (o : BitVec 32) : FVec Ideal S512x128 .bf16 :=
  mulf (truncf .bf16 (valuesK v) bitsLt_bf16_f32) (truncf .bf16 (spread (extf .f32 s bitsLt_fp8e4m3_f32) o) bitsLt_bf16_f32)

theorem decodedOf_apply (v : IVec S512x128 32) (s : FVec Ideal S32x128 .fp8e4m3) (c : ℕ) (hc : c < 16) (r : Fin 512) (l : Fin 128) :
    decodedOf v s (BitVec.ofNat 32 (8 * c)) (ix2 r l)
      = valueK (v (ix2 r l)) * (show EReal from s (ix2 ⟨r.val / 16, by omega⟩ ⟨8 * c + l.val / 16, by omega⟩)) :=
  congrArg₂ (fun a b : EReal => a * b) (valuesK_apply v (ix2 r l)) (spread_apply (extf .f32 s bitsLt_fp8e4m3_f32) c hc r l)

end Cert.Weight

end
-- ==== Proof.WeightBlock.lean ====
/-
  What one grid point of `w_quant` leaves in its three output blocks, from its input blocks.
-/
module

public import proofs.«01_k».proof.Proof.WeightCols
public import proofs.«01_k».proof.Proof.Gen.WQuantIdeal.Value

@[expose] public section

set_option maxRecDepth 16384

noncomputable section

namespace Cert.Weight

open Cert.WQuantIdeal Cert.WQuantIdeal.Gen Cert.Act Idealize.ShloMosaic Idealize.ShloMosaic.TcCoe Idealize.SL.Sem
open Idealize.ShloMosaic.Pipeline (Dat)

/-- The code of the weight of row `r` and column `n` of a block of 512 rows. -/
def codeK (z : FVec Ideal S1 .f32) (x : FVec Ideal S512x2048 .bf16) (q : FVec Ideal S32x128 .f32) (r : Fin 512) (n : Fin 2048) : BitVec 32 :=
  nibK (valK (z (ix1 0)) (x (ix2 r n)) (q (ix2 ⟨r.val / 16, by omega⟩ ⟨n.val / 16, by omega⟩)))

/-! ## Loads -/

/-- The tensor scale, loaded. -/
def ldScale (z : FVec Ideal S1 .f32) : Ideal .f32 :=
  View.ld (Val := Elt Ideal) (e' := .f32) z (Rect.unit (s := S1) ![0] ![1] inb_S1_S1_0) (Shape.Idx.first (by decide))

theorem ldScale_eq (z : FVec Ideal S1 .f32) : ldScale z = z (ix1 0) := by
  unfold ldScale
  rw [View.ld_apply]
  exact congrArg z (funext fun a => match a with | ⟨0, _⟩ => Subsingleton.elim (α := Fin 1) _ _)

theorem inb (o : ℕ) (ho : o ≤ 1920) : ∀ a, ![0, o] a + ![512, 128] a ≤ S512x2048.size a := fun a => by
  match a with
  | ⟨0, _⟩ => exact Nat.le_refl 512
  | ⟨1, _⟩ => change o + 128 ≤ 2048; omega

/-- The 128 columns from column `o` on, loaded. -/
def ldCols (x : FVec Ideal S512x2048 .bf16) (o : ℕ) (ho : o ≤ 1920) : FVec Ideal S512x128 .bf16 :=
  View.ld (Val := Elt Ideal) (e' := .bf16) x (Rect.unit (s := S512x2048) ![0, o] ![512, 128] (inb o ho))

theorem ldCols_apply (x : FVec Ideal S512x2048 .bf16) (o : ℕ) (ho : o ≤ 1920) (r : Fin 512) (l : Fin 128) (n : Fin 2048) (hn : n.val = o + l.val) :
    ldCols x o ho (ix2 r l) = x (ix2 r n) := by
  unfold ldCols
  rw [View.ld_apply]
  refine congrArg x (funext fun a => Fin.ext ?_)
  rw [Rect.idx_unit_val]
  match a with
  | ⟨0, _⟩ => exact Nat.zero_add _
  | ⟨1, _⟩ => exact hn.symm

/-! ## Tiles -/

variable (z : FVec Ideal S1 .f32) (x : FVec Ideal S512x2048 .bf16) (s : FVec Ideal S32x128 .fp8e4m3) (q : FVec Ideal S32x128 .f32)

/-- The codes of the 128 columns from column `o` on. -/
def tile (o : ℕ) (ho : o ≤ 1920) : IVec S512x128 32 := codesOf (ldScale z) (ldCols x o ho) q (BitVec.ofNat 32 (o / 16))

theorem tile_apply (o : ℕ) (ho : o ≤ 1920) (hd : o % 128 = 0) (r : Fin 512) (l : Fin 128) (n : Fin 2048) (hn : n.val = o + l.val) :
    tile z x q o ho (ix2 r l) = codeK z x q r n := by
  obtain ⟨k, rfl⟩ : ∃ k, o = 128 * k := ⟨o / 128, by omega⟩
  unfold tile codeK
  rw [show 128 * k / 16 = 8 * k by omega, codesOf_apply _ _ _ k (by omega), ldScale_eq, ldCols_apply x _ ho r l n hn]
  refine congrArg (fun j => nibK (valK (z (ix1 0)) (x (ix2 r n)) (q (ix2 _ j)))) (Fin.ext ?_)
  change 8 * k + l.val / 16 = n.val / 16
  omega

/-- A stored tile of decoded weights. -/
theorem decoded_tile (o : ℕ) {i : S512x128.Idx} {r : Fin 512} {n : Fin 2048} (hr : r.val = (i 0).val) (hn : n.val = o + (i 1).val)
    (ho : o ≤ 1920) (hd : o % 128 = 0) :
    decodedOf (tile z x q o ho) s (BitVec.ofNat 32 (o / 16)) i
      = valueK (codeK z x q r n) * (show EReal from s (ix2 ⟨r.val / 16, by omega⟩ ⟨n.val / 16, by omega⟩)) := by
  obtain ⟨k, rfl⟩ : ∃ k, o = 128 * k := ⟨o / 128, by omega⟩
  obtain ⟨a, b, rfl⟩ : ∃ (a : Fin 512) (b : Fin 128), i = ix2 a b := ⟨i 0, i 1, eq_ix2 i⟩
  obtain rfl : r = a := Fin.ext hr
  have hb : n.val = 128 * k + b.val := hn
  rw [show 128 * k / 16 = 8 * k by omega]
  refine (decodedOf_apply _ s k (by omega) r b).trans ?_
  refine congrArg₂ (fun a b : EReal => a * b) (congrArg valueK (tile_apply z x q (128 * k) ho hd r b n hb)) (congrArg (fun j => (show EReal from s (ix2 _ j))) (Fin.ext ?_))
  change 8 * k + b.val / 16 = n.val / 16
  omega

/-- A stored tile of codes packed down the rows. -/
theorem down_tile (o : ℕ) {i : S128x256.Idx} {n : Fin 2048} {p : Fin 256} (hn : n.val = o + (i 0).val) (hp : p.val = (i 1).val)
    (ho : o ≤ 1920) (hd : o % 128 = 0) :
    packDown (tile z x q o ho) i = byte (codeK z x q ⟨2 * p.val, by omega⟩ n) (codeK z x q ⟨2 * p.val + 1, by omega⟩ n) := by
  obtain ⟨a, b, rfl⟩ : ∃ (a : Fin 128) (b : Fin 256), i = ix2 a b := ⟨i 0, i 1, eq_ix2 i⟩
  obtain rfl : p = b := Fin.ext hp
  refine (packDown_apply _ a p).trans ?_
  exact congrArg₂ byte (tile_apply z x q o ho hd _ a n hn) (tile_apply z x q o ho hd _ a n hn)

/-- The codes of two neighbouring groups of columns, at a column of both. -/
theorem both_tile (o o' : ℕ) (ho : o ≤ 1920) (hd : o % 128 = 0) (ho' : o' ≤ 1920) (e : o' = o + 128) (r : Fin 512) (j : Fin 256) (n : Fin 2048) (hn : n.val = o + j.val) :
    both (tile z x q o ho) (tile z x q o' ho') r j = codeK z x q r n := by
  unfold both
  by_cases h : j.val < 128
  · rw [dif_pos h]
    exact tile_apply z x q o ho hd r ⟨j.val, h⟩ n hn
  · rw [dif_neg h]
    exact tile_apply z x q o' ho' (by omega) r ⟨j.val - 128, by omega⟩ n (by change n.val = o' + (j.val - 128); omega)

/-- A stored tile of codes packed across the columns. -/
theorem across_tile (o : ℕ) {i : S512x128.Idx} {r : Fin 512} {p : Fin 1024} (hr : r.val = (i 0).val) (hp : p.val = o + (i 1).val)
    (ho : o ≤ 896) (hd : o % 128 = 0) :
    packAcross (tile z x q (2 * o) (by omega)) (tile z x q (2 * o + 128) (by omega)) i
      = byte (codeK z x q r ⟨2 * p.val, by omega⟩) (codeK z x q r ⟨2 * p.val + 1, by omega⟩) := by
  obtain ⟨a, b, rfl⟩ : ∃ (a : Fin 512) (b : Fin 128), i = ix2 a b := ⟨i 0, i 1, eq_ix2 i⟩
  obtain rfl : r = a := Fin.ext hr
  have hb : p.val = o + b.val := hp
  refine (packAcross_apply _ _ r b).trans ?_
  refine congrArg₂ byte (both_tile z x q _ _ _ (by omega) _ rfl r _ _ ?_) (both_tile z x q _ _ _ (by omega) _ rfl r _ _ ?_)
  · change 2 * p.val = 2 * o + 2 * b.val
    omega
  · change 2 * p.val + 1 = 2 * o + (2 * b.val + 1)
    omega

/-! ## Blocks -/

variable (m : (ℓ : Loc nD τ sig) → Buf (Elt Ideal) ℓ) (c : Dev nD) (t : Fin cfg0.N)

/-- The code a grid point computes for row `r` and column `n` of its block. -/
abbrev codeAt (r : Fin 512) (n : Fin 2048) : BitVec 32 := codeK (iblk m c 0 t) (iblk m c 1 t) (iblk m c 3 t) r n

/-- The decoded weights a grid point leaves. -/
theorem after6 (y : S512x2048.Idx) : (dats m 0 c).after 6 t y
    = valueK (codeAt m c t (y 0) (y 1)) * (show EReal from (show FVec Ideal S32x128 .fp8e4m3 from iblk m c 2 t) (ix2 ⟨(y 0).val / 16, by have := (y 0).isLt; change (y 0).val < 512 at this; omega⟩
        ⟨(y 1).val / 16, by have := (y 1).isLt; change (y 1).val < 2048 at this; omega⟩)) := by
  rw [after0_6]
  unfold outsAt0
  dsimp only
  frame_out
  canon_tiles x h
  all_goals first
    | exact (decoded_tile (iblk m c 0 t) (iblk m c 1 t) (iblk m c 2 t) (iblk m c 3 t) _ (i := x) (r := y 0) (n := y 1) h0 h1 (by decide) (by decide) :)
    | exact (decoded_tile (iblk m c 0 t) (iblk m c 1 t) (iblk m c 2 t) (iblk m c 3 t) 0 (i := x) (r := y 0) (n := y 1) h0 (h1.trans (Nat.zero_add _).symm) (by decide) (by decide) :)

/-- The codes a grid point leaves packed down the rows. -/
theorem after5 (y : S2048x256.Idx) : (dats m 0 c).after 5 t y
    = byte (codeAt m c t ⟨2 * (y 1).val, by have := (y 1).isLt; change (y 1).val < 256 at this; omega⟩ (y 0))
        (codeAt m c t ⟨2 * (y 1).val + 1, by have := (y 1).isLt; change (y 1).val < 256 at this; omega⟩ (y 0)) := by
  rw [after0_5]
  unfold outsAt0
  dsimp only
  frame_out
  canon_tiles x h
  all_goals first
    | exact (down_tile (iblk m c 0 t) (iblk m c 1 t) (iblk m c 3 t) _ (i := x) (n := y 0) (p := y 1) h0 h1 (by decide) (by decide) :)
    | exact (down_tile (iblk m c 0 t) (iblk m c 1 t) (iblk m c 3 t) 0 (i := x) (n := y 0) (p := y 1) (h0.trans (Nat.zero_add _).symm) h1 (by decide) (by decide) :)

/-- The codes a grid point leaves packed across the columns. -/
theorem after4 (y : S512x1024.Idx) : (dats m 0 c).after 4 t y
    = byte (codeAt m c t (y 0) ⟨2 * (y 1).val, by have := (y 1).isLt; change (y 1).val < 1024 at this; omega⟩)
        (codeAt m c t (y 0) ⟨2 * (y 1).val + 1, by have := (y 1).isLt; change (y 1).val < 1024 at this; omega⟩) := by
  rw [after0_4]
  unfold outsAt0
  dsimp only
  frame_out
  canon_tiles x h
  all_goals first
    | exact (across_tile (iblk m c 0 t) (iblk m c 1 t) (iblk m c 3 t) _ (i := x) (r := y 0) (p := y 1) h0 h1 (by decide) (by decide) :)
    | exact (across_tile (iblk m c 0 t) (iblk m c 1 t) (iblk m c 3 t) 0 (i := x) (r := y 0) (p := y 1) h0 (h1.trans (Nat.zero_add _).symm) (by decide) (by decide) :)

end Cert.Weight

end
-- ==== Proof.WeightArrays.lean ====
/-
  The arrays the ideal kernel `w_quant` ends with: both packings of the codes, and the decoded weights.
-/
module

public import proofs.«01_k».proof.Proof.WeightBlock

@[expose] public section

set_option maxRecDepth 16384

noncomputable section

namespace Cert.Weight

open Cert.WQuantIdeal Cert.WQuantIdeal.Gen Cert.Act Idealize.ShloMosaic Idealize.ShloMosaic.TcCoe Idealize.SL.Sem
open Idealize.ShloMosaic.Pipeline (Dat)

variable (m : (ℓ : Loc nD τ sig) → Buf (Elt Ideal) ℓ) (c : Dev nD)

/-- Which block of each array a grid point holds. -/
theorem idx : ∀ t : Fin cfg0.N, win0_0.index t = ![0] ∧ win0_1.index t = ![t.val, 0] ∧ win0_2.index t = ![t.val, 0]
    ∧ win0_3.index t = ![t.val, 0] ∧ win0_4.index t = ![t.val, 0] ∧ win0_5.index t = ![0, t.val] ∧ win0_6.index t = ![t.val, 0] :=
  (by decide +kernel : ∀ t : Fin grid0.N, _)

/-- There are 43 grid points. -/
theorem point_lt (t : Fin cfg0.N) : t.val < 43 := t.isLt

/-- The tensor scale handed in. -/
def zArg : EReal := (show FVec Ideal S1 .f32 from m ((c : Thread nD τ).loc main_arg0)) (ix1 0)

/-- The weight of row `r` and column `n`. -/
def wArg (r : Fin 22016) (n : Fin 2048) : EReal := (show FVec Ideal S22016x2048 .bf16 from m ((c : Thread nD τ).loc main_arg1)) (ix2 r n)

/-- The block scale of block row `a` and block column `b`. -/
def sArg (a : Fin 1376) (b : Fin 128) : EReal := (show FVec Ideal S1376x128 .fp8e4m3 from m ((c : Thread nD τ).loc main_arg2)) (ix2 a b)

/-- The guarded reciprocal of block row `a` and block column `b`. -/
def qArg (a : Fin 1376) (b : Fin 128) : EReal := (show FVec Ideal S1376x128 .f32 from m ((c : Thread nD τ).loc main_arg3)) (ix2 a b)

/-- The kernel's code of a weight. -/
def codeG (r : Fin 22016) (n : Fin 2048) : BitVec 32 :=
  nibK (valK (zArg m c) (wArg m c r n) (qArg m c ⟨r.val / 16, by omega⟩ ⟨n.val / 16, by omega⟩))

/-! ## What a grid point reads -/

theorem z_read (t : Fin cfg0.N) (y : S1.Idx) : (show FVec Ideal S1 .f32 from iblk m c 0 t) y = zArg m c := by
  have e : (win0_0.blk t).view.emb y = y := by blk_ext [idx t]
  blk_simp [iblk]
  rw [e]
  exact congrArg (show FVec Ideal S1 .f32 from m ((c : Thread nD τ).loc main_arg0)) (funext fun a => by
    match a with
    | ⟨0, _⟩ => exact Fin.ext (by have : (y 0).val < 1 := (y 0).isLt; change (y 0).val = 0; omega))

theorem w_read (t : Fin cfg0.N) (r : Fin 512) (n : Fin 2048) (R : Fin 22016) (hR : R.val = 512 * t.val + r.val) :
    (show FVec Ideal S512x2048 .bf16 from iblk m c 1 t) (ix2 r n) = wArg m c R n := by
  have e : (win0_1.blk t).view.emb (ix2 r n) = ix2 R n := by
    have hlt : t.val * 512 + r.val < 22016 := by have := R.isLt; omega
    obtain rfl : R = ⟨t.val * 512 + r.val, hlt⟩ := Fin.ext (hR.trans (by ring))
    blk_ext [idx t]
  blk_simp [iblk]
  rw [e]
  rfl

theorem s_read (t : Fin cfg0.N) (a : Fin 32) (b : Fin 128) (A : Fin 1376) (hA : A.val = 32 * t.val + a.val) :
    (show FVec Ideal S32x128 .fp8e4m3 from iblk m c 2 t) (ix2 a b) = sArg m c A b := by
  have e : (win0_2.blk t).view.emb (ix2 a b) = ix2 A b := by
    have hlt : t.val * 32 + a.val < 1376 := by have := A.isLt; omega
    obtain rfl : A = ⟨t.val * 32 + a.val, hlt⟩ := Fin.ext (hA.trans (by ring))
    blk_ext [idx t]
  blk_simp [iblk]
  rw [e]
  rfl

theorem q_read (t : Fin cfg0.N) (a : Fin 32) (b : Fin 128) (A : Fin 1376) (hA : A.val = 32 * t.val + a.val) :
    (show FVec Ideal S32x128 .f32 from iblk m c 3 t) (ix2 a b) = qArg m c A b := by
  have e : (win0_3.blk t).view.emb (ix2 a b) = ix2 A b := by
    have hlt : t.val * 32 + a.val < 1376 := by have := A.isLt; omega
    obtain rfl : A = ⟨t.val * 32 + a.val, hlt⟩ := Fin.ext (hA.trans (by ring))
    blk_ext [idx t]
  blk_simp [iblk]
  rw [e]
  rfl

/-- A grid point's code of a weight of its block is the code of the array's weight. -/
theorem code_read (t : Fin cfg0.N) (r : Fin 512) (n : Fin 2048) (R : Fin 22016) (hR : R.val = 512 * t.val + r.val) :
    codeAt m c t r n = codeG m c R n := by
  unfold codeAt codeK codeG
  have e1 := z_read m c t (ix1 0)
  have e2 := w_read m c t r n R hR
  have e3 := q_read m c t ⟨r.val / 16, by omega⟩ ⟨n.val / 16, by omega⟩ ⟨R.val / 16, by omega⟩
    (by change R.val / 16 = 32 * t.val + r.val / 16; omega)
  exact congrArg nibK ((congrArg (fun z : EReal => valK z _ _) e1).trans (congrArg₂ (fun a b : EReal => valK (zArg m c) a b) e2 e3))

/-! ## The final arrays -/

/-- The codes packed along the columns: row `i 0`, byte `i 1`. -/
def packed4 (i : S22016x1024.Idx) : BitVec 8 :=
  byte (codeG m c (i 0) ⟨2 * (i 1).val, by have : (i 1).val < 1024 := (i 1).isLt; omega⟩)
    (codeG m c (i 0) ⟨2 * (i 1).val + 1, by have : (i 1).val < 1024 := (i 1).isLt; omega⟩)

/-- The codes packed along the rows: column `i 0`, byte `i 1`. -/
def packed5 (i : S2048x11008.Idx) : BitVec 8 :=
  byte (codeG m c ⟨2 * (i 1).val, by have : (i 1).val < 11008 := (i 1).isLt; omega⟩ (i 0))
    (codeG m c ⟨2 * (i 1).val + 1, by have : (i 1).val < 11008 := (i 1).isLt; omega⟩ (i 0))

/-- The decoded weights: row `i 0`, column `i 1`. -/
def decoded6 (i : S22016x2048.Idx) : EReal :=
  valueK (codeG m c (i 0) (i 1)) * sArg m c ⟨(i 0).val / 16, by have : (i 0).val < 22016 := (i 0).isLt; omega⟩
    ⟨(i 1).val / 16, by have : (i 1).val < 2048 := (i 1).isLt; omega⟩

/-- A grid point's piece of the codes packed along the columns. -/
theorem piece4 (t : Fin cfg0.N) (y : S512x1024.Idx) (i : S22016x1024.Idx) (h0 : (i 0).val = 512 * t.val + (y 0).val) (h1 : (i 1).val = (y 1).val) :
    (dats m 0 c).after 4 t y = packed4 m c i := by
  refine (after4 m c t y).trans ?_
  have f1 : (y 1).val < 1024 := (y 1).isLt
  have g1 : (⟨2 * (y 1).val, by omega⟩ : Fin 2048) = ⟨2 * (i 1).val, by omega⟩ := Fin.ext (by change 2 * _ = 2 * _; omega)
  have g2 : (⟨2 * (y 1).val + 1, by omega⟩ : Fin 2048) = ⟨2 * (i 1).val + 1, by omega⟩ := Fin.ext (by change 2 * _ + 1 = 2 * _ + 1; omega)
  exact congrArg₂ byte ((code_read m c t (y 0) _ (i 0) h0).trans (congrArg (codeG m c (i 0)) g1))
    ((code_read m c t (y 0) _ (i 0) h0).trans (congrArg (codeG m c (i 0)) g2))

/-- A grid point's piece of the codes packed along the rows. -/
theorem piece5 (t : Fin cfg0.N) (y : S2048x256.Idx) (i : S2048x11008.Idx) (h0 : i 0 = y 0) (h1 : (i 1).val = 256 * t.val + (y 1).val) :
    (dats m 0 c).after 5 t y = packed5 m c i := by
  refine (after5 m c t y).trans ?_
  have f1 : (i 1).val < 11008 := (i 1).isLt
  exact congrArg₂ byte
    ((code_read m c t _ (y 0) ⟨2 * (i 1).val, by omega⟩ (by change 2 * (i 1).val = 512 * t.val + 2 * (y 1).val; omega)).trans (congrArg (codeG m c _) h0.symm))
    ((code_read m c t _ (y 0) ⟨2 * (i 1).val + 1, by omega⟩ (by change 2 * (i 1).val + 1 = 512 * t.val + (2 * (y 1).val + 1); omega)).trans
      (congrArg (codeG m c _) h0.symm))

/-- A grid point's piece of the decoded weights. -/
theorem piece6 (t : Fin cfg0.N) (y : S512x2048.Idx) (i : S22016x2048.Idx) (h0 : (i 0).val = 512 * t.val + (y 0).val) (h1 : i 1 = y 1) :
    (dats m 0 c).after 6 t y = decoded6 m c i := by
  refine (after6 m c t y).trans ?_
  have f0 : (i 0).val < 22016 := (i 0).isLt
  have f1 : (y 1).val < 2048 := (y 1).isLt
  have g : (⟨(y 1).val / 16, by omega⟩ : Fin 128) = ⟨(i 1).val / 16, by have := congrArg Fin.val h1; omega⟩ :=
    Fin.ext (congrArg (fun z => z / 16) (congrArg Fin.val h1).symm)
  exact congrArg₂ (fun a b : EReal => a * b) (congrArg valueK ((code_read m c t (y 0) (y 1) (i 0) h0).trans (congrArg (codeG m c (i 0)) h1.symm)))
    ((s_read m c t _ _ ⟨(i 0).val / 16, by omega⟩ (by change (i 0).val / 16 = 32 * t.val + (y 0).val / 16; omega)).trans (congrArg (sArg m c _) g))

/-- **The kernel's codes packed along the columns.** -/
theorem final4 (i : S22016x1024.Idx) : (dats m 0 c).arrAt 4 cfg0.N i = packed4 m c i := by
  refine congrFun ((dats m 0 c).arrAt_eq_of_covers 4 (packed4 m c) (by decide +kernel) fun t _ y => ?_) i
  blk_simp
  refine piece4 m c t y _ ?_ ?_
  · refine (?_ : _ = t.val * 512 + (y 0).val).trans (by omega)
    blk_ext [idx t]
  · blk_ext [idx t]

/-- **The kernel's codes packed along the rows.** -/
theorem final5 (i : S2048x11008.Idx) : (dats m 0 c).arrAt 5 cfg0.N i = packed5 m c i := by
  refine congrFun ((dats m 0 c).arrAt_eq_of_covers 5 (packed5 m c) (by decide +kernel) fun t _ y => ?_) i
  blk_simp
  refine piece5 m c t y _ ?_ ?_
  · exact Fin.ext (by blk_ext [idx t])
  · refine (?_ : _ = t.val * 256 + (y 1).val).trans (by omega)
    blk_ext [idx t]

/-- **The kernel's decoded weights.** -/
theorem final6 (i : S22016x2048.Idx) : (dats m 0 c).arrAt 6 cfg0.N i = decoded6 m c i := by
  refine congrFun ((dats m 0 c).arrAt_eq_of_covers 6 (decoded6 m c) (by decide +kernel) fun t _ y => ?_) i
  blk_simp
  refine piece6 m c t y _ ?_ ?_
  · refine (?_ : _ = t.val * 512 + (y 0).val).trans (by omega)
    blk_ext [idx t]
  · exact Fin.ext (by blk_ext [idx t])

end Cert.Weight

end
-- ==== Proof.WeightRef.lean ====
/-
  What the reference for `w_quant` computes, element by element.
-/
module

public import proofs.«01_k».proof.Proof.WeightValue
public import proofs.«01_k».proof.Proof.ActRef
public import proofs.«01_k».proof.Proof.Gen.WQuantReferenceIdeal.Value
public import Idealize.ShloMosaic.Lib.Pointwise
public import Idealize.ShloMosaic.Lib.Pipeline.ValueKit

@[expose] public section

set_option maxRecDepth 16384

noncomputable section

namespace Cert.WeightRef

open Cert.WQuantReferenceIdeal Cert.WQuantReferenceIdeal.Gen Cert.Act Cert.Weight Idealize.ShloMosaic Idealize.ShloMosaic.TcCoe Idealize.SL.Sem
open Cert.ActRef (codesR codesR_apply)

/-! ## Blocks of 16 rows and 16 columns -/

section Layout

variable {α : Type}

/-- An array cut into blocks. -/
theorem cut_apply (v : S22016x2048.Idx → α) (r : Fin 22016) (n : Fin 2048) :
    shapeCast S1376x16x128x16 v shapeCasts_S22016x2048_S1376x16x128x16
      (ix4 ⟨r.val / 16, by omega⟩ ⟨r.val % 16, by omega⟩ ⟨n.val / 16, by omega⟩ ⟨n.val % 16, by omega⟩) = v (ix2 r n) := by
  refine shapeCast_apply _ _ _ _ ?_
  refine (Shape.rowMajor_val_two (d := ![22016, 2048]) (ix2 _ _)).trans
      (Eq.trans ?_ (Shape.rowMajor_val_four (d := ![1376, 16, 128, 16]) (ix4 _ _ _ _)).symm)
  change r.val * 2048 + n.val = ((r.val / 16 * 16 + r.val % 16) * 128 + n.val / 16) * 16 + n.val % 16
  omega

/-- Blocks put together. -/
theorem join_apply (v : S1376x16x128x16.Idx → α) (r : Fin 22016) (n : Fin 2048) :
    shapeCast S22016x2048 v shapeCasts_S1376x16x128x16_S22016x2048 (ix2 r n)
      = v (ix4 ⟨r.val / 16, by omega⟩ ⟨r.val % 16, by omega⟩ ⟨n.val / 16, by omega⟩ ⟨n.val % 16, by omega⟩) := by
  refine shapeCast_apply _ _ _ _ ?_
  refine (Shape.rowMajor_val_four (d := ![1376, 16, 128, 16]) (ix4 _ _ _ _)).trans
      (Eq.trans ?_ (Shape.rowMajor_val_two (d := ![22016, 2048]) (ix2 r n)).symm)
  change ((r.val / 16 * 16 + r.val % 16) * 128 + n.val / 16) * 16 + n.val % 16 = r.val * 2048 + n.val
  omega

/-- The blocks' numbers spread over the blocks. -/
theorem spread_apply (v : S1376x128.Idx → α) (a : Fin 1376) (j : Fin 16) (b : Fin 128) (k : Fin 16) :
    broadcastTo S1376x16x128x16 (shapeCast S1376x1x128x1 v shapeCasts_S1376x128_S1376x1x128x1) broadcasts_S1376x1x128x1_S1376x16x128x16 (ix4 a j b k)
      = v (ix2 a b) := by
  refine (broadcastTo_apply _ _ _ (ix4 a 0 b 0) fun a => by fin_cases a <;> rfl).trans (shapeCast_apply _ _ _ _ ?_)
  refine (Shape.rowMajor_val_two (d := ![1376, 128]) (ix2 _ _)).trans
      (Eq.trans ?_ (Shape.rowMajor_val_four (d := ![1376, 1, 128, 1]) (ix4 _ _ _ _)).symm)
  change a.val * 128 + b.val = ((a.val * 1 + 0) * 128 + b.val) * 1 + 0
  omega

end Layout

/-! ## Codes -/

variable (x : FVec Ideal S22016x2048 .bf16) (q : FVec Ideal S1376x128 .f32) (s : FVec Ideal S1376x128 .fp8e4m3)

/-- The scaled weights, as the reference computes them. -/
def scaled : FVec Ideal S1376x16x128x16 .f32 :=
  minimumf (broadcast S1376x16x128x16 (Scalar.ofBits (F := Ideal) .f32 0x40C00000#32))
    (maximumf (broadcast S1376x16x128x16 (Scalar.ofBits (F := Ideal) .f32 0xC0C00000#32))
      (mulf (shapeCast S1376x16x128x16 (extf .f32 x bitsLt_bf16_f32) shapeCasts_S22016x2048_S1376x16x128x16)
        (broadcastTo S1376x16x128x16 (shapeCast S1376x1x128x1 q shapeCasts_S1376x128_S1376x1x128x1) broadcasts_S1376x1x128x1_S1376x16x128x16)))

/-- The reference's code of a weight. -/
def codeR (r : Fin 22016) (n : Fin 2048) : BitVec 32 :=
  nibR (valR (x (ix2 r n)) (q (ix2 ⟨r.val / 16, by omega⟩ ⟨n.val / 16, by omega⟩)))

theorem scaled_apply (r : Fin 22016) (n : Fin 2048) :
    scaled x q (ix4 ⟨r.val / 16, by omega⟩ ⟨r.val % 16, by omega⟩ ⟨n.val / 16, by omega⟩ ⟨n.val % 16, by omega⟩)
      = valR (x (ix2 r n)) (q (ix2 ⟨r.val / 16, by omega⟩ ⟨n.val / 16, by omega⟩)) := by
  refine (congrArg₂ (fun a b : EReal => min a (max b _)) Cert.WScalesRef.six_bits minusSix_bits).trans (congrArg clip ?_)
  exact congrArg₂ (fun a b : EReal => a * b) (cut_apply (extf .f32 x bitsLt_bf16_f32) r n) (spread_apply q _ _ _ _)

/-- The codes, as the reference computes them. -/
def codes : IVec S22016x2048 32 := shapeCast S22016x2048 (codesR (scaled x q)) shapeCasts_S1376x16x128x16_S22016x2048

theorem codes_apply (r : Fin 22016) (n : Fin 2048) : codes x q (ix2 r n) = codeR x q r n :=
  (join_apply _ r n).trans ((codesR_apply _ _).trans (congrArg nibR (scaled_apply x q r n)))

/-! ## Packed codes -/

/-- Neighbouring columns of codes packed in bytes. -/
def packAcross (v : IVec S22016x2048 32) : IVec S22016x1024 8 :=
  trunci 8 (ori
    (shapeCast S22016x1024 (extractStridedSlice S22016x1024x1 ![0, 0, 0] (shapeCast S22016x1024x2 v shapeCasts_S22016x2048_S22016x1024x2) slices_S22016x1024x2_o0_0_0_S22016x1024x1) shapeCasts_S22016x1024x1_S22016x1024)
    (shli (shapeCast S22016x1024 (extractStridedSlice S22016x1024x1 ![0, 0, 1] (shapeCast S22016x1024x2 v shapeCasts_S22016x2048_S22016x1024x2) slices_S22016x1024x2_o0_0_1_S22016x1024x1) shapeCasts_S22016x1024x1_S22016x1024)
      (broadcast S22016x1024 4#32))) natLt_8_32

/-- One of the neighbouring columns. -/
theorem across_apply (v : IVec S22016x2048 32) (b : ℕ) (hb : b < 2) (hs : S22016x1024x2.Slices ![0, 0, b] S22016x1024x1) (r : Fin 22016) (p : Fin 1024) :
    shapeCast S22016x1024 (extractStridedSlice S22016x1024x1 ![0, 0, b] (shapeCast S22016x1024x2 v shapeCasts_S22016x2048_S22016x1024x2) hs)
      shapeCasts_S22016x1024x1_S22016x1024 (ix2 r p) = v (ix2 r ⟨2 * p.val + b, by omega⟩) := by
  refine (shapeCast_apply _ _ _ (ix3 r p 0) ?_).trans ?_
  · refine (Shape.rowMajor_val_three (d := ![22016, 1024, 1]) (ix3 _ _ _)).trans
      (Eq.trans ?_ (Shape.rowMajor_val_two (d := ![22016, 1024]) (ix2 r p)).symm)
    change (r.val * 1024 + p.val) * 1 + 0 = r.val * 1024 + p.val
    omega
  refine (extractStridedSlice_apply _ _ _ _ (ix3 r p ⟨b, hb⟩) fun a => ?_).trans ?_
  · match a with
    | ⟨0, _⟩ => exact (Nat.zero_add _).symm
    | ⟨1, _⟩ => exact (Nat.zero_add _).symm
    | ⟨2, _⟩ => rfl
  refine shapeCast_apply _ _ _ _ ?_
  refine (Shape.rowMajor_val_two (d := ![22016, 2048]) (ix2 _ _)).trans
      (Eq.trans ?_ (Shape.rowMajor_val_three (d := ![22016, 1024, 2]) (ix3 _ _ _)).symm)
  change r.val * 2048 + (2 * p.val + b) = (r.val * 1024 + p.val) * 2 + b
  omega

/-- Neighbouring rows of codes packed in bytes, columns first. -/
def packDown (v : IVec S22016x2048 32) : IVec S2048x11008 8 :=
  trunci 8 (transpose S2048x11008 [1, 0] (ori
    (shapeCast S11008x2048 (extractStridedSlice S11008x1x2048 ![0, 0, 0] (shapeCast S11008x2x2048 v shapeCasts_S22016x2048_S11008x2x2048) slices_S11008x2x2048_o0_0_0_S11008x1x2048) shapeCasts_S11008x1x2048_S11008x2048)
    (shli (shapeCast S11008x2048 (extractStridedSlice S11008x1x2048 ![0, 1, 0] (shapeCast S11008x2x2048 v shapeCasts_S22016x2048_S11008x2x2048) slices_S11008x2x2048_o0_1_0_S11008x1x2048) shapeCasts_S11008x1x2048_S11008x2048)
      (broadcast S11008x2048 4#32))) transposes_S11008x2048_p1_0_S2048x11008) natLt_8_32

/-- A transposed array. -/
theorem turn_apply (v : IVec S11008x2048 32) (n : Fin 2048) (p : Fin 11008) :
    transpose S2048x11008 [1, 0] v transposes_S11008x2048_p1_0_S2048x11008 (ix2 n p) = v (ix2 p n) :=
  transpose_apply _ _ _ _ (ix2 p n) fun a => by fin_cases a <;> rfl

/-- One of the neighbouring rows. -/
theorem down_apply (v : IVec S22016x2048 32) (b : ℕ) (hb : b < 2) (hs : S11008x2x2048.Slices ![0, b, 0] S11008x1x2048) (p : Fin 11008) (n : Fin 2048) :
    shapeCast S11008x2048 (extractStridedSlice S11008x1x2048 ![0, b, 0] (shapeCast S11008x2x2048 v shapeCasts_S22016x2048_S11008x2x2048) hs)
      shapeCasts_S11008x1x2048_S11008x2048 (ix2 p n) = v (ix2 ⟨2 * p.val + b, by omega⟩ n) := by
  refine (shapeCast_apply _ _ _ (ix3 p 0 n) ?_).trans ?_
  · refine (Shape.rowMajor_val_three (d := ![11008, 1, 2048]) (ix3 _ _ _)).trans
      (Eq.trans ?_ (Shape.rowMajor_val_two (d := ![11008, 2048]) (ix2 p n)).symm)
    change (p.val * 1 + 0) * 2048 + n.val = p.val * 2048 + n.val
    omega
  refine (extractStridedSlice_apply _ _ _ _ (ix3 p ⟨b, hb⟩ n) fun a => ?_).trans ?_
  · match a with
    | ⟨0, _⟩ => exact (Nat.zero_add _).symm
    | ⟨1, _⟩ => rfl
    | ⟨2, _⟩ => exact (Nat.zero_add _).symm
  refine shapeCast_apply _ _ _ _ ?_
  refine (Shape.rowMajor_val_two (d := ![22016, 2048]) (ix2 _ _)).trans
      (Eq.trans ?_ (Shape.rowMajor_val_three (d := ![11008, 2, 2048]) (ix3 _ _ _)).symm)
  change (2 * p.val + b) * 2048 + n.val = (p.val * 2 + b) * 2048 + n.val
  omega

/-! ## The stored values -/

/-- The first array stored. -/
def out4 : IVec S22016x1024 8 :=
  k0_pay8 (F := Ideal) (k0_pay2 (F := Ideal) x q) (k0_pay4 (F := Ideal) x q) (k0_pay5 (F := Ideal) x q) (k0_pay6 (F := Ideal) x q)

/-- The second array stored. -/
def out5 : IVec S2048x11008 8 :=
  k0_pay9 (F := Ideal) (k0_pay2 (F := Ideal) x q) (k0_pay4 (F := Ideal) x q) (k0_pay5 (F := Ideal) x q) (k0_pay6 (F := Ideal) x q)

/-- The third array stored. -/
def out6 : FVec Ideal S22016x2048 .bf16 :=
  k0_pay1 (F := Ideal) (k0_pay7 (F := Ideal) (k0_pay2 (F := Ideal) x q) (k0_pay4 (F := Ideal) x q) (k0_pay5 (F := Ideal) x q) (k0_pay6 (F := Ideal) x q))
    (k0_pay10 (F := Ideal) (k0_pay2 (F := Ideal) x q) (k0_pay4 (F := Ideal) x q) (k0_pay5 (F := Ideal) x q) (k0_pay6 (F := Ideal) x q))
    (k0_pay11 (F := Ideal) (k0_pay2 (F := Ideal) x q) (k0_pay4 (F := Ideal) x q) (k0_pay5 (F := Ideal) x q) (k0_pay6 (F := Ideal) x q))
    (k0_pay12 (F := Ideal) (k0_pay2 (F := Ideal) x q) (k0_pay4 (F := Ideal) x q) (k0_pay5 (F := Ideal) x q) (k0_pay6 (F := Ideal) x q)) k0_pay13 s

theorem out4_eq : out4 x q = packAcross (codes x q) := rfl

theorem out5_eq : out5 x q = packDown (codes x q) := rfl

theorem out6_eq : out6 x q s = shapeCast S22016x2048
    (mulf (shapeCast S1376x16x128x16 (truncf .bf16 (valuesR (codes x q)) bitsLt_bf16_f32) shapeCasts_S22016x2048_S1376x16x128x16)
      (broadcastTo S1376x16x128x16 (shapeCast S1376x1x128x1 (extf .bf16 s bitsLt_fp8e4m3_bf16) shapeCasts_S1376x128_S1376x1x128x1) broadcasts_S1376x1x128x1_S1376x16x128x16))
    shapeCasts_S1376x16x128x16_S22016x2048 := rfl

/-- **The codes the reference packs along the columns.** -/
theorem out4_apply (r : Fin 22016) (p : Fin 1024) :
    out4 x q (ix2 r p) = byte (codeR x q r ⟨2 * p.val, by omega⟩) (codeR x q r ⟨2 * p.val + 1, by omega⟩) := by
  rw [out4_eq]
  exact congrArg₂ byte ((across_apply _ 0 (by omega) _ r p).trans (codes_apply x q r _)) ((across_apply _ 1 (by omega) _ r p).trans (codes_apply x q r _))

/-- **The codes the reference packs along the rows.** -/
theorem out5_apply (n : Fin 2048) (p : Fin 11008) :
    out5 x q (ix2 n p) = byte (codeR x q ⟨2 * p.val, by omega⟩ n) (codeR x q ⟨2 * p.val + 1, by omega⟩ n) := by
  rw [out5_eq]
  refine (congrArg (BitVec.setWidth 8) (turn_apply _ n p)).trans ?_
  exact congrArg₂ byte ((down_apply _ 0 (by omega) _ p n).trans (codes_apply x q _ n)) ((down_apply _ 1 (by omega) _ p n).trans (codes_apply x q _ n))

/-- **The weights the reference decodes.** -/
theorem out6_apply (r : Fin 22016) (n : Fin 2048) :
    out6 x q s (ix2 r n) = valueR (codeR x q r n) * (show EReal from s (ix2 ⟨r.val / 16, by omega⟩ ⟨n.val / 16, by omega⟩)) := by
  rw [out6_eq]
  refine (join_apply _ r n).trans ?_
  exact congrArg₂ (fun a b : EReal => a * b)
    ((cut_apply (truncf .bf16 (valuesR (codes x q)) bitsLt_bf16_f32) r n).trans ((valuesR_apply (codes x q) (ix2 r n)).trans (congrArg valueR (codes_apply x q r n))))
    (spread_apply (extf .bf16 s bitsLt_fp8e4m3_bf16) _ _ _ _)

end Cert.WeightRef

end
-- ==== Proof.WeightRefArrays.lean ====
/-
  The arrays the reference for `w_quant` ends with.
-/
module

public import proofs.«01_k».proof.Proof.WeightRef

@[expose] public section

set_option maxRecDepth 16384

noncomputable section

namespace Cert.WeightRef

open Cert.WQuantReferenceIdeal Cert.WQuantReferenceIdeal.Gen Cert.Act Cert.Weight Idealize.ShloMosaic Idealize.ShloMosaic.TcCoe Idealize.SL.Sem
open Idealize.ShloMosaic.Pipeline (Dat)

variable (m : (ℓ : Loc nD τ sig) → Buf (Elt Ideal) ℓ) (c : Dev nD)

/-- Every array is one block. -/
theorem idx : ∀ t : Fin cfg0.N, win0_0.index t = ![0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The weights of the reference's run. -/
abbrev X : FVec Ideal S22016x2048 .bf16 := m ((c : Thread nD τ).loc main_arg1)

/-- The block scales of the reference's run. -/
abbrev S : FVec Ideal S1376x128 .fp8e4m3 := m ((c : Thread nD τ).loc main_arg2)

/-- The guarded reciprocals of the reference's run. -/
abbrev Q : FVec Ideal S1376x128 .f32 := m ((c : Thread nD τ).loc main_arg3)

/-- The weights, as the reference reads them. -/
theorem x_eq (t : Fin cfg0.N) : iblk m c 1 t = X m c := by
  funext y
  have e : (win0_1.blk t).view.emb y = y := by blk_ext [idx t]
  blk_simp [iblk]
  rw [e]

/-- The block scales, as the reference reads them. -/
theorem s_eq (t : Fin cfg0.N) : iblk m c 2 t = S m c := by
  funext y
  have e : (win0_2.blk t).view.emb y = y := by blk_ext [idx t]
  blk_simp [iblk]
  rw [e]

/-- The guarded reciprocals, as the reference reads them. -/
theorem q_eq (t : Fin cfg0.N) : iblk m c 3 t = Q m c := by
  funext y
  have e : (win0_3.blk t).view.emb y = y := by blk_ext [idx t]
  blk_simp [iblk]
  rw [e]

/-- The reference's block of the first result after its one point is the first array stored. -/
theorem out_eq4 (t : Fin cfg0.N) (y : S22016x1024.Idx) : (outsAt0 m c t).1 y = out4 (iblk m c 1 t) (iblk m c 3 t) y := by
  unfold outsAt0
  frame_out
  exact congrArg₂ (fun x q => out4 x q y) (Memref.IsWhole.read_unread _ _) (Memref.IsWhole.read_unread _ _)

@[inherit_doc out_eq4]
theorem out_eq5 (t : Fin cfg0.N) (y : S2048x11008.Idx) : (outsAt0 m c t).2.1 y = out5 (iblk m c 1 t) (iblk m c 3 t) y := by
  unfold outsAt0
  frame_out
  exact congrArg₂ (fun x q => out5 x q y) (Memref.IsWhole.read_unread _ _) (Memref.IsWhole.read_unread _ _)

@[inherit_doc out_eq4]
theorem out_eq6 (t : Fin cfg0.N) (y : S22016x2048.Idx) :
    (outsAt0 m c t).2.2 y = out6 (iblk m c 1 t) (iblk m c 3 t) (iblk m c 2 t) y := by
  unfold outsAt0
  frame_out
  exact congrFun (congr (congrArg₂ out6 (Memref.IsWhole.read_unread _ _) (Memref.IsWhole.read_unread _ _)) (Memref.IsWhole.read_unread _ _)) y

/-- A result array is what its one grid point is held to leave in it. -/
theorem arr4 (D : Dat τ (Elt Ideal) Unit ℕ (UR sig nD τ) ℕ cfg0 c) (v : IVec S22016x1024 8) (h : ∀ t y, D.after 4 t y = v y) :
    D.arrAt 4 cfg0.N = v := by
  refine D.arrAt_eq_of_covers 4 v (by decide +kernel) fun t hf y => ?_
  have e : (win0_4.blk t).view.emb y = y := by blk_ext [idx t]
  blk_simp
  rw [e]
  exact h t y

@[inherit_doc arr4]
theorem arr5 (D : Dat τ (Elt Ideal) Unit ℕ (UR sig nD τ) ℕ cfg0 c) (v : IVec S2048x11008 8) (h : ∀ t y, D.after 5 t y = v y) :
    D.arrAt 5 cfg0.N = v := by
  refine D.arrAt_eq_of_covers 5 v (by decide +kernel) fun t hf y => ?_
  have e : (win0_5.blk t).view.emb y = y := by blk_ext [idx t]
  blk_simp
  rw [e]
  exact h t y

@[inherit_doc arr4]
theorem arr6 (D : Dat τ (Elt Ideal) Unit ℕ (UR sig nD τ) ℕ cfg0 c) (v : FVec Ideal S22016x2048 .bf16) (h : ∀ t y, D.after 6 t y = v y) :
    D.arrAt 6 cfg0.N = v := by
  refine D.arrAt_eq_of_covers 6 v (by decide +kernel) fun t hf y => ?_
  have e : (win0_6.blk t).view.emb y = y := by blk_ext [idx t]
  blk_simp
  rw [e]
  exact h t y

/-- What the one grid point leaves in the results' blocks. -/
theorem after_eq (t : Fin cfg0.N) : (∀ y, (dats m 0 c).after 4 t y = out4 (X m c) (Q m c) y)
    ∧ (∀ y, (dats m 0 c).after 5 t y = out5 (X m c) (Q m c) y)
    ∧ (∀ y, (dats m 0 c).after 6 t y = out6 (X m c) (Q m c) (S m c) y) := by
  have h4 := out_eq4 m c t
  have h5 := out_eq5 m c t
  have h6 := out_eq6 m c t
  rw [x_eq m c t, q_eq m c t] at h4 h5 h6
  rw [s_eq m c t] at h6
  dsimp only [dats]
  exact ⟨h4, h5, h6⟩

/-- **The reference's codes packed along the columns**: row `i 0`, byte `i 1`. -/
theorem final4 (i : S22016x1024.Idx) : (dats m 0 c).arrAt 4 cfg0.N i
    = byte (codeR (X m c) (Q m c) (i 0) ⟨2 * (i 1).val, by have : (i 1).val < 1024 := (i 1).isLt; omega⟩)
        (codeR (X m c) (Q m c) (i 0) ⟨2 * (i 1).val + 1, by have : (i 1).val < 1024 := (i 1).isLt; omega⟩) := by
  rw [arr4 c (dats m 0 c) _ fun t => (after_eq m c t).1]
  exact (congrArg (out4 (X m c) (Q m c)) (eq_ix2 i)).trans (out4_apply (X m c) (Q m c) (i 0) (i 1))

/-- **The reference's codes packed along the rows**: column `i 0`, byte `i 1`. -/
theorem final5 (i : S2048x11008.Idx) : (dats m 0 c).arrAt 5 cfg0.N i
    = byte (codeR (X m c) (Q m c) ⟨2 * (i 1).val, by have : (i 1).val < 11008 := (i 1).isLt; omega⟩ (i 0))
        (codeR (X m c) (Q m c) ⟨2 * (i 1).val + 1, by have : (i 1).val < 11008 := (i 1).isLt; omega⟩ (i 0)) := by
  rw [arr5 c (dats m 0 c) _ fun t => (after_eq m c t).2.1]
  exact (congrArg (out5 (X m c) (Q m c)) (eq_ix2 i)).trans (out5_apply (X m c) (Q m c) (i 0) (i 1))

/-- **The reference's decoded weights**: row `i 0`, column `i 1`. -/
theorem final6 (i : S22016x2048.Idx) : (dats m 0 c).arrAt 6 cfg0.N i
    = valueR (codeR (X m c) (Q m c) (i 0) (i 1)) * (show EReal from S m c (ix2 ⟨(i 0).val / 16, by have : (i 0).val < 22016 := (i 0).isLt; omega⟩
        ⟨(i 1).val / 16, by have : (i 1).val < 2048 := (i 1).isLt; omega⟩)) := by
  rw [arr6 c (dats m 0 c) _ fun t => (after_eq m c t).2.2]
  exact (congrArg (out6 (X m c) (Q m c) (S m c)) (eq_ix2 i)).trans (out6_apply (X m c) (Q m c) (S m c) (i 0) (i 1))

end Cert.WeightRef

end
-- ==== Proof.WeightAgree.lean ====
/-
  The kernel `w_quant` and its reference end with equal results where the tensor scale handed in is not negative.
-/
module

public import proofs.«01_k».proof.Proof.WeightArrays
public import proofs.«01_k».proof.Proof.WeightRefArrays
public import proofs.«01_k».proof.Defs

@[expose] public section

set_option maxRecDepth 16384

noncomputable section

namespace Cert.Weight

open Cert.Act Idealize.ShloMosaic Idealize.ShloMosaic.TcCoe Idealize.SL.Sem

/-- The shape relation the precondition's one reshape states. -/
theorem preFacts : Cert.Pre_scale_not_negative.Facts := ⟨by decide⟩

instance : Cert.Pre_scale_not_negative.Facts := preFacts

variable (m : (ℓ : Loc Cert.WQuantIdeal.nD Cert.WQuantIdeal.τ Cert.WQuantIdeal.sig) → Buf (Elt Ideal) ℓ) (c : Dev Cert.WQuantIdeal.nD)

/-- What the precondition says of the tensor scale. -/
theorem scale_nonneg (h : Cert.Pre_WQuantIdeal_scale_not_negative m) : 0 ≤ zArg m c := by
  have h1 := congrFun (h c) (fun a => a.elim0)
  have e := shapeCast_apply (show FVec Ideal Cert.Pre_scale_not_negative.S1 .f32 from
      m ((c.tc : Thread Cert.WQuantIdeal.nD Cert.WQuantIdeal.τ).loc Cert.WQuantIdeal.main_arg0))
    (Cert.Pre_scale_not_negative.Facts.shapeCasts_S1_S_) (fun a => a.elim0) (ix1 0) rfl
  have h2 : Ideal.cmp .oge (zArg m c) (Ideal.ofBits .f32 0x00000000#32) = 1#1 :=
    (congrArg (fun z : EReal => Ideal.cmp .oge z (Ideal.ofBits .f32 0x00000000#32)) e).symm.trans h1
  rw [Cert.WScales.zero_bits] at h2
  by_contra hn
  simp [Ideal.cmp, hn] at h2

/-- The ideal `w_quant` and its ideal reference, from equal arguments with a tensor scale that is not negative, end with equal results. -/
theorem algebraic : Cert.algebraic_WQuantIdeal_WQuantReferenceIdeal_pre_scale_not_negative := by
  intro m g m' g' hpre hagree
  refine ⟨_, _, _, Cert.WQuantIdeal.Value.run_blocks m g, (θ_run _ _ _).mono (fun r h c => ?_) (Cert.WQuantReferenceIdeal.Value.run_blocks m' g')⟩
  obtain ⟨h0, h1, h2, hargs⟩ := h c
  obtain ⟨a0, a1, a2, a3⟩ := hagree c
  have ec (r : Fin 22016) (n : Fin 2048) :
      Cert.WeightRef.codeR (Cert.WeightRef.X m' c) (Cert.WeightRef.Q m' c) r n = codeG m c r n := by
    refine Eq.trans ?_ (nib_val (zArg m c) (wArg m c r n) _ (scale_nonneg m c hpre)).symm
    exact congrArg₂ (fun x q : EReal => nibR (valR x q)) (congrFun a1 _) (congrFun a3 _)
  refine ⟨h0.trans (funext fun i => ?_), h1.trans (funext fun i => ?_), h2.trans (funext fun i => ?_), hargs⟩
  · exact (Cert.WeightRef.final4 m' c i).trans ((congrArg₂ byte (ec _ _) (ec _ _)).trans (final4 m c i).symm)
  · exact (Cert.WeightRef.final5 m' c i).trans ((congrArg₂ byte (ec _ _) (ec _ _)).trans (final5 m c i).symm)
  · refine (Cert.WeightRef.final6 m' c i).trans (Eq.trans ?_ (final6 m c i).symm)
    exact congrArg₂ (fun a b : EReal => a * b) ((congrArg valueR (ec _ _)).trans (value_eq _).symm) (congrFun a2 _)

end Cert.Weight

end
-- ==== Proof.WeightChain.lean ====
/-
  The calls `w_scales` and `w_quant` one after the other: with the first call's results as arguments of the second, the codes are those
  of the guarded division by the blocks' decoding factors.
-/
module

public import proofs.«01_k».proof.Proof.ScalesAgree
public import proofs.«01_k».proof.Proof.WeightArrays

@[expose] public section

set_option maxRecDepth 16384

noncomputable section

namespace Cert.Weight

open Cert.Act Idealize.ShloMosaic Idealize.ShloMosaic.TcCoe Idealize.SL.Sem

/-- A value divided by the factor `d` where that is positive, clipped to the format's range, in four bits. -/
def codeOf (x d : EReal) : BitVec 32 := nibR (clip (if 0 < d then Ideal.div x (if 0 < d then d else 1) else 0))

/-- Multiplying by the guarded reciprocal is the guarded division. -/
theorem mul_recip (x d : EReal) : x * Cert.WScales.recip d = if 0 < d then Ideal.div x (if 0 < d then d else 1) else 0 := by
  unfold Cert.WScales.recip
  by_cases hd : 0 < d
  · simp only [if_pos hd]
    unfold Ideal.div
    rw [if_neg hd.ne', if_neg hd.ne', one_mul]
  · simp only [if_neg hd, mul_zero]

variable (m : (ℓ : Loc Cert.WQuantIdeal.nD Cert.WQuantIdeal.τ Cert.WQuantIdeal.sig) → Buf (Elt Ideal) ℓ) (c : Dev Cert.WQuantIdeal.nD)
variable (m' : (ℓ : Loc Cert.ScalesIdeal.nD Cert.ScalesIdeal.τ Cert.ScalesIdeal.sig) → Buf (Elt Ideal) ℓ) (c' : Dev Cert.ScalesIdeal.nD)

/-- The largest magnitude that `w_scales` finds is not negative. -/
theorem top_nonneg_scales : 0 ≤ Cert.WScales.top m' c' := by
  have h := (Cert.WScales.top_le m' c' (Cert.WScales.top m' c')).mp le_rfl
  have h0 := h 0 0
  rcases le_total 0 (Cert.WScales.W m' c' (ix2 0 0) : EReal) with hx | hx
  · exact (le_max_of_le_left hx).trans h0
  · exact (le_max_of_le_right (EReal.neg_nonneg.mpr hx)).trans h0

/-- **The two calls in a row**: where `w_quant` is handed the tensor scale, block scales and reciprocals with which `w_scales` ends, that tensor
    scale is not negative, and each weight's code is that of the weight divided by the block scale times the tensor scale. -/
theorem code_chain
    (hz : ∀ i, (show FVec Ideal Cert.WQuantIdeal.S1 .f32 from m ((c : Thread Cert.WQuantIdeal.nD Cert.WQuantIdeal.τ).loc Cert.WQuantIdeal.main_arg0)) i
      = (show FVec Ideal Cert.ScalesIdeal.S1 .f32 from (Cert.ScalesIdeal.Hand.dats m' 0 c').arrAt 3 Cert.ScalesIdeal.cfg0.N) i)
    (hs : ∀ i, (show FVec Ideal Cert.WQuantIdeal.S1376x128 .fp8e4m3 from m ((c : Thread Cert.WQuantIdeal.nD Cert.WQuantIdeal.τ).loc Cert.WQuantIdeal.main_arg2)) i
      = (show FVec Ideal Cert.ScalesIdeal.S1376x128 .fp8e4m3 from (Cert.ScalesIdeal.Hand.dats m' 0 c').arrAt 1 Cert.ScalesIdeal.cfg0.N) i)
    (hq : ∀ i, (show FVec Ideal Cert.WQuantIdeal.S1376x128 .f32 from m ((c : Thread Cert.WQuantIdeal.nD Cert.WQuantIdeal.τ).loc Cert.WQuantIdeal.main_arg3)) i
      = (show FVec Ideal Cert.ScalesIdeal.S1376x128 .f32 from (Cert.ScalesIdeal.Hand.dats m' 0 c').arrAt 2 Cert.ScalesIdeal.cfg0.N) i) :
    0 ≤ zArg m c ∧ ∀ (r : Fin 22016) (n : Fin 2048),
      codeG m c r n = codeOf (wArg m c r n) (sArg m c ⟨r.val / 16, by omega⟩ ⟨n.val / 16, by omega⟩ * zArg m c) := by
  have ez : zArg m c = Cert.WScales.top m' c' * ((1 / 2688 : ℝ) : EReal) := (hz (ix1 0)).trans (Cert.WScales.final3 m' c' (ix1 0))
  have h0 : 0 ≤ zArg m c := ez ▸ mul_nonneg (top_nonneg_scales m' c') (EReal.coe_nonneg.mpr (by norm_num))
  refine ⟨h0, fun r n => ?_⟩
  have es := (hs (ix2 ⟨r.val / 16, by omega⟩ ⟨n.val / 16, by omega⟩)).trans (Cert.WScales.final1 m' c' _)
  have eq := (hq (ix2 ⟨r.val / 16, by omega⟩ ⟨n.val / 16, by omega⟩)).trans (Cert.WScales.final2 m' c' _)
  have e : qArg m c ⟨r.val / 16, by omega⟩ ⟨n.val / 16, by omega⟩
      = Cert.WScales.recip (sArg m c ⟨r.val / 16, by omega⟩ ⟨n.val / 16, by omega⟩ * zArg m c) :=
    eq.trans (congrArg₂ (fun a b : EReal => Cert.WScales.recip (a * b)) es.symm ez.symm)
  refine (nib_val (zArg m c) (wArg m c r n) _ h0).trans (congrArg nibR (congrArg clip ?_))
  rw [e]
  exact mul_recip _ _

end Cert.Weight

end
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Proof.Ref
public import proofs.«01_k».proof.Proof.ScalesFrame
public import proofs.«01_k».proof.Proof.ScalesAgree
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Scales
public import proofs.«01_k».proof.Proof.Gen.Scales.Skeleton
public import proofs.«01_k».proof.Proof.Gen.Scales.Launch
public import proofs.«01_k».proof.Proof.Gen.Scales.Points
public import proofs.«01_k».proof.Proof.Gen.Scales.Frame
public import proofs.«01_k».proof.Proof.Gen.ScalesIdeal
public import proofs.«01_k».proof.Proof.Gen.ScalesIdeal.Skeleton
public import proofs.«01_k».proof.Proof.Gen.ScalesIdeal.Launch
public import proofs.«01_k».proof.Proof.Gen.ScalesIdeal.Points
public import proofs.«01_k».proof.Proof.Gen.ScalesIdeal.Frame
public import proofs.«01_k».proof.Proof.Gen.ScalesReferenceIdeal
public import proofs.«01_k».proof.Proof.Gen.ScalesReferenceIdeal.Skeleton
public import proofs.«01_k».proof.Proof.Gen.ScalesReferenceIdeal.Launch
public import proofs.«01_k».proof.Proof.Gen.ScalesReferenceIdeal.Points
public import proofs.«01_k».proof.Proof.Gen.ScalesReferenceIdeal.Frame
public import proofs.«01_k».proof.Proof.Gen.ScalesReferenceIdeal.Value
public import proofs.«01_k».proof.Proof.Gen.HQuant
public import proofs.«01_k».proof.Proof.Gen.HQuant.Skeleton
public import proofs.«01_k».proof.Proof.Gen.HQuant.Launch
public import proofs.«01_k».proof.Proof.Gen.HQuant.Points
public import proofs.«01_k».proof.Proof.Gen.HQuant.Frame
public import proofs.«01_k».proof.Proof.Gen.HQuantIdeal
public import proofs.«01_k».proof.Proof.Gen.HQuantIdeal.Skeleton
public import proofs.«01_k».proof.Proof.Gen.HQuantIdeal.Launch
public import proofs.«01_k».proof.Proof.Gen.HQuantIdeal.Points
public import proofs.«01_k».proof.Proof.Gen.HQuantIdeal.Frame
public import proofs.«01_k».proof.Proof.Gen.HQuantReferenceIdeal
public import proofs.«01_k».proof.Proof.Gen.HQuantReferenceIdeal.Skeleton
public import proofs.«01_k».proof.Proof.Gen.HQuantReferenceIdeal.Launch
public import proofs.«01_k».proof.Proof.Gen.HQuantReferenceIdeal.Points
public import proofs.«01_k».proof.Proof.Gen.HQuantReferenceIdeal.Frame
public import proofs.«01_k».proof.Proof.Gen.HQuantIdeal.Value
public import proofs.«01_k».proof.Proof.Gen.HQuantReferenceIdeal.Value
public import proofs.«01_k».proof.Proof.Gen.WQuant
public import proofs.«01_k».proof.Proof.Gen.WQuant.Skeleton
public import proofs.«01_k».proof.Proof.Gen.WQuant.Launch
public import proofs.«01_k».proof.Proof.Gen.WQuant.Points
public import proofs.«01_k».proof.Proof.Gen.WQuant.Frame
public import proofs.«01_k».proof.Proof.Gen.WQuantIdeal
public import proofs.«01_k».proof.Proof.Gen.WQuantIdeal.Skeleton
public import proofs.«01_k».proof.Proof.Gen.WQuantIdeal.Launch
public import proofs.«01_k».proof.Proof.Gen.WQuantIdeal.Points
public import proofs.«01_k».proof.Proof.Gen.WQuantIdeal.Frame
public import proofs.«01_k».proof.Proof.Gen.WQuantReferenceIdeal
public import proofs.«01_k».proof.Proof.Gen.WQuantReferenceIdeal.Skeleton
public import proofs.«01_k».proof.Proof.Gen.WQuantReferenceIdeal.Launch
public import proofs.«01_k».proof.Proof.Gen.WQuantReferenceIdeal.Points
public import proofs.«01_k».proof.Proof.Gen.WQuantReferenceIdeal.Frame
public import proofs.«01_k».proof.Proof.Gen.WQuantIdeal.Value
public import proofs.«01_k».proof.Proof.Gen.WQuantReferenceIdeal.Value
public import proofs.«01_k».proof.Proof.ActAgree
public import proofs.«01_k».proof.Proof.WeightAgree
public import proofs.«01_k».proof.Proof.WeightChain
public import Idealize.ShloMosaic.Adequacy
public import Idealize.ShloMosaic.Init

@[expose] public section

set_option maxRecDepth 16384

noncomputable section

namespace Cert.Proof

open Idealize.ShloMosaic Idealize.SL.Sem Cert.Kernel

/-- The ideal kernel and the ideal reference, from equal arguments, end with equal results. -/
theorem algebraic : Cert.algebraic_KernelIdeal_ReferenceIdeal := by
  intro m g m' g' _ hagree
  refine ⟨_, _, _, _, Cert.KernelIdeal.Value.run_blocks m g, (θ_run _ _ _).mono (fun r h c => ?_) (Cert.GateUp.run_ref m' g')⟩
  obtain ⟨h0, h1, h2, h3, hargs⟩ := h c
  obtain ⟨e0, e1, e2⟩ := hagree c
  rw [e0, e1, e2] at h0 h1 h2 h3
  refine ⟨h0.trans (funext fun i => ?_), h1.trans (funext fun i => ?_), h2.trans (funext fun i => ?_),
    h3.trans (funext fun i => ?_), hargs⟩
  · exact (Cert.GateUp.ref0 _ _ _ i).trans (Cert.GateUp.final4 m c i).symm
  · exact (Cert.GateUp.ref1 _ _ _ i).trans (Cert.GateUp.final5 m c i).symm
  · refine (Cert.GateUp.ref2 _ _ _ i).trans (Eq.trans ?_ (Cert.GateUp.final6 m c i).symm)
    rw [Cert.GateUp.top_eq_ref]
  · refine (Cert.GateUp.ref3 _ _ _ i).trans (Eq.trans ?_ (Cert.GateUp.final7 m c i).symm)
    rw [Cert.GateUp.top_eq_ref]

/-- The reference runs, keeps its arguments and leaves every counter at zero. -/
theorem frame_ref : Cert.quiescent_ReferenceIdeal := by
  intro m g _
  exact (θ_run _ _ _).mono (fun r h => ⟨fun c => (h c).2.2.2.2, sem_eq_zero_of_no_sems (by decide) r.2⟩) (Cert.GateUp.run_ref m g)

/-- All claims of this certificate. -/
theorem claim : Cert.Claim := ⟨Cert.Kernel.Gen.facts, Cert.KernelIdeal.Gen.facts, Cert.ReferenceIdeal.Gen.facts,
  Cert.Scales.Gen.facts, Cert.ScalesIdeal.Gen.facts, Cert.ScalesReferenceIdeal.Gen.facts,
  Cert.HQuant.Gen.facts, Cert.HQuantIdeal.Gen.facts, Cert.HQuantReferenceIdeal.Gen.facts,
  Cert.WQuant.Gen.facts, Cert.WQuantIdeal.Gen.facts, Cert.WQuantReferenceIdeal.Gen.facts, Cert.Act.preFacts, Cert.Weight.preFacts,
  fun m ρ _ => Cert.Kernel.Gen.frame m ρ, fun m ρ _ => Cert.KernelIdeal.Gen.frame m ρ, frame_ref,
  fun m ρ _ => Cert.Scales.Hand.frame m ρ, fun m ρ _ => Cert.ScalesIdeal.Hand.frame m ρ,
  fun m ρ _ => Cert.ScalesReferenceIdeal.Gen.frame m ρ,
  fun m ρ _ => Cert.HQuant.Gen.frame m ρ, fun m ρ _ => Cert.HQuantIdeal.Gen.frame m ρ, fun m ρ _ => Cert.HQuantIdeal.Gen.frame m ρ,
  fun m ρ _ => Cert.HQuantReferenceIdeal.Gen.frame m ρ, fun m ρ _ => Cert.HQuantReferenceIdeal.Gen.frame m ρ,
  fun m ρ _ => Cert.WQuant.Gen.frame m ρ, fun m ρ _ => Cert.WQuantIdeal.Gen.frame m ρ, fun m ρ _ => Cert.WQuantIdeal.Gen.frame m ρ,
  fun m ρ _ => Cert.WQuantReferenceIdeal.Gen.frame m ρ, fun m ρ _ => Cert.WQuantReferenceIdeal.Gen.frame m ρ,
  IdealRules.named_const.statement Cert.KernelIdeal.κ "inv_div" .f32 0x39C30C31#32 ((1 / 2688 : ℝ) : EReal) rfl,
  algebraic,
  ⟨IdealRules.named_const.statement Cert.ScalesIdeal.κ "inv_div" .f32 0x39C30C31#32 ((1 / 2688 : ℝ) : EReal) rfl,
    IdealRules.named_const.statement Cert.ScalesIdeal.κ "six_div" .f32 0x3B124925#32 ((1 / 448 : ℝ) : EReal) rfl⟩,
  Cert.WScales.algebraic,
  ⟨IdealRules.named_const.statement Cert.HQuantIdeal.κ "six_div" .f32 0x3B124925#32 ((1 / 448 : ℝ) : EReal) rfl,
    IdealRules.named_const.statement Cert.HQuantIdeal.κ "inv_div" .f32 0x39C30C31#32 ((1 / 2688 : ℝ) : EReal) rfl⟩,
  Cert.Act.algebraic,
  trivial,
  Cert.Weight.algebraic⟩

end Cert.Proof

end
